-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_counts_ok [hPre_counts_ok : Cert.Pre_counts_ok.Facts] (m : (ℓ : Loc Cert.KernelIdeal.nD Cert.KernelIdeal.τ Cert.KernelIdeal.sig) → Buf (Elt Ideal) ℓ) : Prop :=
  ∀ c : Dev Cert.KernelIdeal.nD,
    (Cert.Pre_counts_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counts_ok [hPre_counts_ok : Cert.Pre_counts_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_counts_ok [hKernelIdeal : Cert.KernelIdeal.Facts] [hPre_counts_ok : Cert.Pre_counts_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_counts_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_counts_ok [hReferenceIdeal : Cert.ReferenceIdeal.Facts] [hPre_counts_ok : Cert.Pre_counts_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def preserves_Kernel_KernelIdeal : Prop :=
  True

def algebraic_KernelIdeal_ReferenceIdeal_on_in_segment_pre_counts_ok [hKernelIdeal : Cert.KernelIdeal.Facts] [hReferenceIdeal : Cert.ReferenceIdeal.Facts] [hPre_counts_ok : Cert.Pre_counts_ok.Facts] [hOn_in_segment : Cert.On_in_segment.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_counts_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![26496, 2048]⟩ : Shape).Idx, (Cert.On_in_segment.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.KernelIdeal.nD Cert.KernelIdeal.τ).loc Cert.KernelIdeal.main_v49) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![26496, 2048]⟩ : Shape).Idx, (Cert.On_in_segment.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.ReferenceIdeal.nD Cert.ReferenceIdeal.τ).loc Cert.ReferenceIdeal.main_v33) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v19) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_v20) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_counts_ok : Cert.Pre_counts_ok.Facts) (hOn_in_segment : Cert.On_in_segment.Facts),
    quiescent_Kernel (hKernel := hKernel)
    ∧ quiescent_KernelIdeal (hKernelIdeal := hKernelIdeal)
    ∧ quiescent_KernelIdeal_pre_counts_ok (hKernelIdeal := hKernelIdeal) (hPre_counts_ok := hPre_counts_ok)
    ∧ quiescent_ReferenceIdeal (hReferenceIdeal := hReferenceIdeal)
    ∧ quiescent_ReferenceIdeal_pre_counts_ok (hReferenceIdeal := hReferenceIdeal) (hPre_counts_ok := hPre_counts_ok)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_on_in_segment_pre_counts_ok (hKernelIdeal := hKernelIdeal) (hReferenceIdeal := hReferenceIdeal) (hPre_counts_ok := hPre_counts_ok) (hOn_in_segment := hOn_in_segment)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== On_in_segment.lean ====
abbrev S26496x2048 : Shape := ⟨2, ![26496, 2048]⟩
abbrev S1x8x2048x7168 : Shape := ⟨4, ![1, 8, 2048, 7168]⟩
abbrev S1x8x7168x2048 : Shape := ⟨4, ![1, 8, 7168, 2048]⟩
abbrev S8 : Shape := ⟨1, ![8]⟩
abbrev S_ : Shape := ⟨0, ![]⟩
abbrev S26496x8 : Shape := ⟨2, ![26496, 8]⟩
abbrev S1x8 : Shape := ⟨2, ![1, 8]⟩
abbrev S26496 : Shape := ⟨1, ![26496]⟩
abbrev S26496x1 : Shape := ⟨2, ![26496, 1]⟩

class Facts : Prop where
  bcast_S_S8 : S_.BroadcastsInDim S8 (![] : Fin 0 → Fin S8.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  bcast_S8_S1x8_1 : S8.BroadcastsInDim S1x8 (![1] : Fin 1 → Fin S1x8.rank)
  bcast_S1x8_S26496x8_0_1 : S1x8.BroadcastsInDim S26496x8 (![0, 1] : Fin 2 → Fin S26496x8.rank)
  reducesTo_S26496x8_S26496_d1 : S26496x8.ReducesTo [1] S26496
  bcast_S26496_S26496x1_0 : S26496.BroadcastsInDim S26496x1 (![0] : Fin 1 → Fin S26496x1.rank)
  bcast_S26496x1_S26496x2048_0_1 : S26496x1.BroadcastsInDim S26496x2048 (![0, 1] : Fin 2 → Fin S26496x2048.rank)

variable [Facts]

def fn_where {F : FTy → Type} [FloatOps F] (arg0 : IVec S8 1) (arg1 : IVec S8 32) (arg2 : IVec S8 32) : IVec S8 32 :=
  let v0 : IVec S8 32 := select arg0 arg1 arg2
  v0

def fn_floor_divide {F : FTy → Type} [FloatOps F] (arg0 : IVec S8 32) (arg1 : IVec S_ 32) : IVec S8 32 :=
  let v0 : IVec S_ 32 := id arg1
  let v1 : IVec S8 32 := broadcastInDim S8 ![] bcast_S_S8 v0
  let v2 : IVec S8 32 := Host.divsi arg0 v1
  let v3 : IVec S8 32 := signi arg0
  let v4 : IVec S_ 32 := signi v0
  let v5 : IVec S8 32 := broadcastInDim S8 ![] bcast_S_S8 v4
  let v6 : IVec S8 1 := cmpi .ne v3 v5
  let v7 : IVec S8 32 := broadcastInDim S8 ![] bcast_S_S8 v0
  let v8 : IVec S8 32 := Host.remsi arg0 v7
  let c : IVec S_ 32 := constantI S_ 32 0#32
  let v9 : IVec S8 32 := broadcastInDim S8 ![] bcast_S_S8 c
  let v10 : IVec S8 1 := cmpi .ne v8 v9
  let v11 : IVec S8 1 := andi v6 v10
  let c_0 : IVec S_ 32 := constantI S_ 32 1#32
  let v12 : IVec S8 32 := broadcastInDim S8 ![] bcast_S_S8 c_0
  let v13 : IVec S8 32 := subi v2 v12
  let v14 : IVec S8 32 := fn_where (F := F) v11 v13 v2
  v14

def fn_cumsum_0 {F : FTy → Type} [FloatOps F] (arg0 : IVec S8 32) : IVec S8 32 :=
  let c : IVec S_ 32 := constantI S_ 32 0#32
  let v0 : IVec S_ 32 := broadcastInDim S_ ![] bcast_S_S_ c
  let v1 : IVec S8 32 := (fun x v => Host.reduceWindow IntOp.addi ![8] ![1] ![7] ![0] x v reduceWindows_S8_S8_w8s1p7_0 h_S_) arg0 v0
  v1

def fn_cumsum {F : FTy → Type} [FloatOps F] (arg0 : IVec S8 32) : IVec S8 32 :=
  let v0 : IVec S8 32 := fn_cumsum_0 (F := F) arg0
  v0

def fn {F : FTy → Type} [FloatOps F] (main_arg0 : FVec F S26496x2048 .bf16) (main_arg1 : FVec F S1x8x2048x7168 .f32) (main_arg2 : FVec F S1x8x2048x7168 .f32) (main_arg3 : FVec F S1x8x7168x2048 .f32) (main_arg4 : IVec S8 32) : IVec S26496x2048 1 :=
  let main_c : IVec S_ 32 := constantI S_ 32 1151#32
  let main_v0 : IVec S8 32 := broadcastInDim S8 ![] bcast_S_S8 main_c
  let main_v1 : IVec S8 32 := addi main_arg4 main_v0
  let main_c_0 : IVec S_ 32 := constantI S_ 32 1152#32
  let main_v2 : IVec S8 32 := fn_floor_divide (F := F) main_v1 main_c_0
  let main_v3 : IVec S8 32 := fn_cumsum (F := F) main_v2
  let main_v4 : IVec S8 32 := subi main_v3 main_v2
  let main_c_1 : IVec S_ 32 := constantI S_ 32 1152#32
  let main_v5 : IVec S8 32 := broadcastInDim S8 ![] bcast_S_S8 main_c_1
  let main_v6 : IVec S8 32 := muli main_v4 main_v5
  let main_v7 : IVec S26496x8 32 := iotaInDim S26496x8 32 0
  let main_v8 : IVec S1x8 32 := broadcastInDim S1x8 ![1] bcast_S8_S1x8_1 main_v6
  let main_v9 : IVec S26496x8 32 := broadcastInDim S26496x8 ![0, 1] bcast_S1x8_S26496x8_0_1 main_v8
  let main_v10 : IVec S26496x8 1 := cmpi .sge main_v7 main_v9
  let main_v11 : IVec S8 32 := addi main_v6 main_arg4
  let main_v12 : IVec S1x8 32 := broadcastInDim S1x8 ![1] bcast_S8_S1x8_1 main_v11
  let main_v13 : IVec S26496x8 32 := broadcastInDim S26496x8 ![0, 1] bcast_S1x8_S26496x8_0_1 main_v12
  let main_v14 : IVec S26496x8 1 := cmpi .slt main_v7 main_v13
  let main_v15 : IVec S26496x8 1 := andi main_v10 main_v14
  let main_c_2 : IVec S_ 1 := constantI S_ 1 0#1
  let main_v16 : IVec S26496 1 := (fun x v => Host.reduce IntOp.ori x v reducesTo_S26496x8_S26496_d1 h_S_) main_v15 main_c_2
  let main_v17 : IVec S26496x1 1 := broadcastInDim S26496x1 ![0] bcast_S26496_S26496x1_0 main_v16
  let main_v18 : IVec S26496x2048 1 := broadcastInDim S26496x2048 ![0, 1] bcast_S26496x1_S26496x2048_0_1 main_v17
  main_v18
-- ==== Pre_counts_ok.lean ====
abbrev S26496x2048 : Shape := ⟨2, ![26496, 2048]⟩
abbrev S1x8x2048x7168 : Shape := ⟨4, ![1, 8, 2048, 7168]⟩
abbrev S1x8x7168x2048 : Shape := ⟨4, ![1, 8, 7168, 2048]⟩
abbrev S8 : Shape := ⟨1, ![8]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S26496x2048 .bf16) (main_arg1 : FVec F S1x8x2048x7168 .f32) (main_arg2 : FVec F S1x8x2048x7168 .f32) (main_arg3 : FVec F S1x8x7168x2048 .f32) (main_arg4 : IVec S8 32) : IVec S_ 1 :=
  let main_c : IVec S_ 32 := constantI S_ 32 0#32
  let main_v0 : IVec S8 32 := broadcastInDim S8 ![] bcast_S_S8 main_c
  let main_v1 : IVec S8 1 := cmpi .sge main_arg4 main_v0
  let main_c_0 : IVec S_ 32 := constantI S_ 32 16640#32
  let main_v2 : IVec S8 32 := broadcastInDim S8 ![] bcast_S_S8 main_c_0
  let main_v3 : IVec S8 1 := cmpi .sle main_arg4 main_v2
  let main_v4 : IVec S8 1 := andi main_v1 main_v3
  let main_c_1 : IVec S_ 1 := constantI S_ 1 1#1
  let main_v5 : IVec S_ 1 := (fun x v => Host.reduce IntOp.andi x v reducesTo_S8_S_d0 h_S_) main_v4 main_c_1
  main_v5
-- ==== Kernel.lean ====
abbrev S26496x2048 : Shape := ⟨2, ![26496, 2048]⟩
abbrev S1x8x2048x7168 : Shape := ⟨4, ![1, 8, 2048, 7168]⟩
abbrev S1x8x7168x2048 : Shape := ⟨4, ![1, 8, 7168, 2048]⟩
abbrev S8 : Shape := ⟨1, ![8]⟩
abbrev S_ : Shape := ⟨0, ![]⟩
abbrev S1 : Shape := ⟨1, ![1]⟩
abbrev S23 : Shape := ⟨1, ![23]⟩
abbrev S1x8 : Shape := ⟨2, ![1, 8]⟩
abbrev S23x1 : Shape := ⟨2, ![23, 1]⟩
abbrev S23x8 : Shape := ⟨2, ![23, 8]⟩
abbrev S8x2048x7168 : Shape := ⟨3, ![8, 2048, 7168]⟩
abbrev S8x7168x2048 : Shape := ⟨3, ![8, 7168, 2048]⟩
abbrev S1152x2048 : Shape := ⟨2, ![1152, 2048]⟩
abbrev S1x2048x256 : Shape := ⟨3, ![1, 2048, 256]⟩
abbrev S1x256x2048 : Shape := ⟨3, ![1, 256, 2048]⟩
abbrev S2048x256 : Shape := ⟨2, ![2048, 256]⟩
abbrev S256x2048 : Shape := ⟨2, ![256, 2048]⟩
abbrev S1152x256 : Shape := ⟨2, ![1152, 256]⟩
abbrev S384x2048 : Shape := ⟨2, ![384, 2048]⟩
abbrev S384x256 : Shape := ⟨2, ![384, 256]⟩

abbrev nBuf : Space → Nat
  | .hbm => 98
  | .vmem => 13
  | .smem => 3
  | _ => 0

abbrev bufTy : (tb : Table) → Fin (tcTables nBuf tb) → BufTy
  | .hbm, ⟨0, _⟩ => ⟨S26496x2048, .bf16⟩
  | .hbm, ⟨1, _⟩ => ⟨S1x8x2048x7168, .f32⟩
  | .hbm, ⟨2, _⟩ => ⟨S1x8x2048x7168, .f32⟩
  | .hbm, ⟨3, _⟩ => ⟨S1x8x7168x2048, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i1⟩
  | .hbm, ⟨19, _⟩ => ⟨S8, .i32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S8, .i1⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .i32⟩
  | .hbm, ⟨29, _⟩ => ⟨S_, .i32⟩
  | .hbm, ⟨30, _⟩ => ⟨S_, .i32⟩
  | .hbm, ⟨31, _⟩ => ⟨S8, .i32⟩
  | .hbm, ⟨32, _⟩ => ⟨S8, .i32⟩
  | .hbm, ⟨33, _⟩ => ⟨S1, .i32⟩
  | .hbm, ⟨34, _⟩ => ⟨S_, .i32⟩
  | .hbm, ⟨35, _⟩ => ⟨S23, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S23, .i32⟩
  | .hbm, ⟨43, _⟩ => ⟨S23, .i32⟩
  | .hbm, ⟨44, _⟩ => ⟨S23, .i32⟩
  | .hbm, ⟨45, _⟩ => ⟨S1x8, .i32⟩
  | .hbm, ⟨46, _⟩ => ⟨S23x1, .i32⟩
  | .hbm, ⟨47, _⟩ => ⟨S23x8, .i32⟩
  | .hbm, ⟨48, _⟩ => ⟨S23x8, .i32⟩
  | .hbm, ⟨49, _⟩ => ⟨S23x8, .i1⟩
  | .hbm, ⟨50, _⟩ => ⟨S23x8, .i32⟩
  | .hbm, ⟨51, _⟩ => ⟨S_, .i32⟩
  | .hbm, ⟨52, _⟩ => ⟨S23, .i32⟩
  | .hbm, ⟨53, _⟩ => ⟨S_, .i32⟩
  | .hbm, ⟨54, _⟩ => ⟨S23, .i32⟩
  | .hbm, ⟨55, _⟩ => ⟨S23, .i32⟩
  | .hbm, ⟨56, _⟩ => ⟨S23, .i32⟩
  | .hbm, ⟨57, _⟩ => ⟨S23, .i1⟩
  | .hbm, ⟨58, _⟩ => ⟨S_, .i32⟩
  | .hbm, ⟨59, _⟩ => ⟨S23, .i32⟩
  | .hbm, ⟨60, _⟩ => ⟨S23, .i1⟩
  | .hbm, ⟨61, _⟩ => ⟨S_, .i32⟩
  | .hbm, ⟨62, _⟩ => ⟨S23, .i32⟩
  | .hbm, ⟨63, _⟩ => ⟨S23, .i32⟩
  | .hbm, ⟨64, _⟩ => ⟨S23, .i32⟩
  | .hbm, ⟨65, _⟩ => ⟨S23x1, .i32⟩
  | .hbm, ⟨66, _⟩ => ⟨S23, .i32⟩
  | .hbm, ⟨67, _⟩ => ⟨S_, .i32⟩
  | .hbm, ⟨68, _⟩ => ⟨S23, .i32⟩
  | .hbm, ⟨69, _⟩ => ⟨S23, .i1⟩
  | .hbm, ⟨70, _⟩ => ⟨S_, .i32⟩
  | .hbm, ⟨71, _⟩ => ⟨S23, .i32⟩
  | .hbm, ⟨72, _⟩ => ⟨S23, .i32⟩
  | .hbm, ⟨73, _⟩ => ⟨S23, .i32⟩
  | .hbm, ⟨74, _⟩ => ⟨S23x1, .i32⟩
  | .hbm, ⟨75, _⟩ => ⟨S23, .i32⟩
  | .hbm, ⟨76, _⟩ => ⟨S23, .i32⟩
  | .hbm, ⟨77, _⟩ => ⟨S_, .i32⟩
  | .hbm, ⟨78, _⟩ => ⟨S23, .i32⟩
  | .hbm, ⟨79, _⟩ => ⟨S23, .i32⟩
  | .hbm, ⟨80, _⟩ => ⟨S23, .i32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S23, .i32⟩
  | .hbm, ⟨85, _⟩ => ⟨S23, .i32⟩
  | .hbm, ⟨86, _⟩ => ⟨S_, .i32⟩
  | .hbm, ⟨87, _⟩ => ⟨S23, .i32⟩
  | .hbm, ⟨88, _⟩ => ⟨S23, .i32⟩
  | .hbm, ⟨89, _⟩ => ⟨S_, .i32⟩
  | .hbm, ⟨90, _⟩ => ⟨S_, .i32⟩
  | .hbm, ⟨91, _⟩ => ⟨S23, .i32⟩
  | .hbm, ⟨92, _⟩ => ⟨S8x2048x7168, .f32⟩
  | .hbm, ⟨93, _⟩ => ⟨S8x2048x7168, .f32⟩
  | .hbm, ⟨94, _⟩ => ⟨S8x7168x2048, .f32⟩
  | .hbm, ⟨95, _⟩ => ⟨S_, .i32⟩
  | .hbm, ⟨96, _⟩ => ⟨S23, .i32⟩
  | .hbm, ⟨97, _⟩ => ⟨S26496x2048, .f32⟩
  | .local _ .vmem, ⟨0, _⟩ => ⟨S1152x2048, .bf16⟩
  | .local _ .vmem, ⟨1, _⟩ => ⟨S1152x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1152x2048, .f32⟩
  | .local _ .vmem, ⟨9, _⟩ => ⟨S1152x2048, .f32⟩
  | .local _ .vmem, ⟨10, _⟩ => ⟨S2048x256, .bf16⟩
  | .local _ .vmem, ⟨11, _⟩ => ⟨S2048x256, .bf16⟩
  | .local _ .vmem, ⟨12, _⟩ => ⟨S256x2048, .bf16⟩
  | .local _ .smem, ⟨0, _⟩ => ⟨S23, .i32⟩
  | .local _ .smem, ⟨1, _⟩ => ⟨S23, .i32⟩
  | .local _ .smem, ⟨2, _⟩ => ⟨S23, .i32⟩
  | _, _ => ⟨S26496x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_call1_call0_c : Ref sig .tc := ⟨.hbm, 29, rfl⟩
abbrev main_call1_call0_v0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_c_2 : Ref sig .tc := ⟨.hbm, 36, rfl⟩
abbrev main_v10 : Ref sig .tc := ⟨.hbm, 37, rfl⟩
abbrev main_c_3 : Ref sig .tc := ⟨.hbm, 38, rfl⟩
abbrev main_v11 : Ref sig .tc := ⟨.hbm, 39, rfl⟩
abbrev main_c_4 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_c_5 : Ref sig .tc := ⟨.hbm, 51, rfl⟩
abbrev main_v19 : Ref sig .tc := ⟨.hbm, 52, rfl⟩
abbrev main_c_6 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_c_7 : Ref sig .tc := ⟨.hbm, 58, rfl⟩
abbrev main_v24 : Ref sig .tc := ⟨.hbm, 59, rfl⟩
abbrev main_v25 : Ref sig .tc := ⟨.hbm, 60, rfl⟩
abbrev main_c_8 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_c_9 : Ref sig .tc := ⟨.hbm, 67, rfl⟩
abbrev main_v31 : Ref sig .tc := ⟨.hbm, 68, rfl⟩
abbrev main_v32 : Ref sig .tc := ⟨.hbm, 69, rfl⟩
abbrev main_c_10 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_c_11 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_c_12 : Ref sig .tc := ⟨.hbm, 81, rfl⟩
abbrev main_c_13 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_v42 : Ref sig .tc := ⟨.hbm, 88, rfl⟩
abbrev main_c_14 : Ref sig .tc := ⟨.hbm, 89, rfl⟩
abbrev main_call4_v0 : Ref sig .tc := ⟨.hbm, 90, rfl⟩
abbrev main_call4_v1 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_c_15 : Ref sig .tc := ⟨.hbm, 95, rfl⟩
abbrev main_v47 : Ref sig .tc := ⟨.hbm, 96, rfl⟩
abbrev main_v49 : Ref sig .tc := ⟨.hbm, 97, rfl⟩
abbrev main_v48 : Ref sig .tc := ⟨.smem, 0, rfl⟩
abbrev main_v43 : Ref sig .tc := ⟨.smem, 1, rfl⟩
abbrev main_v12 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![23, 28], ![false, false]⟩

abbrev pre0 : Pipeline.Prefetch sig := ⟨3, ![main_v48.idx, main_v43.idx, main_v12.idx], fun | 0 => main_v48.names | 1 => main_v43.names | 2 => main_v12.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c768_i32 : BitVec 32 := 768#32
  let v5 : BitVec 1 := Scalar.cmpi .sgt v1 c768_i32
  let v6 : BitVec 32 := Scalar.extui v5
  let c0_i32_1 : BitVec 32 := 0#32
  let v7 : BitVec 1 := Scalar.cmpi .ne v6 c0_i32_1
  v7

def k0_cond3 (v1 : BitVec 32) : BitVec 1 :=
  let c0_i32_2 : BitVec 32 := 0#32
  let v8 : BitVec 1 := Scalar.cmpi .sgt v1 c0_i32_2
  let c768_i32 : BitVec 32 := 768#32
  let v5 : BitVec 1 := Scalar.cmpi .sgt v1 c768_i32
  let v_true : BitVec 1 := 1#1
  let v9 : BitVec 1 := Scalar.xori v5 v_true
  let v10 : BitVec 1 := Scalar.andi v8 v9
  let v11 : BitVec 32 := Scalar.extui v10
  let c0_i32_3 : BitVec 32 := 0#32
  let v12 : BitVec 1 := Scalar.cmpi .ne v11 c0_i32_3
  v12

def k0_cond4 (v1 : BitVec 32) : BitVec 1 :=
  let c384_i32 : BitVec 32 := 384#32
  let v13 : BitVec 1 := Scalar.cmpi .sgt v1 c384_i32
  let c768_i32 : BitVec 32 := 768#32
  let v5 : BitVec 1 := Scalar.cmpi .sgt v1 c768_i32
  let true_4 : BitVec 1 := 1#1
  let v14 : BitVec 1 := Scalar.xori v5 true_4
  let v15 : BitVec 1 := Scalar.andi v13 v14
  let v16 : BitVec 32 := Scalar.extui v15
  let c0_i32_5 : BitVec 32 := 0#32
  let v17 : BitVec 1 := Scalar.cmpi .ne v16 c0_i32_5
  v17

def cc0_transform_0 (k0_off1_inb : ∀ i : grid0.Coords, ∀ a, (k0_off1 i) a + S1.size a ≤ S23.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S23) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S23.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S23) ![v0.toNat] S1.size (k0_off1_inb i)) numel1_S1
  let v2 : Index := Scalar.indexCast arg0
  let v3 : BitVec 32 := pf.at 1 (Rect.unit (s := S23) ![v2.toNat] S1.size (k0_off1_inb i)) numel1_S1
  let c0_i32 : BitVec 32 := 0#32
  let v4 : BitVec 1 := Scalar.cmpi .sgt v3 c0_i32
  let c27_i32 : BitVec 32 := 27#32
  let v5 : BitVec 32 := Scalar.select v4 arg1 c27_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S23.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S23) ![v0.toNat] S1.size (k0_off1_inb i)) numel1_S1
  let v2 : Index := Scalar.indexCast arg0
  let v3 : BitVec 32 := pf.at 1 (Rect.unit (s := S23) ![v2.toNat] S1.size (k0_off1_inb i)) numel1_S1
  let c0_i32 : BitVec 32 := 0#32
  let v4 : BitVec 1 := Scalar.cmpi .sgt v3 c0_i32
  let c27_i32 : BitVec 32 := 27#32
  let v5 : BitVec 32 := Scalar.select v4 arg1 c27_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S23.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S23) ![v0.toNat] S1.size (k0_off1_inb i)) numel1_S1
  let v2 : Index := Scalar.indexCast arg0
  let v3 : BitVec 32 := pf.at 1 (Rect.unit (s := S23) ![v2.toNat] S1.size (k0_off1_inb i)) numel1_S1
  let c0_i32 : BitVec 32 := 0#32
  let v4 : BitVec 1 := Scalar.cmpi .sgt v3 c0_i32
  let c27_i32 : BitVec 32 := 27#32
  let v5 : BitVec 32 := Scalar.select v4 arg1 c27_i32
  let c0_i32_0 : BitVec 32 := 0#32
  let c0_i32_1 : BitVec 32 := 0#32
  ![v1.toNat, v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1152x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S26496x2048 : Shape := ⟨2, ![26496, 2048]⟩
abbrev S1x8x2048x7168 : Shape := ⟨4, ![1, 8, 2048, 7168]⟩
abbrev S1x8x7168x2048 : Shape := ⟨4, ![1, 8, 7168, 2048]⟩
abbrev S8 : Shape := ⟨1, ![8]⟩
abbrev S_ : Shape := ⟨0, ![]⟩
abbrev S26496x8 : Shape := ⟨2, ![26496, 8]⟩
abbrev S1x8 : Shape := ⟨2, ![1, 8]⟩
abbrev S8x2048x7168 : Shape := ⟨3, ![8, 2048, 7168]⟩
abbrev S8x7168x26496 : Shape := ⟨3, ![8, 7168, 26496]⟩
abbrev S8x26496x7168 : Shape := ⟨3, ![8, 26496, 7168]⟩
abbrev S8x7168x2048 : Shape := ⟨3, ![8, 7168, 2048]⟩
abbrev S8x26496x2048 : Shape := ⟨3, ![8, 26496, 2048]⟩
abbrev S8x26496 : Shape := ⟨2, ![8, 26496]⟩
abbrev S8x26496x1 : Shape := ⟨3, ![8, 26496, 1]⟩

abbrev nBuf : Space → Nat
  | .hbm => 73
  | .vmem => 0
  | .smem => 0
  | _ => 0

abbrev bufTy : (tb : Table) → Fin (tcTables nBuf tb) → BufTy
  | .hbm, ⟨0, _⟩ => ⟨S26496x2048, .bf16⟩
  | .hbm, ⟨1, _⟩ => ⟨S1x8x2048x7168, .f32⟩
  | .hbm, ⟨2, _⟩ => ⟨S1x8x2048x7168, .f32⟩
  | .hbm, ⟨3, _⟩ => ⟨S1x8x7168x2048, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S8, .i32⟩
  | .hbm, ⟨13, _⟩ => ⟨S_, .i32⟩
  | .hbm, ⟨14, _⟩ => ⟨S8, .i32⟩
  | .hbm, ⟨15, _⟩ => ⟨S8, .i1⟩
  | .hbm, ⟨16, _⟩ => ⟨S8, .i32⟩
  | .hbm, ⟨17, _⟩ => ⟨S8, .i32⟩
  | .hbm, ⟨18, _⟩ => ⟨S_, .i32⟩
  | .hbm, ⟨19, _⟩ => ⟨S8, .i32⟩
  | .hbm, ⟨20, _⟩ => ⟨S8, .i1⟩
  | .hbm, ⟨21, _⟩ => ⟨S8, .i1⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S8, .i32⟩
  | .hbm, ⟨26, _⟩ => ⟨S_, .i32⟩
  | .hbm, ⟨27, _⟩ => ⟨S_, .i32⟩
  | .hbm, ⟨28, _⟩ => ⟨S8, .i32⟩
  | .hbm, ⟨29, _⟩ => ⟨S8, .i32⟩
  | .hbm, ⟨30, _⟩ => ⟨S_, .i32⟩
  | .hbm, ⟨31, _⟩ => ⟨S8, .i32⟩
  | .hbm, ⟨32, _⟩ => ⟨S8, .i32⟩
  | .hbm, ⟨33, _⟩ => ⟨S26496x8, .i32⟩
  | .hbm, ⟨34, _⟩ => ⟨S1x8, .i32⟩
  | .hbm, ⟨35, _⟩ => ⟨S26496x8, .i32⟩
  | .hbm, ⟨36, _⟩ => ⟨S26496x8, .i1⟩
  | .hbm, ⟨37, _⟩ => ⟨S8, .i32⟩
  | .hbm, ⟨38, _⟩ => ⟨S1x8, .i32⟩
  | .hbm, ⟨39, _⟩ => ⟨S26496x8, .i32⟩
  | .hbm, ⟨40, _⟩ => ⟨S26496x8, .i1⟩
  | .hbm, ⟨41, _⟩ => ⟨S26496x8, .i1⟩
  | .hbm, ⟨42, _⟩ => ⟨S_, .f32⟩
  | .hbm, ⟨43, _⟩ => ⟨S_, .f32⟩
  | .hbm, ⟨44, _⟩ => ⟨S26496x8, .f32⟩
  | .hbm, ⟨45, _⟩ => ⟨S26496x8, .f32⟩
  | .hbm, ⟨46, _⟩ => ⟨S26496x8, .f32⟩
  | .hbm, ⟨47, _⟩ => ⟨S26496x8, .f32⟩
  | .hbm, ⟨48, _⟩ => ⟨S26496x2048, .f32⟩
  | .hbm, ⟨49, _⟩ => ⟨S8x2048x7168, .f32⟩
  | .hbm, ⟨50, _⟩ => ⟨S8x7168x26496, .f32⟩
  | .hbm, ⟨51, _⟩ => ⟨S8x26496x7168, .f32⟩
  | .hbm, ⟨52, _⟩ => ⟨S8x2048x7168, .f32⟩
  | .hbm, ⟨53, _⟩ => ⟨S8x7168x26496, .f32⟩
  | .hbm, ⟨54, _⟩ => ⟨S8x26496x7168, .f32⟩
  | .hbm, ⟨55, _⟩ => ⟨S8x26496x7168, .f32⟩
  | .hbm, ⟨56, _⟩ => ⟨S8x26496x7168, .f32⟩
  | .hbm, ⟨57, _⟩ => ⟨S_, .f32⟩
  | .hbm, ⟨58, _⟩ => ⟨S8x26496x7168, .f32⟩
  | .hbm, ⟨59, _⟩ => ⟨S8x26496x7168, .f32⟩
  | .hbm, ⟨60, _⟩ => ⟨S_, .f32⟩
  | .hbm, ⟨61, _⟩ => ⟨S8x26496x7168, .f32⟩
  | .hbm, ⟨62, _⟩ => ⟨S8x26496x7168, .f32⟩
  | .hbm, ⟨63, _⟩ => ⟨S8x26496x7168, .f32⟩
  | .hbm, ⟨64, _⟩ => ⟨S8x26496x7168, .f32⟩
  | .hbm, ⟨65, _⟩ => ⟨S8x7168x2048, .f32⟩
  | .hbm, ⟨66, _⟩ => ⟨S8x26496x2048, .f32⟩
  | .hbm, ⟨67, _⟩ => ⟨S8x26496, .f32⟩
  | .hbm, ⟨68, _⟩ => ⟨S8x26496x1, .f32⟩
  | .hbm, ⟨69, _⟩ => ⟨S8x26496x2048, .f32⟩
  | .hbm, ⟨70, _⟩ => ⟨S8x26496x2048, .f32⟩
  | .hbm, ⟨71, _⟩ => ⟨S_, .f32⟩
  | .hbm, ⟨72, _⟩ => ⟨S26496x2048, .f32⟩
  | _, _ => ⟨S26496x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_call1_call0_c : Ref sig .tc := ⟨.hbm, 26, rfl⟩
abbrev main_call1_call0_v0 : Ref sig .tc := ⟨.hbm, 27, rfl⟩
abbrev main_v3 : Ref sig .tc := ⟨.hbm, 28, rfl⟩
abbrev main_v4 : Ref sig .tc := ⟨.hbm, 29, rfl⟩
abbrev main_c_1 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst : Ref sig .tc := ⟨.hbm, 42, rfl⟩
abbrev main_cst_2 : Ref sig .tc := ⟨.hbm, 43, rfl⟩
abbrev main_call2_v0 : Ref sig .tc := ⟨.hbm, 44, rfl⟩
abbrev main_call2_v1 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_call3_v0 : Ref sig .tc := ⟨.hbm, 55, rfl⟩
abbrev main_call3_v1 : Ref sig .tc := ⟨.hbm, 56, rfl⟩
abbrev main_call3_cst : Ref sig .tc := ⟨.hbm, 57, rfl⟩
abbrev main_call3_v2 : Ref sig .tc := ⟨.hbm, 58, rfl⟩
abbrev main_call3_v3 : Ref sig .tc := ⟨.hbm, 59, rfl⟩
abbrev main_call3_cst_0 : Ref sig .tc := ⟨.hbm, 60, rfl⟩
abbrev main_call3_v4 : Ref sig .tc := ⟨.hbm, 61, rfl⟩
abbrev main_call3_v5 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_3 : Ref sig .tc := ⟨.hbm, 71, rfl⟩
abbrev main_v33 : Ref sig .tc := ⟨.hbm, 72, rfl⟩

abbrev nD : Nat := 1
abbrev τ : Topo := Topo.v7x

variable {F : FTy → Type} [FloatOps F]
-- ==== Kernel2.lean ====
abbrev S8320x2048 : Shape := ⟨2, ![8320, 2048]⟩
abbrev S1x2048x7168 : Shape := ⟨3, ![1, 2048, 7168]⟩
abbrev S1x7168x2048 : Shape := ⟨3, ![1, 7168, 2048]⟩
abbrev S1040x2048 : Shape := ⟨2, ![1040, 2048]⟩
abbrev S1x2048x256 : Shape := ⟨3, ![1, 2048, 256]⟩
abbrev S1x256x2048 : Shape := ⟨3, ![1, 256, 2048]⟩
abbrev S2048x256 : Shape := ⟨2, ![2048, 256]⟩
abbrev S1040x256 : Shape := ⟨2, ![1040, 256]⟩
abbrev S256x2048 : Shape := ⟨2, ![256, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8320x2048, .bf16⟩
  | .hbm, ⟨1, _⟩ => ⟨S1x2048x7168, .f32⟩
  | .hbm, ⟨2, _⟩ => ⟨S1x2048x7168, .f32⟩
  | .hbm, ⟨3, _⟩ => ⟨S1x7168x2048, .f32⟩
  | .hbm, ⟨4, _⟩ => ⟨S8320x2048, .f32⟩
  | .local _ .vmem, ⟨0, _⟩ => ⟨S1040x2048, .bf16⟩
  | .local _ .vmem, ⟨1, _⟩ => ⟨S1040x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S1040x2048, .f32⟩
  | .local _ .vmem, ⟨9, _⟩ => ⟨S1040x2048, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 28], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1040x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S8320x2048 : Shape := ⟨2, ![8320, 2048]⟩
abbrev S1x2048x7168 : Shape := ⟨3, ![1, 2048, 7168]⟩
abbrev S1x7168x2048 : Shape := ⟨3, ![1, 7168, 2048]⟩
abbrev S2048x7168 : Shape := ⟨2, ![2048, 7168]⟩
abbrev S8320x7168 : Shape := ⟨2, ![8320, 7168]⟩
abbrev S_ : Shape := ⟨0, ![]⟩
abbrev S7168x2048 : Shape := ⟨2, ![7168, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S1x2048x7168, .f32⟩
  | .hbm, ⟨2, _⟩ => ⟨S1x2048x7168, .f32⟩
  | .hbm, ⟨3, _⟩ => ⟨S1x7168x2048, .f32⟩
  | .hbm, ⟨4, _⟩ => ⟨S8320x2048, .f32⟩
  | .hbm, ⟨5, _⟩ => ⟨S2048x7168, .f32⟩
  | .hbm, ⟨6, _⟩ => ⟨S8320x7168, .f32⟩
  | .hbm, ⟨7, _⟩ => ⟨S8320x7168, .f32⟩
  | .hbm, ⟨8, _⟩ => ⟨S8320x7168, .f32⟩
  | .hbm, ⟨9, _⟩ => ⟨S_, .f32⟩
  | .hbm, ⟨10, _⟩ => ⟨S8320x7168, .f32⟩
  | .hbm, ⟨11, _⟩ => ⟨S8320x7168, .f32⟩
  | .hbm, ⟨12, _⟩ => ⟨S_, .f32⟩
  | .hbm, ⟨13, _⟩ => ⟨S8320x7168, .f32⟩
  | .hbm, ⟨14, _⟩ => ⟨S8320x7168, .f32⟩
  | .hbm, ⟨15, _⟩ => ⟨S8320x7168, .f32⟩
  | .hbm, ⟨16, _⟩ => ⟨S2048x7168, .f32⟩
  | .hbm, ⟨17, _⟩ => ⟨S8320x7168, .f32⟩
  | .hbm, ⟨18, _⟩ => ⟨S8320x7168, .f32⟩
  | .hbm, ⟨19, _⟩ => ⟨S7168x2048, .f32⟩
  | .hbm, ⟨20, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== Kernel3.lean ====
abbrev S8320x2048 : Shape := ⟨2, ![8320, 2048]⟩
abbrev S2x2048x16416 : Shape := ⟨3, ![2, 2048, 16416]⟩
abbrev S2x16416x2048 : Shape := ⟨3, ![2, 16416, 2048]⟩
abbrev S8320x8192 : Shape := ⟨2, ![8320, 8192]⟩
abbrev S2080x2048 : Shape := ⟨2, ![2080, 2048]⟩
abbrev S1x512x2048 : Shape := ⟨3, ![1, 512, 2048]⟩
abbrev S2080x512 : Shape := ⟨2, ![2080, 512]⟩
abbrev S512x2048 : Shape := ⟨2, ![512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2x2048x16416, .f32⟩
  | .hbm, ⟨2, _⟩ => ⟨S2x16416x2048, .f32⟩
  | .hbm, ⟨3, _⟩ => ⟨S8320x8192, .f32⟩
  | .local _ .vmem, ⟨0, _⟩ => ⟨S2080x2048, .bf16⟩
  | .local _ .vmem, ⟨1, _⟩ => ⟨S2080x2048, .bf16⟩
  | .local _ .vmem, ⟨2, _⟩ => ⟨S1x512x2048, .f32⟩
  | .local _ .vmem, ⟨3, _⟩ => ⟨S1x512x2048, .f32⟩
  | .local _ .vmem, ⟨4, _⟩ => ⟨S2080x512, .f32⟩
  | .local _ .vmem, ⟨5, _⟩ => ⟨S2080x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi c0_i32 v0
  let v2 : BitVec 32 := v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2080x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2080x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8320x2048 : Shape := ⟨2, ![8320, 2048]⟩
abbrev S2x2048x16416 : Shape := ⟨3, ![2, 2048, 16416]⟩
abbrev S1x2048x16416 : Shape := ⟨3, ![1, 2048, 16416]⟩
abbrev S2048x16416 : Shape := ⟨2, ![2048, 16416]⟩
abbrev S8320x16416 : Shape := ⟨2, ![8320, 16416]⟩
abbrev S8320x8192 : Shape := ⟨2, ![8320, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2x2048x16416, .f32⟩
  | .hbm, ⟨2, _⟩ => ⟨S8320x2048, .f32⟩
  | .hbm, ⟨3, _⟩ => ⟨S1x2048x16416, .f32⟩
  | .hbm, ⟨4, _⟩ => ⟨S2048x16416, .f32⟩
  | .hbm, ⟨5, _⟩ => ⟨S8320x16416, .f32⟩
  | .hbm, ⟨6, _⟩ => ⟨S8320x8192, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S8320x2048 : Shape := ⟨2, ![8320, 2048]⟩
abbrev S2x2048x16416 : Shape := ⟨3, ![2, 2048, 16416]⟩
abbrev S2x16416x2048 : Shape := ⟨3, ![2, 16416, 2048]⟩
abbrev S8320x8192 : Shape := ⟨2, ![8320, 8192]⟩
abbrev S2080x2048 : Shape := ⟨2, ![2080, 2048]⟩
abbrev S1x512x2048 : Shape := ⟨3, ![1, 512, 2048]⟩
abbrev S2080x512 : Shape := ⟨2, ![2080, 512]⟩
abbrev S512x2048 : Shape := ⟨2, ![512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8320x2048, .bf16⟩
  | .hbm, ⟨1, _⟩ => ⟨S2x2048x16416, .f32⟩
  | .hbm, ⟨2, _⟩ => ⟨S2x16416x2048, .f32⟩
  | .hbm, ⟨3, _⟩ => ⟨S8320x8192, .bf16⟩
  | .local _ .vmem, ⟨0, _⟩ => ⟨S2080x2048, .bf16⟩
  | .local _ .vmem, ⟨1, _⟩ => ⟨S2080x2048, .bf16⟩
  | .local _ .vmem, ⟨2, _⟩ => ⟨S1x512x2048, .f32⟩
  | .local _ .vmem, ⟨3, _⟩ => ⟨S1x512x2048, .f32⟩
  | .local _ .vmem, ⟨4, _⟩ => ⟨S2080x512, .bf16⟩
  | .local _ .vmem, ⟨5, _⟩ => ⟨S2080x512, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c8224_i32 : BitVec 32 := 8224#32
  let arg1 : BitVec 32 := BitVec.ofNat 32 (i 1).val
  let c512_i32 : BitVec 32 := 512#32
  let v0 : BitVec 32 := Scalar.muli arg1 c512_i32
  let v1 : BitVec 32 := Scalar.addi c8224_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c8224_i32 : BitVec 32 := 8224#32
  let v1 : BitVec 32 := Scalar.addi c8224_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2080x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2080x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8320x2048 : Shape := ⟨2, ![8320, 2048]⟩
abbrev S2x2048x16416 : Shape := ⟨3, ![2, 2048, 16416]⟩
abbrev S1x2048x16416 : Shape := ⟨3, ![1, 2048, 16416]⟩
abbrev S2048x16416 : Shape := ⟨2, ![2048, 16416]⟩
abbrev S8320x16416 : Shape := ⟨2, ![8320, 16416]⟩
abbrev S8320x8192 : Shape := ⟨2, ![8320, 8192]⟩

abbrev nBuf : Space → Nat
  | .hbm => 8
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2x2048x16416, .f32⟩
  | .hbm, ⟨2, _⟩ => ⟨S8320x2048, .f32⟩
  | .hbm, ⟨3, _⟩ => ⟨S1x2048x16416, .f32⟩
  | .hbm, ⟨4, _⟩ => ⟨S2048x16416, .f32⟩
  | .hbm, ⟨5, _⟩ => ⟨S8320x16416, .f32⟩
  | .hbm, ⟨6, _⟩ => ⟨S8320x8192, .f32⟩
  | .hbm, ⟨7, _⟩ => ⟨S8320x8192, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel5.lean ====
abbrev S2x4160x2048 : Shape := ⟨3, ![2, 4160, 2048]⟩
abbrev S2048 : Shape := ⟨1, ![2048]⟩
abbrev S1x2048 : Shape := ⟨2, ![1, 2048]⟩
abbrev S2x4096x2048 : Shape := ⟨3, ![2, 4096, 2048]⟩
abbrev S1x512x2048 : Shape := ⟨3, ![1, 512, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S2x4160x2048, .f32⟩
  | .hbm, ⟨1, _⟩ => ⟨S2x4160x2048, .f32⟩
  | .hbm, ⟨2, _⟩ => ⟨S2048, .f32⟩
  | .hbm, ⟨3, _⟩ => ⟨S1x2048, .f32⟩
  | .hbm, ⟨4, _⟩ => ⟨S2x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x2048, .f32⟩
  | .local _ .vmem, ⟨5, _⟩ => ⟨S1x512x2048, .f32⟩
  | .local _ .vmem, ⟨6, _⟩ => ⟨S1x512x2048, .f32⟩
  | _, _ => ⟨S2x4160x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let c64_i32 : BitVec 32 := 64#32
  let arg1 : BitVec 32 := BitVec.ofNat 32 (i 1).val
  let c512_i32 : BitVec 32 := 512#32
  let v0 : BitVec 32 := Scalar.muli arg1 c512_i32
  let v1 : BitVec 32 := Scalar.addi c64_i32 v0
  v1
def k0_mult2 (i : grid0.Coords) : BitVec 32 :=
  let c64_i32 : BitVec 32 := 64#32
  let arg1 : BitVec 32 := BitVec.ofNat 32 (i 1).val
  let c512_i32 : BitVec 32 := 512#32
  let v0 : BitVec 32 := Scalar.muli arg1 c512_i32
  let v1 : BitVec 32 := Scalar.addi c64_i32 v0
  v1
def cc0_transform_0 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c64_i32 : BitVec 32 := 64#32
  let v1 : BitVec 32 := Scalar.addi c64_i32 v0
  let v2 : BitVec 32 := v1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c64_i32 : BitVec 32 := 64#32
  let v1 : BitVec 32 := Scalar.addi c64_i32 v0
  let v2 : BitVec 32 := v1
  let c0_i32 : BitVec 32 := 0#32
  let c0_i32_0 : BitVec 32 := 0#32
  ![arg0.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S2x4160x2048 : Shape := ⟨3, ![2, 4160, 2048]⟩
abbrev S2048 : Shape := ⟨1, ![2048]⟩
abbrev S_ : Shape := ⟨0, ![]⟩
abbrev S2x4160 : Shape := ⟨2, ![2, 4160]⟩
abbrev S2x4160x1 : Shape := ⟨3, ![2, 4160, 1]⟩
abbrev S1x1x2048 : Shape := ⟨3, ![1, 1, 2048]⟩
abbrev S2x4096x2048 : Shape := ⟨3, ![2, 4096, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2x4160x2048, .f32⟩
  | .hbm, ⟨1, _⟩ => ⟨S2x4160x2048, .f32⟩
  | .hbm, ⟨2, _⟩ => ⟨S2048, .f32⟩
  | .hbm, ⟨3, _⟩ => ⟨S2x4160x2048, .f32⟩
  | .hbm, ⟨4, _⟩ => ⟨S2x4160x2048, .f32⟩
  | .hbm, ⟨5, _⟩ => ⟨S_, .f32⟩
  | .hbm, ⟨6, _⟩ => ⟨S2x4160, .f32⟩
  | .hbm, ⟨7, _⟩ => ⟨S2x4160x1, .f32⟩
  | .hbm, ⟨8, _⟩ => ⟨S_, .f32⟩
  | .hbm, ⟨9, _⟩ => ⟨S2x4160x1, .f32⟩
  | .hbm, ⟨10, _⟩ => ⟨S2x4160x1, .f32⟩
  | .hbm, ⟨11, _⟩ => ⟨S_, .f32⟩
  | .hbm, ⟨12, _⟩ => ⟨S2x4160x1, .f32⟩
  | .hbm, ⟨13, _⟩ => ⟨S2x4160x1, .f32⟩
  | .hbm, ⟨14, _⟩ => ⟨S2x4160x1, .f32⟩
  | .hbm, ⟨15, _⟩ => ⟨S2x4160x2048, .f32⟩
  | .hbm, ⟨16, _⟩ => ⟨S2x4160x2048, .f32⟩
  | .hbm, ⟨17, _⟩ => ⟨S1x1x2048, .f32⟩
  | .hbm, ⟨18, _⟩ => ⟨S2x4160x2048, .f32⟩
  | .hbm, ⟨19, _⟩ => ⟨S2x4160x2048, .f32⟩
  | .hbm, ⟨20, _⟩ => ⟨S2x4096x2048, .f32⟩
  | _, _ => ⟨S2x4160x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel6.lean ====
abbrev S8320x2048 : Shape := ⟨2, ![8320, 2048]⟩
abbrev S2x2048x2048 : Shape := ⟨3, ![2, 2048, 2048]⟩
abbrev S8320x8192 : Shape := ⟨2, ![8320, 8192]⟩
abbrev S1040x2048 : Shape := ⟨2, ![1040, 2048]⟩
abbrev S1x2048x512 : Shape := ⟨3, ![1, 2048, 512]⟩
abbrev S1040x512 : Shape := ⟨2, ![1040, 512]⟩
abbrev S2048x512 : Shape := ⟨2, ![2048, 512]⟩

abbrev nBuf : Space → Nat
  | .hbm => 6
  | .vmem => 14
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S2x2048x2048, .f32⟩
  | .hbm, ⟨3, _⟩ => ⟨S2x2048x2048, .f32⟩
  | .hbm, ⟨4, _⟩ => ⟨S8320x8192, .bf16⟩
  | .hbm, ⟨5, _⟩ => ⟨S8320x2048, .bf16⟩
  | .local _ .vmem, ⟨0, _⟩ => ⟨S1040x2048, .bf16⟩
  | .local _ .vmem, ⟨1, _⟩ => ⟨S1040x2048, .bf16⟩
  | .local _ .vmem, ⟨2, _⟩ => ⟨S1040x2048, .bf16⟩
  | .local _ .vmem, ⟨3, _⟩ => ⟨S1040x2048, .bf16⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1040x512, .bf16⟩
  | .local _ .vmem, ⟨9, _⟩ => ⟨S1040x512, .bf16⟩
  | .local _ .vmem, ⟨10, _⟩ => ⟨S1040x512, .bf16⟩
  | .local _ .vmem, ⟨11, _⟩ => ⟨S1040x512, .bf16⟩
  | .local _ .vmem, ⟨12, _⟩ => ⟨S1040x512, .bf16⟩
  | .local _ .vmem, ⟨13, _⟩ => ⟨S1040x512, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1040x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1040x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1040x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1040x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S8320x2048 : Shape := ⟨2, ![8320, 2048]⟩
abbrev S2x2048x2048 : Shape := ⟨3, ![2, 2048, 2048]⟩
abbrev S8320x8192 : Shape := ⟨2, ![8320, 8192]⟩
abbrev S8320x4096 : Shape := ⟨2, ![8320, 4096]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S8320x2048, .bf16⟩
  | .hbm, ⟨2, _⟩ => ⟨S2x2048x2048, .f32⟩
  | .hbm, ⟨3, _⟩ => ⟨S2x2048x2048, .f32⟩
  | .hbm, ⟨4, _⟩ => ⟨S8320x8192, .bf16⟩
  | .hbm, ⟨5, _⟩ => ⟨S8320x8192, .f32⟩
  | .hbm, ⟨6, _⟩ => ⟨S8320x4096, .f32⟩
  | .hbm, ⟨7, _⟩ => ⟨S8320x4096, .f32⟩
  | .hbm, ⟨8, _⟩ => ⟨S8320x4096, .f32⟩
  | .hbm, ⟨9, _⟩ => ⟨S_, .f32⟩
  | .hbm, ⟨10, _⟩ => ⟨S8320x4096, .f32⟩
  | .hbm, ⟨11, _⟩ => ⟨S8320x4096, .f32⟩
  | .hbm, ⟨12, _⟩ => ⟨S_, .f32⟩
  | .hbm, ⟨13, _⟩ => ⟨S8320x4096, .f32⟩
  | .hbm, ⟨14, _⟩ => ⟨S8320x4096, .f32⟩
  | .hbm, ⟨15, _⟩ => ⟨S8320x2048, .f32⟩
  | .hbm, ⟨16, _⟩ => ⟨S8320x2048, .f32⟩
  | .hbm, ⟨17, _⟩ => ⟨S1x2048x2048, .f32⟩
  | .hbm, ⟨18, _⟩ => ⟨S2048x2048, .f32⟩
  | .hbm, ⟨19, _⟩ => ⟨S8320x2048, .f32⟩
  | .hbm, ⟨20, _⟩ => ⟨S8320x2048, .f32⟩
  | .hbm, ⟨21, _⟩ => ⟨S8320x2048, .f32⟩
  | .hbm, ⟨22, _⟩ => ⟨S8320x2048, .f32⟩
  | .hbm, ⟨23, _⟩ => ⟨S1x2048x2048, .f32⟩
  | .hbm, ⟨24, _⟩ => ⟨S2048x2048, .f32⟩
  | .hbm, ⟨25, _⟩ => ⟨S8320x2048, .f32⟩
  | .hbm, ⟨26, _⟩ => ⟨S8320x2048, .f32⟩
  | .hbm, ⟨27, _⟩ => ⟨S8320x2048, .f32⟩
  | .hbm, ⟨28, _⟩ => ⟨S8320x2048, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel7.lean ====
abbrev S8320x2048 : Shape := ⟨2, ![8320, 2048]⟩
abbrev S2x2048x2048 : Shape := ⟨3, ![2, 2048, 2048]⟩
abbrev S2080x2048 : Shape := ⟨2, ![2080, 2048]⟩
abbrev S1x2048x512 : Shape := ⟨3, ![1, 2048, 512]⟩
abbrev S2080x512 : Shape := ⟨2, ![2080, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S8320x2048, .bf16⟩
  | .hbm, ⟨1, _⟩ => ⟨S2x2048x2048, .f32⟩
  | .hbm, ⟨2, _⟩ => ⟨S8320x2048, .f32⟩
  | .hbm, ⟨3, _⟩ => ⟨S8320x2048, .f32⟩
  | .local _ .vmem, ⟨0, _⟩ => ⟨S2080x2048, .bf16⟩
  | .local _ .vmem, ⟨1, _⟩ => ⟨S2080x2048, .bf16⟩
  | .local _ .vmem, ⟨2, _⟩ => ⟨S1x2048x512, .f32⟩
  | .local _ .vmem, ⟨3, _⟩ => ⟨S1x2048x512, .f32⟩
  | .local _ .vmem, ⟨4, _⟩ => ⟨S2080x512, .f32⟩
  | .local _ .vmem, ⟨5, _⟩ => ⟨S2080x512, .f32⟩
  | .local _ .vmem, ⟨6, _⟩ => ⟨S2080x512, .f32⟩
  | .local _ .vmem, ⟨7, _⟩ => ⟨S2080x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2080x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2080x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2080x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8320x2048 : Shape := ⟨2, ![8320, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2x2048x2048, .f32⟩
  | .hbm, ⟨2, _⟩ => ⟨S8320x2048, .f32⟩
  | .hbm, ⟨3, _⟩ => ⟨S8320x2048, .f32⟩
  | .hbm, ⟨4, _⟩ => ⟨S1x2048x2048, .f32⟩
  | .hbm, ⟨5, _⟩ => ⟨S2048x2048, .f32⟩
  | .hbm, ⟨6, _⟩ => ⟨S8320x2048, .f32⟩
  | .hbm, ⟨7, _⟩ => ⟨S8320x2048, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8320x2048 : Shape := ⟨2, ![8320, 2048]⟩
abbrev S2x2048x16416 : Shape := ⟨3, ![2, 2048, 16416]⟩
abbrev S2x16416x2048 : Shape := ⟨3, ![2, 16416, 2048]⟩
abbrev S8320x128 : Shape := ⟨2, ![8320, 128]⟩
abbrev S2080x2048 : Shape := ⟨2, ![2080, 2048]⟩
abbrev S1x128x2048 : Shape := ⟨3, ![1, 128, 2048]⟩
abbrev S2080x128 : Shape := ⟨2, ![2080, 128]⟩
abbrev S128x2048 : Shape := ⟨2, ![128, 2048]⟩

abbrev nBuf : Space → Nat
  | .hbm => 4
  | .vmem => 5
  | .smem => 0
  | _ => 0

abbrev bufTy : (tb : Table) → Fin (tcTables nBuf tb) → BufTy
  | .hbm, ⟨0, _⟩ => ⟨S8320x2048, .bf16⟩
  | .hbm, ⟨1, _⟩ => ⟨S2x2048x16416, .f32⟩
  | .hbm, ⟨2, _⟩ => ⟨S2x16416x2048, .f32⟩
  | .hbm, ⟨3, _⟩ => ⟨S8320x128, .f32⟩
  | .local _ .vmem, ⟨0, _⟩ => ⟨S2080x2048, .bf16⟩
  | .local _ .vmem, ⟨1, _⟩ => ⟨S2080x2048, .bf16⟩
  | .local _ .vmem, ⟨2, _⟩ => ⟨S1x128x2048, .f32⟩
  | .local _ .vmem, ⟨3, _⟩ => ⟨S2080x128, .f32⟩
  | .local _ .vmem, ⟨4, _⟩ => ⟨S2080x128, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def k0_mult1 (i : grid0.Coords) : BitVec 32 :=
  let c8192_i32 : BitVec 32 := 8192#32
  let arg1 : BitVec 32 := BitVec.ofNat 32 (i 1).val
  let c128_i32 : BitVec 32 := 128#32
  let v0 : BitVec 32 := Scalar.muli arg1 c128_i32
  let v1 : BitVec 32 := Scalar.addi c8192_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c8192_i32 : BitVec 32 := 8192#32
  let v1 : BitVec 32 := Scalar.addi c8192_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2080x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2080x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8320x2048 : Shape := ⟨2, ![8320, 2048]⟩
abbrev S2x2048x16416 : Shape := ⟨3, ![2, 2048, 16416]⟩
abbrev S1x2048x16416 : Shape := ⟨3, ![1, 2048, 16416]⟩
abbrev S2048x16416 : Shape := ⟨2, ![2048, 16416]⟩
abbrev S8320x16416 : Shape := ⟨2, ![8320, 16416]⟩
abbrev S8320x128 : Shape := ⟨2, ![8320, 128]⟩

abbrev nBuf : Space → Nat
  | .hbm => 7
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S2x2048x16416, .f32⟩
  | .hbm, ⟨2, _⟩ => ⟨S8320x2048, .f32⟩
  | .hbm, ⟨3, _⟩ => ⟨S1x2048x16416, .f32⟩
  | .hbm, ⟨4, _⟩ => ⟨S2048x16416, .f32⟩
  | .hbm, ⟨5, _⟩ => ⟨S8320x16416, .f32⟩
  | .hbm, ⟨6, _⟩ => ⟨S8320x128, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S8320x2048 : Shape := ⟨2, ![8320, 2048]⟩
abbrev S2048 : Shape := ⟨1, ![2048]⟩
abbrev S1x2048 : Shape := ⟨2, ![1, 2048]⟩
abbrev S520x2048 : Shape := ⟨2, ![520, 2048]⟩
abbrev S520 : Shape := ⟨1, ![520]⟩
abbrev S520x1 : Shape := ⟨2, ![520, 1]⟩

abbrev nBuf : Space → Nat
  | .hbm => 4
  | .vmem => 5
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S1x2048, .f32⟩
  | .hbm, ⟨3, _⟩ => ⟨S8320x2048, .bf16⟩
  | .local _ .vmem, ⟨0, _⟩ => ⟨S520x2048, .f32⟩
  | .local _ .vmem, ⟨1, _⟩ => ⟨S520x2048, .f32⟩
  | .local _ .vmem, ⟨2, _⟩ => ⟨S1x2048, .f32⟩
  | .local _ .vmem, ⟨3, _⟩ => ⟨S520x2048, .bf16⟩
  | .local _ .vmem, ⟨4, _⟩ => ⟨S520x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S520x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S520x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8320x2048 : Shape := ⟨2, ![8320, 2048]⟩
abbrev S2048 : Shape := ⟨1, ![2048]⟩
abbrev S_ : Shape := ⟨0, ![]⟩
abbrev S8320 : Shape := ⟨1, ![8320]⟩
abbrev S8320x1 : Shape := ⟨2, ![8320, 1]⟩
abbrev S1x2048 : Shape := ⟨2, ![1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S8320x2048, .f32⟩
  | .hbm, ⟨3, _⟩ => ⟨S_, .f32⟩
  | .hbm, ⟨4, _⟩ => ⟨S8320, .f32⟩
  | .hbm, ⟨5, _⟩ => ⟨S8320x1, .f32⟩
  | .hbm, ⟨6, _⟩ => ⟨S_, .f32⟩
  | .hbm, ⟨7, _⟩ => ⟨S8320x1, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S8320x1, .f32⟩
  | .hbm, ⟨13, _⟩ => ⟨S8320x2048, .f32⟩
  | .hbm, ⟨14, _⟩ => ⟨S8320x2048, .f32⟩
  | .hbm, ⟨15, _⟩ => ⟨S1x2048, .f32⟩
  | .hbm, ⟨16, _⟩ => ⟨S8320x2048, .f32⟩
  | .hbm, ⟨17, _⟩ => ⟨S8320x2048, .f32⟩
  | .hbm, ⟨18, _⟩ => ⟨S8320x1, .i32⟩
  | .hbm, ⟨19, _⟩ => ⟨S_, .i32⟩
  | .hbm, ⟨20, _⟩ => ⟨S8320x1, .i32⟩
  | .hbm, ⟨21, _⟩ => ⟨S8320x1, .i32⟩
  | .hbm, ⟨22, _⟩ => ⟨S_, .i32⟩
  | .hbm, ⟨23, _⟩ => ⟨S8320x1, .i32⟩
  | .hbm, ⟨24, _⟩ => ⟨S8320x1, .i1⟩
  | .hbm, ⟨25, _⟩ => ⟨S_, .f32⟩
  | .hbm, ⟨26, _⟩ => ⟨S_, .f32⟩
  | .hbm, ⟨27, _⟩ => ⟨S8320x2048, .i1⟩
  | .hbm, ⟨28, _⟩ => ⟨S8320x2048, .f32⟩
  | .hbm, ⟨29, _⟩ => ⟨S8320x2048, .f32⟩
  | .hbm, ⟨30, _⟩ => ⟨S8320x2048, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel10.lean ====
abbrev S8320x2048 : Shape := ⟨2, ![8320, 2048]⟩
abbrev S2048 : Shape := ⟨1, ![2048]⟩
abbrev S1x2048 : Shape := ⟨2, ![1, 2048]⟩
abbrev S520x2048 : Shape := ⟨2, ![520, 2048]⟩
abbrev S520 : Shape := ⟨1, ![520]⟩
abbrev S520x1 : Shape := ⟨2, ![520, 1]⟩

abbrev nBuf : Space → Nat
  | .hbm => 6
  | .vmem => 9
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S2048, .f32⟩
  | .hbm, ⟨3, _⟩ => ⟨S1x2048, .f32⟩
  | .hbm, ⟨4, _⟩ => ⟨S8320x2048, .f32⟩
  | .hbm, ⟨5, _⟩ => ⟨S8320x2048, .bf16⟩
  | .local _ .vmem, ⟨0, _⟩ => ⟨S520x2048, .f32⟩
  | .local _ .vmem, ⟨1, _⟩ => ⟨S520x2048, .f32⟩
  | .local _ .vmem, ⟨2, _⟩ => ⟨S520x2048, .f32⟩
  | .local _ .vmem, ⟨3, _⟩ => ⟨S520x2048, .f32⟩
  | .local _ .vmem, ⟨4, _⟩ => ⟨S1x2048, .f32⟩
  | .local _ .vmem, ⟨5, _⟩ => ⟨S520x2048, .f32⟩
  | .local _ .vmem, ⟨6, _⟩ => ⟨S520x2048, .f32⟩
  | .local _ .vmem, ⟨7, _⟩ => ⟨S520x2048, .bf16⟩
  | .local _ .vmem, ⟨8, _⟩ => ⟨S520x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S520x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S520x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S520x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S520x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S8320x2048 : Shape := ⟨2, ![8320, 2048]⟩
abbrev S2048 : Shape := ⟨1, ![2048]⟩
abbrev S_ : Shape := ⟨0, ![]⟩
abbrev S8320 : Shape := ⟨1, ![8320]⟩
abbrev S8320x1 : Shape := ⟨2, ![8320, 1]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8320x2048, .f32⟩
  | .hbm, ⟨2, _⟩ => ⟨S2048, .f32⟩
  | .hbm, ⟨3, _⟩ => ⟨S8320x2048, .f32⟩
  | .hbm, ⟨4, _⟩ => ⟨S8320x2048, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x2048, .f32⟩
  | .hbm, ⟨16, _⟩ => ⟨S8320x2048, .f32⟩
  | .hbm, ⟨17, _⟩ => ⟨S1x2048, .f32⟩
  | .hbm, ⟨18, _⟩ => ⟨S8320x2048, .f32⟩
  | .hbm, ⟨19, _⟩ => ⟨S8320x2048, .f32⟩
  | .hbm, ⟨20, _⟩ => ⟨S8320x1, .i32⟩
  | .hbm, ⟨21, _⟩ => ⟨S_, .i32⟩
  | .hbm, ⟨22, _⟩ => ⟨S8320x1, .i32⟩
  | .hbm, ⟨23, _⟩ => ⟨S8320x1, .i32⟩
  | .hbm, ⟨24, _⟩ => ⟨S_, .i32⟩
  | .hbm, ⟨25, _⟩ => ⟨S8320x1, .i32⟩
  | .hbm, ⟨26, _⟩ => ⟨S8320x1, .i1⟩
  | .hbm, ⟨27, _⟩ => ⟨S_, .f32⟩
  | .hbm, ⟨28, _⟩ => ⟨S_, .f32⟩
  | .hbm, ⟨29, _⟩ => ⟨S8320x2048, .i1⟩
  | .hbm, ⟨30, _⟩ => ⟨S8320x2048, .f32⟩
  | .hbm, ⟨31, _⟩ => ⟨S8320x2048, .f32⟩
  | .hbm, ⟨32, _⟩ => ⟨S8320x2048, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Kernel11.lean ====
abbrev S8320x2048 : Shape := ⟨2, ![8320, 2048]⟩
abbrev S2048 : Shape := ⟨1, ![2048]⟩
abbrev S1x2048 : Shape := ⟨2, ![1, 2048]⟩
abbrev S520x2048 : Shape := ⟨2, ![520, 2048]⟩
abbrev S520 : Shape := ⟨1, ![520]⟩
abbrev S520x1 : Shape := ⟨2, ![520, 1]⟩

abbrev nBuf : Space → Nat
  | .hbm => 4
  | .vmem => 5
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S1x2048, .f32⟩
  | .hbm, ⟨3, _⟩ => ⟨S8320x2048, .bf16⟩
  | .local _ .vmem, ⟨0, _⟩ => ⟨S520x2048, .f32⟩
  | .local _ .vmem, ⟨1, _⟩ => ⟨S520x2048, .f32⟩
  | .local _ .vmem, ⟨2, _⟩ => ⟨S1x2048, .f32⟩
  | .local _ .vmem, ⟨3, _⟩ => ⟨S520x2048, .bf16⟩
  | .local _ .vmem, ⟨4, _⟩ => ⟨S520x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S520x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S520x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S8320x2048 : Shape := ⟨2, ![8320, 2048]⟩
abbrev S2048 : Shape := ⟨1, ![2048]⟩
abbrev S_ : Shape := ⟨0, ![]⟩
abbrev S8320 : Shape := ⟨1, ![8320]⟩
abbrev S8320x1 : Shape := ⟨2, ![8320, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S2048, .f32⟩
  | .hbm, ⟨2, _⟩ => ⟨S8320x2048, .f32⟩
  | .hbm, ⟨3, _⟩ => ⟨S_, .f32⟩
  | .hbm, ⟨4, _⟩ => ⟨S8320, .f32⟩
  | .hbm, ⟨5, _⟩ => ⟨S8320x1, .f32⟩
  | .hbm, ⟨6, _⟩ => ⟨S_, .f32⟩
  | .hbm, ⟨7, _⟩ => ⟨S8320x1, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S8320x1, .f32⟩
  | .hbm, ⟨13, _⟩ => ⟨S8320x2048, .f32⟩
  | .hbm, ⟨14, _⟩ => ⟨S8320x2048, .f32⟩
  | .hbm, ⟨15, _⟩ => ⟨S1x2048, .f32⟩
  | .hbm, ⟨16, _⟩ => ⟨S8320x2048, .f32⟩
  | .hbm, ⟨17, _⟩ => ⟨S8320x2048, .f32⟩
  | .hbm, ⟨18, _⟩ => ⟨S8320x2048, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Kit.lean ====
/- The pieces the run of the expert kernel is stated over: the tables and windows at any contents `V` of the buffers
   when the kernel's region is entered, the staging memrefs, the invariant unfolded, and the branch conditions as
   arithmetic of the point and of the tile's row count. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.TableIdle
public import Idealize.ShloMosaic.Lib.VecWindow
public import Idealize.ShloMosaic.Lib.Tactic
public import Idealize.ShloMosaic.Lib.WordCmp

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore buffers of every core when the region is entered. -/
abbrev Entry (F : FTy → Type) [FloatOps F] : Type :=
  (c : Dev nD) → (b : Ref sig .tc) → Buf (Elt F) ((c : Thread nD τ).loc b)

variable (V : Entry F)

/-! ## The tables -/

/-- The three tables' contents at entry. -/
def tbl : pre0.Contents (Elt F) := fun j => V (0 : Dev nD) (pre0.ref j)

theorem V_pre (c : Dev nD) (j : Fin 3) : V c (pre0.ref j) = tbl V j := by
  obtain rfl : c = 0 := Subsingleton.elim _ _; rfl

/-- Every window's block lies inside its array at every point. -/
abbrev Ok : Prop := ok0 (F := F) (tbl V)
abbrev adm (hO : Ok V) : (pcfg0 (F := F)).Adm := ⟨tbl V, hO⟩
abbrev cfgM (hO : Ok V) : Pipeline.Cfg sig Λ₀ := cfg0 (adm V hO)

abbrev tbM0 : Memref sig .tc .smem S23 .i32 := Memref.whole main_v48
abbrev htbM0 : tbM0.IsWhole := Memref.isWhole_whole _
abbrev tbM1 : Memref sig .tc .smem S23 .i32 := Memref.whole main_v43
abbrev htbM1 : tbM1.IsWhole := Memref.isWhole_whole _
abbrev tbM2 : Memref sig .tc .smem S23 .i32 := Memref.whole main_v12
abbrev htbM2 : tbM2.IsWhole := Memref.isWhole_whole _

/-- A table's contents on core `c`, and its half share at them. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl V) c : sProp 𝕄) = iprop(tbPt c tbM0 (tbl V 0) ∗ tbPt c tbM1 (tbl V 1) ∗ tbPt c tbM2 (tbl V 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The row count the body reads at coordinates `i` of the table `x`. -/
abbrev word {c : Dev nD} (i : grid0.Coords) (x : TbBuf (F := F) c tbM1) : BitVec 32 :=
  tbM1.view.readAt (Elt F) (Rect.unit (s := S23) (k0_off1 i) S1.size (k0_off1_inb i)).toLoadRect x (Shape.Idx.first (numel1_S1.symm ▸ Nat.one_pos))

/-! ## The windows' blocks -/

/-- Window `w`'s block at point `t`, read off its array at entry. -/
def iblk (hO : Ok V) (c : Dev nD) (w : Fin (cfgM V hO).W) (t : Fin (cfgM V hO).N) : (((cfgM V hO).win w).xblock ((cfgM V hO).grid.coords t)).Idx → Elt F ((cfgM V hO).win w).elt :=
  (((cfgM V hO).win w).blk t).view.read (Elt F) (V c (Pipeline.arrRef spec0 w))

theorem before_of0 (hO : Ok V) {c : Dev nD} (dat : Dat τ (Elt F) Unit ℕ (UR sig nD τ) ℕ (cfgM V hO) c) (hA : dat.A 0 = V c (Pipeline.arrRef spec0 0))
    (hafter : ∀ t, dat.after 0 t = iblk V hO c 0 t) (t : Fin (cfgM V hO).N) (d) : dat.before 0 t d = iblk V hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_of1 (hO : Ok V) {c : Dev nD} (dat : Dat τ (Elt F) Unit ℕ (UR sig nD τ) ℕ (cfgM V hO) c) (hA : dat.A 1 = V c (Pipeline.arrRef spec0 1))
    (hafter : ∀ t, dat.after 1 t = iblk V hO c 1 t) (t : Fin (cfgM V hO).N) (d) : dat.before 1 t d = iblk V hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_of2 (hO : Ok V) {c : Dev nD} (dat : Dat τ (Elt F) Unit ℕ (UR sig nD τ) ℕ (cfgM V hO) c) (hA : dat.A 2 = V c (Pipeline.arrRef spec0 2))
    (hafter : ∀ t, dat.after 2 t = iblk V hO c 2 t) (t : Fin (cfgM V hO).N) (d) : dat.before 2 t d = iblk V hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_of3 (hO : Ok V) {c : Dev nD} (dat : Dat τ (Elt F) Unit ℕ (UR sig nD τ) ℕ (cfgM V hO) c) (hA : dat.A 3 = V c (Pipeline.arrRef spec0 3))
    (hafter : ∀ t, dat.after 3 t = iblk V hO c 3 t) (t : Fin (cfgM V hO).N) (d) : dat.before 3 t d = iblk V hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The branch conditions -/

/-- The zeroing branch is taken at the first block of every tile. -/
theorem cond1_iff : ∀ t : Fin grid0.N, k0_cond1 (grid0.coords t) = 1#1 ↔ t.val % 28 = 0 := fun t => by
  have ht : t.val < 644 := Nat.lt_of_lt_of_eq t.isLt N_0
  have e1 : (grid0.coords t 1).val = t.val / 1 % 28 := Pipeline.Grid.coords_val t 1 (by decide) rfl
  simp only [k0_cond1, e1]
  word_cmp

theorem bit_ne (b : Bool) : Scalar.cmpi .ne (Scalar.extui (BitVec.ofBool b) : BitVec 32) 0#32 = 1#1 ↔ b = true := by
  cases b <;> decide

/-- The whole tile runs where the row count passes 768; -/
theorem cond2_iff (v : BitVec 32) : k0_cond2 v = 1#1 ↔ 768 < v.toInt := by
  unfold k0_cond2
  show Scalar.cmpi .ne (Scalar.extui (BitVec.ofBool (decide ((768#32).toInt < v.toInt))) : BitVec 32) 0#32 = 1#1 ↔ _
  rw [bit_ne, decide_eq_true_iff]; rfl

/-- its first third alone where the count is between 1 and 768; -/
theorem cond3_iff (v : BitVec 32) : k0_cond3 v = 1#1 ↔ 0 < v.toInt ∧ ¬ 768 < v.toInt := by
  unfold k0_cond3
  show Scalar.cmpi .ne (Scalar.extui (IntOp.andi (BitVec.ofBool (decide ((0#32).toInt < v.toInt)))
    (IntOp.xori (BitVec.ofBool (decide ((768#32).toInt < v.toInt))) (BitVec.ofBool true))) : BitVec 32) 0#32 = 1#1 ↔ _
  rw [WordCmp.xori_ofBool, WordCmp.andi_ofBool, bit_ne]
  simp only [Bool.xor_true, Bool.and_eq_true, decide_eq_true_iff, Bool.not_eq_true', decide_eq_false_iff_not]; rfl

/-- its second third where the count is between 385 and 768. -/
theorem cond4_iff (v : BitVec 32) : k0_cond4 v = 1#1 ↔ 384 < v.toInt ∧ ¬ 768 < v.toInt := by
  unfold k0_cond4
  show Scalar.cmpi .ne (Scalar.extui (IntOp.andi (BitVec.ofBool (decide ((384#32).toInt < v.toInt)))
    (IntOp.xori (BitVec.ofBool (decide ((768#32).toInt < v.toInt))) (BitVec.ofBool true))) : BitVec 32) 0#32 = 1#1 ↔ _
  rw [WordCmp.xori_ofBool, WordCmp.andi_ofBool, bit_ne]
  simp only [Bool.xor_true, Bool.and_eq_true, decide_eq_true_iff, Bool.not_eq_true', decide_eq_false_iff_not]; rfl

/-! ## Staging memrefs and the invariant -/

abbrev ms0 (hO : Ok V) (t : Fin (cfgM V hO).N) : Memref sig .tc .vmem S1152x2048 .bf16 := spec0_0.stage ((cfgM V hO).slots t 0)
abbrev hs0 (hO : Ok V) (t : Fin (cfgM V hO).N) : (ms0 V hO t).IsWhole := hstage0_0 (((cfgM V hO).slots t 0).cast nbuf0_0)
abbrev ms1 (hO : Ok V) (t : Fin (cfgM V hO).N) : Memref sig .tc .vmem S1x2048x256 .f32 := spec0_1.stage ((cfgM V hO).slots t 1)
abbrev hs1 (hO : Ok V) (t : Fin (cfgM V hO).N) : (ms1 V hO t).IsWhole := hstage0_1 (((cfgM V hO).slots t 1).cast nbuf0_1)
abbrev ms2 (hO : Ok V) (t : Fin (cfgM V hO).N) : Memref sig .tc .vmem S1x2048x256 .f32 := spec0_2.stage ((cfgM V hO).slots t 2)
abbrev hs2 (hO : Ok V) (t : Fin (cfgM V hO).N) : (ms2 V hO t).IsWhole := hstage0_2 (((cfgM V hO).slots t 2).cast nbuf0_2)
abbrev ms3 (hO : Ok V) (t : Fin (cfgM V hO).N) : Memref sig .tc .vmem S1x256x2048 .f32 := spec0_3.stage ((cfgM V hO).slots t 3)
abbrev hs3 (hO : Ok V) (t : Fin (cfgM V hO).N) : (ms3 V hO t).IsWhole := hstage0_3 (((cfgM V hO).slots t 3).cast nbuf0_3)
abbrev ms4 (hO : Ok V) (t : Fin (cfgM V hO).N) : Memref sig .tc .vmem S1152x2048 .f32 := spec0_4.stage ((cfgM V hO).slots t 4)
abbrev hs4 (hO : Ok V) (t : Fin (cfgM V hO).N) : (ms4 V hO t).IsWhole := hstage0_4 (((cfgM V hO).slots t 4).cast nbuf0_4)
abbrev scM0 : Memref sig .tc .vmem S2048x256 .bf16 := Memref.whole cc0_scratch0
abbrev scM1 : Memref sig .tc .vmem S2048x256 .bf16 := Memref.whole cc0_scratch1
abbrev scM2 : Memref sig .tc .vmem S256x2048 .bf16 := Memref.whole cc0_scratch2

/-- The body at point `t`, on the staging buffers of the point. -/
abbrev bodyAt (hO : Ok V) (t : Fin (cfgM V hO).N) :=
  cc0_moe_ffn (F := F) (grid0.coords t) tbM0 htbM0 tbM1 htbM1 tbM2 htbM2 (ms0 V hO t) (hs0 V hO t) (ms1 V hO t) (hs1 V hO t)
    (ms2 V hO t) (hs2 V hO t) (ms3 V hO t) (hs3 V hO t) (ms4 V hO t) (hs4 V hO t)
    scM0 (Memref.isWhole_whole _) scM1 (Memref.isWhole_whole _) scM2 (Memref.isWhole_whole _)

theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

end Cert.KernelIdeal.Moe

end
-- ==== Proof.Step.lean ====
/- What one grid point does to the tile's output block, as a function of the point, the tile's row count, the four
   input blocks and the block's contents. -/
module

public import proofs.«01_k».proof.Proof.Kit

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block after the point's zeroing: zero at the tile's first block of the hidden axis. -/
def zeroed (i : grid0.Coords) (y : Vec F S1152x2048 .f32) : Vec F S1152x2048 .f32 :=
  if k0_cond1 i = 1#1 then k0_pay1 (F := F) else y

/-- All 1152 rows accumulated. -/
def accAll (x0 : Vec F S1152x2048 .bf16) (x1 x2 : Vec F S1x2048x256 .f32) (x3 : Vec F S1x256x2048 .f32)
    (y : Vec F S1152x2048 .f32) : Vec F S1152x2048 .f32 :=
  k0_pay2 x0 x1 x2 y x3

/-- Rows 0 to 383 accumulated. -/
def accLow (x0 : Vec F S1152x2048 .bf16) (x1 x2 : Vec F S1x2048x256 .f32) (x3 : Vec F S1x256x2048 .f32)
    (y : Vec F S1152x2048 .f32) : Vec F S1152x2048 .f32 :=
  VecWindow.put y ![0, 0] S384x2048.size
    (k0_pay3 (k0_pay8 (VecWindow.window x0 ![0, 0] S384x2048.size inb_S1152x2048_S384x2048_0_0) (k0_pay6 x2))
      (k0_pay9 (VecWindow.window x0 ![0, 0] S384x2048.size inb_S1152x2048_S384x2048_0_0) (k0_pay5 x1))
      (VecWindow.window y ![0, 0] S384x2048.size inb_S1152x2048_S384x2048_0_0) (k0_pay7 x3))

/-- Rows 384 to 767 accumulated. -/
def accMid (x0 : Vec F S1152x2048 .bf16) (x1 x2 : Vec F S1x2048x256 .f32) (x3 : Vec F S1x256x2048 .f32)
    (y : Vec F S1152x2048 .f32) : Vec F S1152x2048 .f32 :=
  VecWindow.put y ![384, 0] S384x2048.size
    (k0_pay4 (VecWindow.window x0 ![384, 0] S384x2048.size inb_S1152x2048_S384x2048_384_0) (k0_pay5 x1) (k0_pay6 x2)
      (VecWindow.window y ![384, 0] S384x2048.size inb_S1152x2048_S384x2048_384_0) (k0_pay7 x3))

/-- The point's whole effect on the block. -/
def stepOut (i : grid0.Coords) (v : BitVec 32) (x0 : Vec F S1152x2048 .bf16) (x1 x2 : Vec F S1x2048x256 .f32)
    (x3 : Vec F S1x256x2048 .f32) (y : Vec F S1152x2048 .f32) : Vec F S1152x2048 .f32 :=
  if k0_cond2 v = 1#1 then accAll x0 x1 x2 x3 (zeroed i y)
  else if k0_cond3 v = 1#1 then
    if k0_cond4 v = 1#1 then accMid x0 x1 x2 x3 (accLow x0 x1 x2 x3 (zeroed i y)) else accLow x0 x1 x2 x3 (zeroed i y)
  else zeroed i y

/-- The body's triple at coordinates `i`: from the four input blocks, the output block at `y`, the scratch at anything and
    the tables' halves, to the same with the output block at the point's step of `y`. -/
def RunGoal (c : Dev nD) (i : grid0.Coords) (arg5 : Memref sig .tc .vmem S1152x2048 .bf16) (harg5 : arg5.IsWhole)
    (arg6 : Memref sig .tc .vmem S1x2048x256 .f32) (harg6 : arg6.IsWhole) (arg7 : Memref sig .tc .vmem S1x2048x256 .f32) (harg7 : arg7.IsWhole)
    (arg8 : Memref sig .tc .vmem S1x256x2048 .f32) (harg8 : arg8.IsWhole) (arg9 : Memref sig .tc .vmem S1152x2048 .f32) (harg9 : arg9.IsWhole)
    (arg10 : Memref sig .tc .vmem S2048x256 .bf16) (harg10 : arg10.IsWhole) (arg11 : Memref sig .tc .vmem S2048x256 .bf16) (harg11 : arg11.IsWhole)
    (arg12 : Memref sig .tc .vmem S256x2048 .bf16) (harg12 : arg12.IsWhole)
    (x0 : Vec F S1152x2048 .bf16) (x1 : Vec F S1x2048x256 .f32) (x2 : Vec F S1x2048x256 .f32) (x3 : Vec F S1x256x2048 .f32) (y : Vec F S1152x2048 .f32)
    (xt0 : TbBuf (F := F) c tbM0) (xt1 : TbBuf (F := F) c tbM1) (xt2 : TbBuf (F := F) c tbM2) : Prop :=
  ∀ (E : Set ℕ) (K : PUnit → sProp 𝕄),
    iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare y ∗ (∃ d, owns (c : Thread nD τ) arg10 fullShare d) ∗ (∃ d, owns (c : Thread nD τ) arg11 fullShare d) ∗ (∃ d, owns (c : Thread nD τ) arg12 fullShare d) ∗ tbPt c tbM0 xt0 ∗ tbPt c tbM1 xt1 ∗ tbPt c tbM2 xt2
        ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare (stepOut i (word i xt1) x0 x1 x2 x3 y) ∗ (∃ d, owns (c : Thread nD τ) arg10 fullShare d) ∗ (∃ d, owns (c : Thread nD τ) arg11 fullShare d) ∗ (∃ d, owns (c : Thread nD τ) arg12 fullShare d) ∗ tbPt c tbM0 xt0 ∗ tbPt c tbM1 xt1 ∗ tbPt c tbM2 xt2) -∗ K ⟨⟩))
      ⊢ wp frame (wpE (defs₀ (F := F)) Variants.none c none) E (cc0_moe_ffn i tbM0 htbM0 tbM1 htbM1 tbM2 htbM2 arg5 harg5 arg6 harg6 arg7 harg7 arg8 harg8 arg9 harg9 arg10 harg10 arg11 harg11 arg12 harg12) K

end Cert.KernelIdeal.Moe

end
-- ==== Proof.RunA.lean ====
/- One run of the expert kernel's body: the tile starts and all its rows run. -/
module

public import proofs.«01_k».proof.Proof.Step

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's triple where the tile starts and all its rows run. -/
theorem runA (c : Dev nD) (i : grid0.Coords) (arg5 : Memref sig .tc .vmem S1152x2048 .bf16) (harg5 : arg5.IsWhole)
    (arg6 : Memref sig .tc .vmem S1x2048x256 .f32) (harg6 : arg6.IsWhole) (arg7 : Memref sig .tc .vmem S1x2048x256 .f32) (harg7 : arg7.IsWhole)
    (arg8 : Memref sig .tc .vmem S1x256x2048 .f32) (harg8 : arg8.IsWhole) (arg9 : Memref sig .tc .vmem S1152x2048 .f32) (harg9 : arg9.IsWhole)
    (arg10 : Memref sig .tc .vmem S2048x256 .bf16) (harg10 : arg10.IsWhole) (arg11 : Memref sig .tc .vmem S2048x256 .bf16) (harg11 : arg11.IsWhole)
    (arg12 : Memref sig .tc .vmem S256x2048 .bf16) (harg12 : arg12.IsWhole)
    (x0 : Vec F S1152x2048 .bf16) (x1 : Vec F S1x2048x256 .f32) (x2 : Vec F S1x2048x256 .f32) (x3 : Vec F S1x256x2048 .f32) (y : Vec F S1152x2048 .f32)
    (xt0 : TbBuf (F := F) c tbM0) (xt1 : TbBuf (F := F) c tbM1) (xt2 : TbBuf (F := F) c tbM2)
    (hc1 : k0_cond1 i = 1#1) (hc2 : k0_cond2 (word i xt1) = 1#1) (hc3 : ¬ k0_cond3 (word i xt1) = 1#1) (hc4 : ¬ k0_cond4 (word i xt1) = 1#1) :
      RunGoal c i arg5 harg5 arg6 harg6 arg7 harg7 arg8 harg8 arg9 harg9 arg10 harg10 arg11 harg11 arg12 harg12 x0 x1 x2 x3 y xt0 xt1 xt2 := by
    intro E K
    simp only [cc0_moe_ffn_eq_skeleton]; unfold cc0_moe_ffn_skel
    simp only [k0_part1_eq_skeleton]
    unfold stepOut
    simp only [zeroed, if_pos hc1, if_pos hc2, if_neg hc3, if_neg hc4]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, HT0, HT1, HT2, Hk⟩
    obtain rfl := harg5.eq_unread hf0; obtain rfl := harg6.eq_unread hf1; obtain rfl := harg7.eq_unread hf2; obtain rfl := harg8.eq_unread hf3; obtain rfl := harg9.eq_unread hf4
    sl_exec (disch := first | sl_exact hc1 | sl_exact hc2 | sl_exact hc3 | sl_exact hc4)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; swap; · iexact H4
      ipureintro
      delta runA.sl.H4_1 runA.sl.v37
      have hfull : ∀ g w L, arg9.view.read (Elt F) (arg9.view.writes (Elt F) g (⟨Rect.unit ![0, 0] ![1152, 2048] inb_S1152x2048_S1152x2048_0_0, w⟩ :: L)) = w :=
        fun g w L => View.read_writes_full arg9.view g inb_S1152x2048_S1152x2048_0_0 w L
      have hlow : ∀ g w L, arg9.view.read (Elt F) (arg9.view.writes (Elt F) g (⟨Rect.unit ![0, 0] ![384, 2048] inb_S1152x2048_S384x2048_0_0, w⟩ :: L))
          = VecWindow.put (arg9.view.read (Elt F) (arg9.view.writes (Elt F) g L)) ![0, 0] S384x2048.size w :=
        fun g w L => View.read_writes_cons_put arg9.view g inb_S1152x2048_S384x2048_0_0 w L rfl
      have hmid : ∀ g w L, arg9.view.read (Elt F) (arg9.view.writes (Elt F) g (⟨Rect.unit ![384, 0] ![384, 2048] inb_S1152x2048_S384x2048_384_0, w⟩ :: L))
          = VecWindow.put (arg9.view.read (Elt F) (arg9.view.writes (Elt F) g L)) ![384, 0] S384x2048.size w :=
        fun g w L => View.read_writes_cons_put arg9.view g inb_S1152x2048_S384x2048_384_0 w L rfl
      have hcov : ∀ L r, arg9.view.readCov (Val := Elt F) L r = arg9.view.readAt (Elt F) r (arg9.view.writes (Elt F) arg9.view.junk L) := fun _ _ => rfl
      have ra : ∀ g, arg9.view.readAt (Elt F) (Rect.unit ![0, 0] ![1152, 2048] inb_S1152x2048_S1152x2048_0_0).toLoadRect g = arg9.view.read (Elt F) g :=
        fun g => View.readAt_full arg9.view g inb_S1152x2048_S1152x2048_0_0
      have rl : ∀ g, arg9.view.readAt (Elt F) (Rect.unit ![0, 0] ![384, 2048] inb_S1152x2048_S384x2048_0_0).toLoadRect g
          = VecWindow.window (arg9.view.read (Elt F) g) ![0, 0] S384x2048.size inb_S1152x2048_S384x2048_0_0 := fun _ => rfl
      have rm : ∀ g, arg9.view.readAt (Elt F) (Rect.unit ![384, 0] ![384, 2048] inb_S1152x2048_S384x2048_384_0).toLoadRect g
          = VecWindow.window (arg9.view.read (Elt F) g) ![384, 0] S384x2048.size inb_S1152x2048_S384x2048_384_0 := fun _ => rfl
      have xa : ∀ g, arg5.view.readAt (Elt F) (Rect.unit ![0, 0] ![1152, 2048] inb_S1152x2048_S1152x2048_0_0).toLoadRect g = arg5.view.read (Elt F) g :=
        fun g => View.readAt_full arg5.view g inb_S1152x2048_S1152x2048_0_0
      have xl : ∀ g, arg5.view.readAt (Elt F) (Rect.unit ![0, 0] ![384, 2048] inb_S1152x2048_S384x2048_0_0).toLoadRect g
          = VecWindow.window (arg5.view.read (Elt F) g) ![0, 0] S384x2048.size inb_S1152x2048_S384x2048_0_0 := fun _ => rfl
      have xm : ∀ g, arg5.view.readAt (Elt F) (Rect.unit ![384, 0] ![384, 2048] inb_S1152x2048_S384x2048_384_0).toLoadRect g
          = VecWindow.window (arg5.view.read (Elt F) g) ![384, 0] S384x2048.size inb_S1152x2048_S384x2048_384_0 := fun _ => rfl
      have w1 : ∀ g, arg6.view.readAt (Elt F) (Rect.unit ![0, 0, 0] ![1, 2048, 256] inb_S1x2048x256_S1x2048x256_0_0_0).toLoadRect g = arg6.view.read (Elt F) g :=
        fun g => View.readAt_full arg6.view g inb_S1x2048x256_S1x2048x256_0_0_0
      have w3 : ∀ g, arg7.view.readAt (Elt F) (Rect.unit ![0, 0, 0] ![1, 2048, 256] inb_S1x2048x256_S1x2048x256_0_0_0).toLoadRect g = arg7.view.read (Elt F) g :=
        fun g => View.readAt_full arg7.view g inb_S1x2048x256_S1x2048x256_0_0_0
      have w2 : ∀ g, arg8.view.readAt (Elt F) (Rect.unit ![0, 0, 0] ![1, 256, 2048] inb_S1x256x2048_S1x256x2048_0_0_0).toLoadRect g = arg8.view.read (Elt F) g :=
        fun g => View.readAt_full arg8.view g inb_S1x256x2048_S1x256x2048_0_0_0
      have s1 : ∀ w L, arg10.view.readCov (Val := Elt F) (⟨Rect.unit ![0, 0] ![2048, 256] inb_S2048x256_S2048x256_0_0, w⟩ :: L) (Rect.unit ![0, 0] ![2048, 256] inb_S2048x256_S2048x256_0_0).toLoadRect = w :=
        fun w L => View.readCov_full arg10.view inb_S2048x256_S2048x256_0_0 inb_S2048x256_S2048x256_0_0 w L
      have s3 : ∀ w L, arg11.view.readCov (Val := Elt F) (⟨Rect.unit ![0, 0] ![2048, 256] inb_S2048x256_S2048x256_0_0, w⟩ :: L) (Rect.unit ![0, 0] ![2048, 256] inb_S2048x256_S2048x256_0_0).toLoadRect = w :=
        fun w L => View.readCov_full arg11.view inb_S2048x256_S2048x256_0_0 inb_S2048x256_S2048x256_0_0 w L
      have s2 : ∀ w L, arg12.view.readCov (Val := Elt F) (⟨Rect.unit ![0, 0] ![256, 2048] inb_S256x2048_S256x2048_0_0, w⟩ :: L) (Rect.unit ![0, 0] ![256, 2048] inb_S256x2048_S256x2048_0_0).toLoadRect = w :=
        fun w L => View.readCov_full arg12.view inb_S256x2048_S256x2048_0_0 inb_S256x2048_S256x2048_0_0 w L
      simp only [View.writes_nil, hcov, hfull, hlow, hmid, ra, rl, rm, xa, xl, xm, w1, w2, w3, s1, s2, s3, hf0, hf1, hf2, hf3, hf4, accAll, accLow, accMid]

    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    isplitl [HT1]; · iexact HT1
    iexact HT2

end Cert.KernelIdeal.Moe

end
-- ==== Proof.RunB.lean ====
/- One run of the expert kernel's body: the tile starts and its first two thirds run. -/
module

public import proofs.«01_k».proof.Proof.RunA

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's triple where the tile starts and its first two thirds run. -/
theorem runB (c : Dev nD) (i : grid0.Coords) (arg5 : Memref sig .tc .vmem S1152x2048 .bf16) (harg5 : arg5.IsWhole)
    (arg6 : Memref sig .tc .vmem S1x2048x256 .f32) (harg6 : arg6.IsWhole) (arg7 : Memref sig .tc .vmem S1x2048x256 .f32) (harg7 : arg7.IsWhole)
    (arg8 : Memref sig .tc .vmem S1x256x2048 .f32) (harg8 : arg8.IsWhole) (arg9 : Memref sig .tc .vmem S1152x2048 .f32) (harg9 : arg9.IsWhole)
    (arg10 : Memref sig .tc .vmem S2048x256 .bf16) (harg10 : arg10.IsWhole) (arg11 : Memref sig .tc .vmem S2048x256 .bf16) (harg11 : arg11.IsWhole)
    (arg12 : Memref sig .tc .vmem S256x2048 .bf16) (harg12 : arg12.IsWhole)
    (x0 : Vec F S1152x2048 .bf16) (x1 : Vec F S1x2048x256 .f32) (x2 : Vec F S1x2048x256 .f32) (x3 : Vec F S1x256x2048 .f32) (y : Vec F S1152x2048 .f32)
    (xt0 : TbBuf (F := F) c tbM0) (xt1 : TbBuf (F := F) c tbM1) (xt2 : TbBuf (F := F) c tbM2)
    (hc1 : k0_cond1 i = 1#1) (hc2 : ¬ k0_cond2 (word i xt1) = 1#1) (hc3 : k0_cond3 (word i xt1) = 1#1) (hc4 : k0_cond4 (word i xt1) = 1#1) :
      RunGoal c i arg5 harg5 arg6 harg6 arg7 harg7 arg8 harg8 arg9 harg9 arg10 harg10 arg11 harg11 arg12 harg12 x0 x1 x2 x3 y xt0 xt1 xt2 := by
    intro E K
    simp only [cc0_moe_ffn_eq_skeleton]; unfold cc0_moe_ffn_skel
    simp only [k0_part1_eq_skeleton]
    unfold stepOut
    simp only [zeroed, if_pos hc1, if_neg hc2, if_pos hc3, if_pos hc4]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, HT0, HT1, HT2, Hk⟩
    obtain rfl := harg5.eq_unread hf0; obtain rfl := harg6.eq_unread hf1; obtain rfl := harg7.eq_unread hf2; obtain rfl := harg8.eq_unread hf3; obtain rfl := harg9.eq_unread hf4
    sl_exec (disch := first | sl_exact hc1 | sl_exact hc2 | sl_exact hc3 | sl_exact hc4)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; swap; · iexact H4
      ipureintro
      delta runB.sl.H4_2 runB.sl.v19 runB.sl.v21 runB.sl.v33 runB.sl.v53
      delta runB.sl.H4_1 runB.sl.HS0_1 runB.sl.HS1_1 runB.sl.HS2_1 runB.sl.r_1 runB.sl.r_2 runB.sl.v51
      delta runB.sl.v37 runB.sl.v39
      delta runB.sl.HS0_1 runB.sl.HS1_1
      have hfull : ∀ g w L, arg9.view.read (Elt F) (arg9.view.writes (Elt F) g (⟨Rect.unit ![0, 0] ![1152, 2048] inb_S1152x2048_S1152x2048_0_0, w⟩ :: L)) = w :=
        fun g w L => View.read_writes_full arg9.view g inb_S1152x2048_S1152x2048_0_0 w L
      have hlow : ∀ g w L, arg9.view.read (Elt F) (arg9.view.writes (Elt F) g (⟨Rect.unit ![0, 0] ![384, 2048] inb_S1152x2048_S384x2048_0_0, w⟩ :: L))
          = VecWindow.put (arg9.view.read (Elt F) (arg9.view.writes (Elt F) g L)) ![0, 0] S384x2048.size w :=
        fun g w L => View.read_writes_cons_put arg9.view g inb_S1152x2048_S384x2048_0_0 w L rfl
      have hmid : ∀ g w L, arg9.view.read (Elt F) (arg9.view.writes (Elt F) g (⟨Rect.unit ![384, 0] ![384, 2048] inb_S1152x2048_S384x2048_384_0, w⟩ :: L))
          = VecWindow.put (arg9.view.read (Elt F) (arg9.view.writes (Elt F) g L)) ![384, 0] S384x2048.size w :=
        fun g w L => View.read_writes_cons_put arg9.view g inb_S1152x2048_S384x2048_384_0 w L rfl
      have hcov : ∀ L r, arg9.view.readCov (Val := Elt F) L r = arg9.view.readAt (Elt F) r (arg9.view.writes (Elt F) arg9.view.junk L) := fun _ _ => rfl
      have ra : ∀ g, arg9.view.readAt (Elt F) (Rect.unit ![0, 0] ![1152, 2048] inb_S1152x2048_S1152x2048_0_0).toLoadRect g = arg9.view.read (Elt F) g :=
        fun g => View.readAt_full arg9.view g inb_S1152x2048_S1152x2048_0_0
      have rl : ∀ g, arg9.view.readAt (Elt F) (Rect.unit ![0, 0] ![384, 2048] inb_S1152x2048_S384x2048_0_0).toLoadRect g
          = VecWindow.window (arg9.view.read (Elt F) g) ![0, 0] S384x2048.size inb_S1152x2048_S384x2048_0_0 := fun _ => rfl
      have rm : ∀ g, arg9.view.readAt (Elt F) (Rect.unit ![384, 0] ![384, 2048] inb_S1152x2048_S384x2048_384_0).toLoadRect g
          = VecWindow.window (arg9.view.read (Elt F) g) ![384, 0] S384x2048.size inb_S1152x2048_S384x2048_384_0 := fun _ => rfl
      have xa : ∀ g, arg5.view.readAt (Elt F) (Rect.unit ![0, 0] ![1152, 2048] inb_S1152x2048_S1152x2048_0_0).toLoadRect g = arg5.view.read (Elt F) g :=
        fun g => View.readAt_full arg5.view g inb_S1152x2048_S1152x2048_0_0
      have xl : ∀ g, arg5.view.readAt (Elt F) (Rect.unit ![0, 0] ![384, 2048] inb_S1152x2048_S384x2048_0_0).toLoadRect g
          = VecWindow.window (arg5.view.read (Elt F) g) ![0, 0] S384x2048.size inb_S1152x2048_S384x2048_0_0 := fun _ => rfl
      have xm : ∀ g, arg5.view.readAt (Elt F) (Rect.unit ![384, 0] ![384, 2048] inb_S1152x2048_S384x2048_384_0).toLoadRect g
          = VecWindow.window (arg5.view.read (Elt F) g) ![384, 0] S384x2048.size inb_S1152x2048_S384x2048_384_0 := fun _ => rfl
      have w1 : ∀ g, arg6.view.readAt (Elt F) (Rect.unit ![0, 0, 0] ![1, 2048, 256] inb_S1x2048x256_S1x2048x256_0_0_0).toLoadRect g = arg6.view.read (Elt F) g :=
        fun g => View.readAt_full arg6.view g inb_S1x2048x256_S1x2048x256_0_0_0
      have w3 : ∀ g, arg7.view.readAt (Elt F) (Rect.unit ![0, 0, 0] ![1, 2048, 256] inb_S1x2048x256_S1x2048x256_0_0_0).toLoadRect g = arg7.view.read (Elt F) g :=
        fun g => View.readAt_full arg7.view g inb_S1x2048x256_S1x2048x256_0_0_0
      have w2 : ∀ g, arg8.view.readAt (Elt F) (Rect.unit ![0, 0, 0] ![1, 256, 2048] inb_S1x256x2048_S1x256x2048_0_0_0).toLoadRect g = arg8.view.read (Elt F) g :=
        fun g => View.readAt_full arg8.view g inb_S1x256x2048_S1x256x2048_0_0_0
      have s1 : ∀ w L, arg10.view.readCov (Val := Elt F) (⟨Rect.unit ![0, 0] ![2048, 256] inb_S2048x256_S2048x256_0_0, w⟩ :: L) (Rect.unit ![0, 0] ![2048, 256] inb_S2048x256_S2048x256_0_0).toLoadRect = w :=
        fun w L => View.readCov_full arg10.view inb_S2048x256_S2048x256_0_0 inb_S2048x256_S2048x256_0_0 w L
      have s3 : ∀ w L, arg11.view.readCov (Val := Elt F) (⟨Rect.unit ![0, 0] ![2048, 256] inb_S2048x256_S2048x256_0_0, w⟩ :: L) (Rect.unit ![0, 0] ![2048, 256] inb_S2048x256_S2048x256_0_0).toLoadRect = w :=
        fun w L => View.readCov_full arg11.view inb_S2048x256_S2048x256_0_0 inb_S2048x256_S2048x256_0_0 w L
      have s2 : ∀ w L, arg12.view.readCov (Val := Elt F) (⟨Rect.unit ![0, 0] ![256, 2048] inb_S256x2048_S256x2048_0_0, w⟩ :: L) (Rect.unit ![0, 0] ![256, 2048] inb_S256x2048_S256x2048_0_0).toLoadRect = w :=
        fun w L => View.readCov_full arg12.view inb_S256x2048_S256x2048_0_0 inb_S256x2048_S256x2048_0_0 w L
      simp only [View.writes_nil, hcov, hfull, hlow, hmid, ra, rl, rm, xa, xl, xm, w1, w2, w3, s1, s2, s3, hf0, hf1, hf2, hf3, hf4, accAll, accLow, accMid]

    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    isplitl [HT1]; · iexact HT1
    iexact HT2

end Cert.KernelIdeal.Moe

end
-- ==== Proof.RunC.lean ====
/- One run of the expert kernel's body: the tile starts and its first third runs. -/
module

public import proofs.«01_k».proof.Proof.RunB

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's triple where the tile starts and its first third runs. -/
theorem runC (c : Dev nD) (i : grid0.Coords) (arg5 : Memref sig .tc .vmem S1152x2048 .bf16) (harg5 : arg5.IsWhole)
    (arg6 : Memref sig .tc .vmem S1x2048x256 .f32) (harg6 : arg6.IsWhole) (arg7 : Memref sig .tc .vmem S1x2048x256 .f32) (harg7 : arg7.IsWhole)
    (arg8 : Memref sig .tc .vmem S1x256x2048 .f32) (harg8 : arg8.IsWhole) (arg9 : Memref sig .tc .vmem S1152x2048 .f32) (harg9 : arg9.IsWhole)
    (arg10 : Memref sig .tc .vmem S2048x256 .bf16) (harg10 : arg10.IsWhole) (arg11 : Memref sig .tc .vmem S2048x256 .bf16) (harg11 : arg11.IsWhole)
    (arg12 : Memref sig .tc .vmem S256x2048 .bf16) (harg12 : arg12.IsWhole)
    (x0 : Vec F S1152x2048 .bf16) (x1 : Vec F S1x2048x256 .f32) (x2 : Vec F S1x2048x256 .f32) (x3 : Vec F S1x256x2048 .f32) (y : Vec F S1152x2048 .f32)
    (xt0 : TbBuf (F := F) c tbM0) (xt1 : TbBuf (F := F) c tbM1) (xt2 : TbBuf (F := F) c tbM2)
    (hc1 : k0_cond1 i = 1#1) (hc2 : ¬ k0_cond2 (word i xt1) = 1#1) (hc3 : k0_cond3 (word i xt1) = 1#1) (hc4 : ¬ k0_cond4 (word i xt1) = 1#1) :
      RunGoal c i arg5 harg5 arg6 harg6 arg7 harg7 arg8 harg8 arg9 harg9 arg10 harg10 arg11 harg11 arg12 harg12 x0 x1 x2 x3 y xt0 xt1 xt2 := by
    intro E K
    simp only [cc0_moe_ffn_eq_skeleton]; unfold cc0_moe_ffn_skel
    simp only [k0_part1_eq_skeleton]
    unfold stepOut
    simp only [zeroed, if_pos hc1, if_neg hc2, if_pos hc3, if_neg hc4]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, HT0, HT1, HT2, Hk⟩
    obtain rfl := harg5.eq_unread hf0; obtain rfl := harg6.eq_unread hf1; obtain rfl := harg7.eq_unread hf2; obtain rfl := harg8.eq_unread hf3; obtain rfl := harg9.eq_unread hf4
    sl_exec (disch := first | sl_exact hc1 | sl_exact hc2 | sl_exact hc3 | sl_exact hc4)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; swap; · iexact H4
      ipureintro
      delta runC.sl.H4_1 runC.sl.r_1 runC.sl.r_2 runC.sl.v51 runC.sl.v53
      delta runC.sl.HS2_1 runC.sl.v37 runC.sl.v39
      delta runC.sl.HS0_1 runC.sl.HS1_1
      have hfull : ∀ g w L, arg9.view.read (Elt F) (arg9.view.writes (Elt F) g (⟨Rect.unit ![0, 0] ![1152, 2048] inb_S1152x2048_S1152x2048_0_0, w⟩ :: L)) = w :=
        fun g w L => View.read_writes_full arg9.view g inb_S1152x2048_S1152x2048_0_0 w L
      have hlow : ∀ g w L, arg9.view.read (Elt F) (arg9.view.writes (Elt F) g (⟨Rect.unit ![0, 0] ![384, 2048] inb_S1152x2048_S384x2048_0_0, w⟩ :: L))
          = VecWindow.put (arg9.view.read (Elt F) (arg9.view.writes (Elt F) g L)) ![0, 0] S384x2048.size w :=
        fun g w L => View.read_writes_cons_put arg9.view g inb_S1152x2048_S384x2048_0_0 w L rfl
      have hmid : ∀ g w L, arg9.view.read (Elt F) (arg9.view.writes (Elt F) g (⟨Rect.unit ![384, 0] ![384, 2048] inb_S1152x2048_S384x2048_384_0, w⟩ :: L))
          = VecWindow.put (arg9.view.read (Elt F) (arg9.view.writes (Elt F) g L)) ![384, 0] S384x2048.size w :=
        fun g w L => View.read_writes_cons_put arg9.view g inb_S1152x2048_S384x2048_384_0 w L rfl
      have hcov : ∀ L r, arg9.view.readCov (Val := Elt F) L r = arg9.view.readAt (Elt F) r (arg9.view.writes (Elt F) arg9.view.junk L) := fun _ _ => rfl
      have ra : ∀ g, arg9.view.readAt (Elt F) (Rect.unit ![0, 0] ![1152, 2048] inb_S1152x2048_S1152x2048_0_0).toLoadRect g = arg9.view.read (Elt F) g :=
        fun g => View.readAt_full arg9.view g inb_S1152x2048_S1152x2048_0_0
      have rl : ∀ g, arg9.view.readAt (Elt F) (Rect.unit ![0, 0] ![384, 2048] inb_S1152x2048_S384x2048_0_0).toLoadRect g
          = VecWindow.window (arg9.view.read (Elt F) g) ![0, 0] S384x2048.size inb_S1152x2048_S384x2048_0_0 := fun _ => rfl
      have rm : ∀ g, arg9.view.readAt (Elt F) (Rect.unit ![384, 0] ![384, 2048] inb_S1152x2048_S384x2048_384_0).toLoadRect g
          = VecWindow.window (arg9.view.read (Elt F) g) ![384, 0] S384x2048.size inb_S1152x2048_S384x2048_384_0 := fun _ => rfl
      have xa : ∀ g, arg5.view.readAt (Elt F) (Rect.unit ![0, 0] ![1152, 2048] inb_S1152x2048_S1152x2048_0_0).toLoadRect g = arg5.view.read (Elt F) g :=
        fun g => View.readAt_full arg5.view g inb_S1152x2048_S1152x2048_0_0
      have xl : ∀ g, arg5.view.readAt (Elt F) (Rect.unit ![0, 0] ![384, 2048] inb_S1152x2048_S384x2048_0_0).toLoadRect g
          = VecWindow.window (arg5.view.read (Elt F) g) ![0, 0] S384x2048.size inb_S1152x2048_S384x2048_0_0 := fun _ => rfl
      have xm : ∀ g, arg5.view.readAt (Elt F) (Rect.unit ![384, 0] ![384, 2048] inb_S1152x2048_S384x2048_384_0).toLoadRect g
          = VecWindow.window (arg5.view.read (Elt F) g) ![384, 0] S384x2048.size inb_S1152x2048_S384x2048_384_0 := fun _ => rfl
      have w1 : ∀ g, arg6.view.readAt (Elt F) (Rect.unit ![0, 0, 0] ![1, 2048, 256] inb_S1x2048x256_S1x2048x256_0_0_0).toLoadRect g = arg6.view.read (Elt F) g :=
        fun g => View.readAt_full arg6.view g inb_S1x2048x256_S1x2048x256_0_0_0
      have w3 : ∀ g, arg7.view.readAt (Elt F) (Rect.unit ![0, 0, 0] ![1, 2048, 256] inb_S1x2048x256_S1x2048x256_0_0_0).toLoadRect g = arg7.view.read (Elt F) g :=
        fun g => View.readAt_full arg7.view g inb_S1x2048x256_S1x2048x256_0_0_0
      have w2 : ∀ g, arg8.view.readAt (Elt F) (Rect.unit ![0, 0, 0] ![1, 256, 2048] inb_S1x256x2048_S1x256x2048_0_0_0).toLoadRect g = arg8.view.read (Elt F) g :=
        fun g => View.readAt_full arg8.view g inb_S1x256x2048_S1x256x2048_0_0_0
      have s1 : ∀ w L, arg10.view.readCov (Val := Elt F) (⟨Rect.unit ![0, 0] ![2048, 256] inb_S2048x256_S2048x256_0_0, w⟩ :: L) (Rect.unit ![0, 0] ![2048, 256] inb_S2048x256_S2048x256_0_0).toLoadRect = w :=
        fun w L => View.readCov_full arg10.view inb_S2048x256_S2048x256_0_0 inb_S2048x256_S2048x256_0_0 w L
      have s3 : ∀ w L, arg11.view.readCov (Val := Elt F) (⟨Rect.unit ![0, 0] ![2048, 256] inb_S2048x256_S2048x256_0_0, w⟩ :: L) (Rect.unit ![0, 0] ![2048, 256] inb_S2048x256_S2048x256_0_0).toLoadRect = w :=
        fun w L => View.readCov_full arg11.view inb_S2048x256_S2048x256_0_0 inb_S2048x256_S2048x256_0_0 w L
      have s2 : ∀ w L, arg12.view.readCov (Val := Elt F) (⟨Rect.unit ![0, 0] ![256, 2048] inb_S256x2048_S256x2048_0_0, w⟩ :: L) (Rect.unit ![0, 0] ![256, 2048] inb_S256x2048_S256x2048_0_0).toLoadRect = w :=
        fun w L => View.readCov_full arg12.view inb_S256x2048_S256x2048_0_0 inb_S256x2048_S256x2048_0_0 w L
      simp only [View.writes_nil, hcov, hfull, hlow, hmid, ra, rl, rm, xa, xl, xm, w1, w2, w3, s1, s2, s3, hf0, hf1, hf2, hf3, hf4, accAll, accLow, accMid]

    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    isplitl [HT1]; · iexact HT1
    iexact HT2

end Cert.KernelIdeal.Moe

end
-- ==== Proof.RunD.lean ====
/- One run of the expert kernel's body: the tile starts and has no rows. -/
module

public import proofs.«01_k».proof.Proof.RunC

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's triple where the tile starts and has no rows. -/
theorem runD (c : Dev nD) (i : grid0.Coords) (arg5 : Memref sig .tc .vmem S1152x2048 .bf16) (harg5 : arg5.IsWhole)
    (arg6 : Memref sig .tc .vmem S1x2048x256 .f32) (harg6 : arg6.IsWhole) (arg7 : Memref sig .tc .vmem S1x2048x256 .f32) (harg7 : arg7.IsWhole)
    (arg8 : Memref sig .tc .vmem S1x256x2048 .f32) (harg8 : arg8.IsWhole) (arg9 : Memref sig .tc .vmem S1152x2048 .f32) (harg9 : arg9.IsWhole)
    (arg10 : Memref sig .tc .vmem S2048x256 .bf16) (harg10 : arg10.IsWhole) (arg11 : Memref sig .tc .vmem S2048x256 .bf16) (harg11 : arg11.IsWhole)
    (arg12 : Memref sig .tc .vmem S256x2048 .bf16) (harg12 : arg12.IsWhole)
    (x0 : Vec F S1152x2048 .bf16) (x1 : Vec F S1x2048x256 .f32) (x2 : Vec F S1x2048x256 .f32) (x3 : Vec F S1x256x2048 .f32) (y : Vec F S1152x2048 .f32)
    (xt0 : TbBuf (F := F) c tbM0) (xt1 : TbBuf (F := F) c tbM1) (xt2 : TbBuf (F := F) c tbM2)
    (hc1 : k0_cond1 i = 1#1) (hc2 : ¬ k0_cond2 (word i xt1) = 1#1) (hc3 : ¬ k0_cond3 (word i xt1) = 1#1) (hc4 : ¬ k0_cond4 (word i xt1) = 1#1) :
      RunGoal c i arg5 harg5 arg6 harg6 arg7 harg7 arg8 harg8 arg9 harg9 arg10 harg10 arg11 harg11 arg12 harg12 x0 x1 x2 x3 y xt0 xt1 xt2 := by
    intro E K
    simp only [cc0_moe_ffn_eq_skeleton]; unfold cc0_moe_ffn_skel
    simp only [k0_part1_eq_skeleton]
    unfold stepOut
    simp only [zeroed, if_pos hc1, if_neg hc2, if_neg hc3, if_neg hc4]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, HT0, HT1, HT2, Hk⟩
    obtain rfl := harg5.eq_unread hf0; obtain rfl := harg6.eq_unread hf1; obtain rfl := harg7.eq_unread hf2; obtain rfl := harg8.eq_unread hf3; obtain rfl := harg9.eq_unread hf4
    sl_exec (disch := first | sl_exact hc1 | sl_exact hc2 | sl_exact hc3 | sl_exact hc4)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; swap; · iexact H4
      ipureintro
      have hfull : ∀ g w L, arg9.view.read (Elt F) (arg9.view.writes (Elt F) g (⟨Rect.unit ![0, 0] ![1152, 2048] inb_S1152x2048_S1152x2048_0_0, w⟩ :: L)) = w :=
        fun g w L => View.read_writes_full arg9.view g inb_S1152x2048_S1152x2048_0_0 w L
      have hlow : ∀ g w L, arg9.view.read (Elt F) (arg9.view.writes (Elt F) g (⟨Rect.unit ![0, 0] ![384, 2048] inb_S1152x2048_S384x2048_0_0, w⟩ :: L))
          = VecWindow.put (arg9.view.read (Elt F) (arg9.view.writes (Elt F) g L)) ![0, 0] S384x2048.size w :=
        fun g w L => View.read_writes_cons_put arg9.view g inb_S1152x2048_S384x2048_0_0 w L rfl
      have hmid : ∀ g w L, arg9.view.read (Elt F) (arg9.view.writes (Elt F) g (⟨Rect.unit ![384, 0] ![384, 2048] inb_S1152x2048_S384x2048_384_0, w⟩ :: L))
          = VecWindow.put (arg9.view.read (Elt F) (arg9.view.writes (Elt F) g L)) ![384, 0] S384x2048.size w :=
        fun g w L => View.read_writes_cons_put arg9.view g inb_S1152x2048_S384x2048_384_0 w L rfl
      have hcov : ∀ L r, arg9.view.readCov (Val := Elt F) L r = arg9.view.readAt (Elt F) r (arg9.view.writes (Elt F) arg9.view.junk L) := fun _ _ => rfl
      have ra : ∀ g, arg9.view.readAt (Elt F) (Rect.unit ![0, 0] ![1152, 2048] inb_S1152x2048_S1152x2048_0_0).toLoadRect g = arg9.view.read (Elt F) g :=
        fun g => View.readAt_full arg9.view g inb_S1152x2048_S1152x2048_0_0
      have rl : ∀ g, arg9.view.readAt (Elt F) (Rect.unit ![0, 0] ![384, 2048] inb_S1152x2048_S384x2048_0_0).toLoadRect g
          = VecWindow.window (arg9.view.read (Elt F) g) ![0, 0] S384x2048.size inb_S1152x2048_S384x2048_0_0 := fun _ => rfl
      have rm : ∀ g, arg9.view.readAt (Elt F) (Rect.unit ![384, 0] ![384, 2048] inb_S1152x2048_S384x2048_384_0).toLoadRect g
          = VecWindow.window (arg9.view.read (Elt F) g) ![384, 0] S384x2048.size inb_S1152x2048_S384x2048_384_0 := fun _ => rfl
      have xa : ∀ g, arg5.view.readAt (Elt F) (Rect.unit ![0, 0] ![1152, 2048] inb_S1152x2048_S1152x2048_0_0).toLoadRect g = arg5.view.read (Elt F) g :=
        fun g => View.readAt_full arg5.view g inb_S1152x2048_S1152x2048_0_0
      have xl : ∀ g, arg5.view.readAt (Elt F) (Rect.unit ![0, 0] ![384, 2048] inb_S1152x2048_S384x2048_0_0).toLoadRect g
          = VecWindow.window (arg5.view.read (Elt F) g) ![0, 0] S384x2048.size inb_S1152x2048_S384x2048_0_0 := fun _ => rfl
      have xm : ∀ g, arg5.view.readAt (Elt F) (Rect.unit ![384, 0] ![384, 2048] inb_S1152x2048_S384x2048_384_0).toLoadRect g
          = VecWindow.window (arg5.view.read (Elt F) g) ![384, 0] S384x2048.size inb_S1152x2048_S384x2048_384_0 := fun _ => rfl
      have w1 : ∀ g, arg6.view.readAt (Elt F) (Rect.unit ![0, 0, 0] ![1, 2048, 256] inb_S1x2048x256_S1x2048x256_0_0_0).toLoadRect g = arg6.view.read (Elt F) g :=
        fun g => View.readAt_full arg6.view g inb_S1x2048x256_S1x2048x256_0_0_0
      have w3 : ∀ g, arg7.view.readAt (Elt F) (Rect.unit ![0, 0, 0] ![1, 2048, 256] inb_S1x2048x256_S1x2048x256_0_0_0).toLoadRect g = arg7.view.read (Elt F) g :=
        fun g => View.readAt_full arg7.view g inb_S1x2048x256_S1x2048x256_0_0_0
      have w2 : ∀ g, arg8.view.readAt (Elt F) (Rect.unit ![0, 0, 0] ![1, 256, 2048] inb_S1x256x2048_S1x256x2048_0_0_0).toLoadRect g = arg8.view.read (Elt F) g :=
        fun g => View.readAt_full arg8.view g inb_S1x256x2048_S1x256x2048_0_0_0
      have s1 : ∀ w L, arg10.view.readCov (Val := Elt F) (⟨Rect.unit ![0, 0] ![2048, 256] inb_S2048x256_S2048x256_0_0, w⟩ :: L) (Rect.unit ![0, 0] ![2048, 256] inb_S2048x256_S2048x256_0_0).toLoadRect = w :=
        fun w L => View.readCov_full arg10.view inb_S2048x256_S2048x256_0_0 inb_S2048x256_S2048x256_0_0 w L
      have s3 : ∀ w L, arg11.view.readCov (Val := Elt F) (⟨Rect.unit ![0, 0] ![2048, 256] inb_S2048x256_S2048x256_0_0, w⟩ :: L) (Rect.unit ![0, 0] ![2048, 256] inb_S2048x256_S2048x256_0_0).toLoadRect = w :=
        fun w L => View.readCov_full arg11.view inb_S2048x256_S2048x256_0_0 inb_S2048x256_S2048x256_0_0 w L
      have s2 : ∀ w L, arg12.view.readCov (Val := Elt F) (⟨Rect.unit ![0, 0] ![256, 2048] inb_S256x2048_S256x2048_0_0, w⟩ :: L) (Rect.unit ![0, 0] ![256, 2048] inb_S256x2048_S256x2048_0_0).toLoadRect = w :=
        fun w L => View.readCov_full arg12.view inb_S256x2048_S256x2048_0_0 inb_S256x2048_S256x2048_0_0 w L
      simp only [View.writes_nil, hcov, hfull, hlow, hmid, ra, rl, rm, xa, xl, xm, w1, w2, w3, s1, s2, s3, hf0, hf1, hf2, hf3, hf4, accAll, accLow, accMid]

    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    isplitl [HT1]; · iexact HT1
    iexact HT2

end Cert.KernelIdeal.Moe

end
-- ==== Proof.RunE.lean ====
/- One run of the expert kernel's body: the tile goes on and all its rows run. -/
module

public import proofs.«01_k».proof.Proof.RunD

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's triple where the tile goes on and all its rows run. -/
theorem runE (c : Dev nD) (i : grid0.Coords) (arg5 : Memref sig .tc .vmem S1152x2048 .bf16) (harg5 : arg5.IsWhole)
    (arg6 : Memref sig .tc .vmem S1x2048x256 .f32) (harg6 : arg6.IsWhole) (arg7 : Memref sig .tc .vmem S1x2048x256 .f32) (harg7 : arg7.IsWhole)
    (arg8 : Memref sig .tc .vmem S1x256x2048 .f32) (harg8 : arg8.IsWhole) (arg9 : Memref sig .tc .vmem S1152x2048 .f32) (harg9 : arg9.IsWhole)
    (arg10 : Memref sig .tc .vmem S2048x256 .bf16) (harg10 : arg10.IsWhole) (arg11 : Memref sig .tc .vmem S2048x256 .bf16) (harg11 : arg11.IsWhole)
    (arg12 : Memref sig .tc .vmem S256x2048 .bf16) (harg12 : arg12.IsWhole)
    (x0 : Vec F S1152x2048 .bf16) (x1 : Vec F S1x2048x256 .f32) (x2 : Vec F S1x2048x256 .f32) (x3 : Vec F S1x256x2048 .f32) (y : Vec F S1152x2048 .f32)
    (xt0 : TbBuf (F := F) c tbM0) (xt1 : TbBuf (F := F) c tbM1) (xt2 : TbBuf (F := F) c tbM2)
    (hc1 : ¬ k0_cond1 i = 1#1) (hc2 : k0_cond2 (word i xt1) = 1#1) (hc3 : ¬ k0_cond3 (word i xt1) = 1#1) (hc4 : ¬ k0_cond4 (word i xt1) = 1#1) :
      RunGoal c i arg5 harg5 arg6 harg6 arg7 harg7 arg8 harg8 arg9 harg9 arg10 harg10 arg11 harg11 arg12 harg12 x0 x1 x2 x3 y xt0 xt1 xt2 := by
    intro E K
    simp only [cc0_moe_ffn_eq_skeleton]; unfold cc0_moe_ffn_skel
    simp only [k0_part1_eq_skeleton]
    unfold stepOut
    simp only [zeroed, if_neg hc1, if_pos hc2, if_neg hc3, if_neg hc4]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, HT0, HT1, HT2, Hk⟩
    obtain rfl := harg5.eq_unread hf0; obtain rfl := harg6.eq_unread hf1; obtain rfl := harg7.eq_unread hf2; obtain rfl := harg8.eq_unread hf3; obtain rfl := harg9.eq_unread hf4
    sl_exec (disch := first | sl_exact hc1 | sl_exact hc2 | sl_exact hc3 | sl_exact hc4)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; swap; · iexact H4
      ipureintro
      have hfull : ∀ g w L, arg9.view.read (Elt F) (arg9.view.writes (Elt F) g (⟨Rect.unit ![0, 0] ![1152, 2048] inb_S1152x2048_S1152x2048_0_0, w⟩ :: L)) = w :=
        fun g w L => View.read_writes_full arg9.view g inb_S1152x2048_S1152x2048_0_0 w L
      have hlow : ∀ g w L, arg9.view.read (Elt F) (arg9.view.writes (Elt F) g (⟨Rect.unit ![0, 0] ![384, 2048] inb_S1152x2048_S384x2048_0_0, w⟩ :: L))
          = VecWindow.put (arg9.view.read (Elt F) (arg9.view.writes (Elt F) g L)) ![0, 0] S384x2048.size w :=
        fun g w L => View.read_writes_cons_put arg9.view g inb_S1152x2048_S384x2048_0_0 w L rfl
      have hmid : ∀ g w L, arg9.view.read (Elt F) (arg9.view.writes (Elt F) g (⟨Rect.unit ![384, 0] ![384, 2048] inb_S1152x2048_S384x2048_384_0, w⟩ :: L))
          = VecWindow.put (arg9.view.read (Elt F) (arg9.view.writes (Elt F) g L)) ![384, 0] S384x2048.size w :=
        fun g w L => View.read_writes_cons_put arg9.view g inb_S1152x2048_S384x2048_384_0 w L rfl
      have hcov : ∀ L r, arg9.view.readCov (Val := Elt F) L r = arg9.view.readAt (Elt F) r (arg9.view.writes (Elt F) arg9.view.junk L) := fun _ _ => rfl
      have ra : ∀ g, arg9.view.readAt (Elt F) (Rect.unit ![0, 0] ![1152, 2048] inb_S1152x2048_S1152x2048_0_0).toLoadRect g = arg9.view.read (Elt F) g :=
        fun g => View.readAt_full arg9.view g inb_S1152x2048_S1152x2048_0_0
      have rl : ∀ g, arg9.view.readAt (Elt F) (Rect.unit ![0, 0] ![384, 2048] inb_S1152x2048_S384x2048_0_0).toLoadRect g
          = VecWindow.window (arg9.view.read (Elt F) g) ![0, 0] S384x2048.size inb_S1152x2048_S384x2048_0_0 := fun _ => rfl
      have rm : ∀ g, arg9.view.readAt (Elt F) (Rect.unit ![384, 0] ![384, 2048] inb_S1152x2048_S384x2048_384_0).toLoadRect g
          = VecWindow.window (arg9.view.read (Elt F) g) ![384, 0] S384x2048.size inb_S1152x2048_S384x2048_384_0 := fun _ => rfl
      have xa : ∀ g, arg5.view.readAt (Elt F) (Rect.unit ![0, 0] ![1152, 2048] inb_S1152x2048_S1152x2048_0_0).toLoadRect g = arg5.view.read (Elt F) g :=
        fun g => View.readAt_full arg5.view g inb_S1152x2048_S1152x2048_0_0
      have xl : ∀ g, arg5.view.readAt (Elt F) (Rect.unit ![0, 0] ![384, 2048] inb_S1152x2048_S384x2048_0_0).toLoadRect g
          = VecWindow.window (arg5.view.read (Elt F) g) ![0, 0] S384x2048.size inb_S1152x2048_S384x2048_0_0 := fun _ => rfl
      have xm : ∀ g, arg5.view.readAt (Elt F) (Rect.unit ![384, 0] ![384, 2048] inb_S1152x2048_S384x2048_384_0).toLoadRect g
          = VecWindow.window (arg5.view.read (Elt F) g) ![384, 0] S384x2048.size inb_S1152x2048_S384x2048_384_0 := fun _ => rfl
      have w1 : ∀ g, arg6.view.readAt (Elt F) (Rect.unit ![0, 0, 0] ![1, 2048, 256] inb_S1x2048x256_S1x2048x256_0_0_0).toLoadRect g = arg6.view.read (Elt F) g :=
        fun g => View.readAt_full arg6.view g inb_S1x2048x256_S1x2048x256_0_0_0
      have w3 : ∀ g, arg7.view.readAt (Elt F) (Rect.unit ![0, 0, 0] ![1, 2048, 256] inb_S1x2048x256_S1x2048x256_0_0_0).toLoadRect g = arg7.view.read (Elt F) g :=
        fun g => View.readAt_full arg7.view g inb_S1x2048x256_S1x2048x256_0_0_0
      have w2 : ∀ g, arg8.view.readAt (Elt F) (Rect.unit ![0, 0, 0] ![1, 256, 2048] inb_S1x256x2048_S1x256x2048_0_0_0).toLoadRect g = arg8.view.read (Elt F) g :=
        fun g => View.readAt_full arg8.view g inb_S1x256x2048_S1x256x2048_0_0_0
      have s1 : ∀ w L, arg10.view.readCov (Val := Elt F) (⟨Rect.unit ![0, 0] ![2048, 256] inb_S2048x256_S2048x256_0_0, w⟩ :: L) (Rect.unit ![0, 0] ![2048, 256] inb_S2048x256_S2048x256_0_0).toLoadRect = w :=
        fun w L => View.readCov_full arg10.view inb_S2048x256_S2048x256_0_0 inb_S2048x256_S2048x256_0_0 w L
      have s3 : ∀ w L, arg11.view.readCov (Val := Elt F) (⟨Rect.unit ![0, 0] ![2048, 256] inb_S2048x256_S2048x256_0_0, w⟩ :: L) (Rect.unit ![0, 0] ![2048, 256] inb_S2048x256_S2048x256_0_0).toLoadRect = w :=
        fun w L => View.readCov_full arg11.view inb_S2048x256_S2048x256_0_0 inb_S2048x256_S2048x256_0_0 w L
      have s2 : ∀ w L, arg12.view.readCov (Val := Elt F) (⟨Rect.unit ![0, 0] ![256, 2048] inb_S256x2048_S256x2048_0_0, w⟩ :: L) (Rect.unit ![0, 0] ![256, 2048] inb_S256x2048_S256x2048_0_0).toLoadRect = w :=
        fun w L => View.readCov_full arg12.view inb_S256x2048_S256x2048_0_0 inb_S256x2048_S256x2048_0_0 w L
      simp only [View.writes_nil, hcov, hfull, hlow, hmid, ra, rl, rm, xa, xl, xm, w1, w2, w3, s1, s2, s3, hf0, hf1, hf2, hf3, hf4, accAll, accLow, accMid]

    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    isplitl [HT1]; · iexact HT1
    iexact HT2

end Cert.KernelIdeal.Moe

end
-- ==== Proof.RunG.lean ====
/- One run of the expert kernel's body: the tile goes on and its first two thirds run. -/
module

public import proofs.«01_k».proof.Proof.RunE

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Rows 384 to 767 do not see a store to rows 0 to 383. -/
theorem window_mid_put_low (y : Vec F S1152x2048 .f32) (w : (Rect.unit (s := S1152x2048) ![0, 0] S384x2048.size inb_S1152x2048_S384x2048_0_0).shape.Idx → Elt F EltTy.f32) :
    VecWindow.window (VecWindow.put y ![0, 0] S384x2048.size w) ![384, 0] S384x2048.size inb_S1152x2048_S384x2048_384_0
      = VecWindow.window y ![384, 0] S384x2048.size inb_S1152x2048_S384x2048_384_0 := by
  funext j
  unfold VecWindow.window VecWindow.put
  rw [dif_neg]
  intro h
  have h0 := (h 0).2
  have : 384 + 1 * (j 0).val < 0 + 384 := h0
  omega

set_option maxHeartbeats 2000000 in
/-- The body's triple where the tile goes on and its first two thirds run. -/
theorem runG (c : Dev nD) (i : grid0.Coords) (arg5 : Memref sig .tc .vmem S1152x2048 .bf16) (harg5 : arg5.IsWhole)
    (arg6 : Memref sig .tc .vmem S1x2048x256 .f32) (harg6 : arg6.IsWhole) (arg7 : Memref sig .tc .vmem S1x2048x256 .f32) (harg7 : arg7.IsWhole)
    (arg8 : Memref sig .tc .vmem S1x256x2048 .f32) (harg8 : arg8.IsWhole) (arg9 : Memref sig .tc .vmem S1152x2048 .f32) (harg9 : arg9.IsWhole)
    (arg10 : Memref sig .tc .vmem S2048x256 .bf16) (harg10 : arg10.IsWhole) (arg11 : Memref sig .tc .vmem S2048x256 .bf16) (harg11 : arg11.IsWhole)
    (arg12 : Memref sig .tc .vmem S256x2048 .bf16) (harg12 : arg12.IsWhole)
    (x0 : Vec F S1152x2048 .bf16) (x1 : Vec F S1x2048x256 .f32) (x2 : Vec F S1x2048x256 .f32) (x3 : Vec F S1x256x2048 .f32) (y : Vec F S1152x2048 .f32)
    (xt0 : TbBuf (F := F) c tbM0) (xt1 : TbBuf (F := F) c tbM1) (xt2 : TbBuf (F := F) c tbM2)
    (hc1 : ¬ k0_cond1 i = 1#1) (hc2 : ¬ k0_cond2 (word i xt1) = 1#1) (hc3 : k0_cond3 (word i xt1) = 1#1) (hc4 : k0_cond4 (word i xt1) = 1#1) :
      RunGoal c i arg5 harg5 arg6 harg6 arg7 harg7 arg8 harg8 arg9 harg9 arg10 harg10 arg11 harg11 arg12 harg12 x0 x1 x2 x3 y xt0 xt1 xt2 := by
    intro E K
    simp only [cc0_moe_ffn_eq_skeleton]; unfold cc0_moe_ffn_skel
    simp only [k0_part1_eq_skeleton]
    unfold stepOut
    simp only [zeroed, if_neg hc1, if_neg hc2, if_pos hc3, if_pos hc4]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, HT0, HT1, HT2, Hk⟩
    obtain rfl := harg5.eq_unread hf0; obtain rfl := harg6.eq_unread hf1; obtain rfl := harg7.eq_unread hf2; obtain rfl := harg8.eq_unread hf3; obtain rfl := harg9.eq_unread hf4
    sl_exec (disch := first | sl_exact hc1 | sl_exact hc2 | sl_exact hc3 | sl_exact hc4)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; swap; · iexact H4
      ipureintro
      delta runG.sl.r_1 runG.sl.r_2 runG.sl.v19 runG.sl.v21 runG.sl.v33 runG.sl.v53
      delta runG.sl.HS0_1 runG.sl.HS1_1 runG.sl.HS2_1 runG.sl.v37 runG.sl.v39
      have hfull : ∀ g w L, arg9.view.read (Elt F) (arg9.view.writes (Elt F) g (⟨Rect.unit ![0, 0] ![1152, 2048] inb_S1152x2048_S1152x2048_0_0, w⟩ :: L)) = w :=
        fun g w L => View.read_writes_full arg9.view g inb_S1152x2048_S1152x2048_0_0 w L
      have hlow : ∀ g w L, arg9.view.read (Elt F) (arg9.view.writes (Elt F) g (⟨Rect.unit ![0, 0] ![384, 2048] inb_S1152x2048_S384x2048_0_0, w⟩ :: L))
          = VecWindow.put (arg9.view.read (Elt F) (arg9.view.writes (Elt F) g L)) ![0, 0] S384x2048.size w :=
        fun g w L => View.read_writes_cons_put arg9.view g inb_S1152x2048_S384x2048_0_0 w L rfl
      have hmid : ∀ g w L, arg9.view.read (Elt F) (arg9.view.writes (Elt F) g (⟨Rect.unit ![384, 0] ![384, 2048] inb_S1152x2048_S384x2048_384_0, w⟩ :: L))
          = VecWindow.put (arg9.view.read (Elt F) (arg9.view.writes (Elt F) g L)) ![384, 0] S384x2048.size w :=
        fun g w L => View.read_writes_cons_put arg9.view g inb_S1152x2048_S384x2048_384_0 w L rfl
      have hcov : ∀ L r, arg9.view.readCov (Val := Elt F) L r = arg9.view.readAt (Elt F) r (arg9.view.writes (Elt F) arg9.view.junk L) := fun _ _ => rfl
      have ra : ∀ g, arg9.view.readAt (Elt F) (Rect.unit ![0, 0] ![1152, 2048] inb_S1152x2048_S1152x2048_0_0).toLoadRect g = arg9.view.read (Elt F) g :=
        fun g => View.readAt_full arg9.view g inb_S1152x2048_S1152x2048_0_0
      have rl : ∀ g, arg9.view.readAt (Elt F) (Rect.unit ![0, 0] ![384, 2048] inb_S1152x2048_S384x2048_0_0).toLoadRect g
          = VecWindow.window (arg9.view.read (Elt F) g) ![0, 0] S384x2048.size inb_S1152x2048_S384x2048_0_0 := fun _ => rfl
      have rm : ∀ g, arg9.view.readAt (Elt F) (Rect.unit ![384, 0] ![384, 2048] inb_S1152x2048_S384x2048_384_0).toLoadRect g
          = VecWindow.window (arg9.view.read (Elt F) g) ![384, 0] S384x2048.size inb_S1152x2048_S384x2048_384_0 := fun _ => rfl
      have xa : ∀ g, arg5.view.readAt (Elt F) (Rect.unit ![0, 0] ![1152, 2048] inb_S1152x2048_S1152x2048_0_0).toLoadRect g = arg5.view.read (Elt F) g :=
        fun g => View.readAt_full arg5.view g inb_S1152x2048_S1152x2048_0_0
      have xl : ∀ g, arg5.view.readAt (Elt F) (Rect.unit ![0, 0] ![384, 2048] inb_S1152x2048_S384x2048_0_0).toLoadRect g
          = VecWindow.window (arg5.view.read (Elt F) g) ![0, 0] S384x2048.size inb_S1152x2048_S384x2048_0_0 := fun _ => rfl
      have xm : ∀ g, arg5.view.readAt (Elt F) (Rect.unit ![384, 0] ![384, 2048] inb_S1152x2048_S384x2048_384_0).toLoadRect g
          = VecWindow.window (arg5.view.read (Elt F) g) ![384, 0] S384x2048.size inb_S1152x2048_S384x2048_384_0 := fun _ => rfl
      have w1 : ∀ g, arg6.view.readAt (Elt F) (Rect.unit ![0, 0, 0] ![1, 2048, 256] inb_S1x2048x256_S1x2048x256_0_0_0).toLoadRect g = arg6.view.read (Elt F) g :=
        fun g => View.readAt_full arg6.view g inb_S1x2048x256_S1x2048x256_0_0_0
      have w3 : ∀ g, arg7.view.readAt (Elt F) (Rect.unit ![0, 0, 0] ![1, 2048, 256] inb_S1x2048x256_S1x2048x256_0_0_0).toLoadRect g = arg7.view.read (Elt F) g :=
        fun g => View.readAt_full arg7.view g inb_S1x2048x256_S1x2048x256_0_0_0
      have w2 : ∀ g, arg8.view.readAt (Elt F) (Rect.unit ![0, 0, 0] ![1, 256, 2048] inb_S1x256x2048_S1x256x2048_0_0_0).toLoadRect g = arg8.view.read (Elt F) g :=
        fun g => View.readAt_full arg8.view g inb_S1x256x2048_S1x256x2048_0_0_0
      have s1 : ∀ w L, arg10.view.readCov (Val := Elt F) (⟨Rect.unit ![0, 0] ![2048, 256] inb_S2048x256_S2048x256_0_0, w⟩ :: L) (Rect.unit ![0, 0] ![2048, 256] inb_S2048x256_S2048x256_0_0).toLoadRect = w :=
        fun w L => View.readCov_full arg10.view inb_S2048x256_S2048x256_0_0 inb_S2048x256_S2048x256_0_0 w L
      have s3 : ∀ w L, arg11.view.readCov (Val := Elt F) (⟨Rect.unit ![0, 0] ![2048, 256] inb_S2048x256_S2048x256_0_0, w⟩ :: L) (Rect.unit ![0, 0] ![2048, 256] inb_S2048x256_S2048x256_0_0).toLoadRect = w :=
        fun w L => View.readCov_full arg11.view inb_S2048x256_S2048x256_0_0 inb_S2048x256_S2048x256_0_0 w L
      have s2 : ∀ w L, arg12.view.readCov (Val := Elt F) (⟨Rect.unit ![0, 0] ![256, 2048] inb_S256x2048_S256x2048_0_0, w⟩ :: L) (Rect.unit ![0, 0] ![256, 2048] inb_S256x2048_S256x2048_0_0).toLoadRect = w :=
        fun w L => View.readCov_full arg12.view inb_S256x2048_S256x2048_0_0 inb_S256x2048_S256x2048_0_0 w L
      simp only [View.writes_nil, hcov, hfull, hlow, hmid, ra, rl, rm, xa, xl, xm, w1, w2, w3, s1, s2, s3, hf0, hf1, hf2, hf3, hf4, accAll, accLow, accMid]
      rw [window_mid_put_low]

    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    isplitl [HT1]; · iexact HT1
    iexact HT2

end Cert.KernelIdeal.Moe

end
-- ==== Proof.RunH.lean ====
/- One run of the expert kernel's body: the tile goes on and its first third runs. -/
module

public import proofs.«01_k».proof.Proof.RunG

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's triple where the tile goes on and its first third runs. -/
theorem runH (c : Dev nD) (i : grid0.Coords) (arg5 : Memref sig .tc .vmem S1152x2048 .bf16) (harg5 : arg5.IsWhole)
    (arg6 : Memref sig .tc .vmem S1x2048x256 .f32) (harg6 : arg6.IsWhole) (arg7 : Memref sig .tc .vmem S1x2048x256 .f32) (harg7 : arg7.IsWhole)
    (arg8 : Memref sig .tc .vmem S1x256x2048 .f32) (harg8 : arg8.IsWhole) (arg9 : Memref sig .tc .vmem S1152x2048 .f32) (harg9 : arg9.IsWhole)
    (arg10 : Memref sig .tc .vmem S2048x256 .bf16) (harg10 : arg10.IsWhole) (arg11 : Memref sig .tc .vmem S2048x256 .bf16) (harg11 : arg11.IsWhole)
    (arg12 : Memref sig .tc .vmem S256x2048 .bf16) (harg12 : arg12.IsWhole)
    (x0 : Vec F S1152x2048 .bf16) (x1 : Vec F S1x2048x256 .f32) (x2 : Vec F S1x2048x256 .f32) (x3 : Vec F S1x256x2048 .f32) (y : Vec F S1152x2048 .f32)
    (xt0 : TbBuf (F := F) c tbM0) (xt1 : TbBuf (F := F) c tbM1) (xt2 : TbBuf (F := F) c tbM2)
    (hc1 : ¬ k0_cond1 i = 1#1) (hc2 : ¬ k0_cond2 (word i xt1) = 1#1) (hc3 : k0_cond3 (word i xt1) = 1#1) (hc4 : ¬ k0_cond4 (word i xt1) = 1#1) :
      RunGoal c i arg5 harg5 arg6 harg6 arg7 harg7 arg8 harg8 arg9 harg9 arg10 harg10 arg11 harg11 arg12 harg12 x0 x1 x2 x3 y xt0 xt1 xt2 := by
    intro E K
    simp only [cc0_moe_ffn_eq_skeleton]; unfold cc0_moe_ffn_skel
    simp only [k0_part1_eq_skeleton]
    unfold stepOut
    simp only [zeroed, if_neg hc1, if_neg hc2, if_pos hc3, if_neg hc4]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, HT0, HT1, HT2, Hk⟩
    obtain rfl := harg5.eq_unread hf0; obtain rfl := harg6.eq_unread hf1; obtain rfl := harg7.eq_unread hf2; obtain rfl := harg8.eq_unread hf3; obtain rfl := harg9.eq_unread hf4
    sl_exec (disch := first | sl_exact hc1 | sl_exact hc2 | sl_exact hc3 | sl_exact hc4)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; swap; · iexact H4
      ipureintro
      delta runH.sl.r_1 runH.sl.r_2 runH.sl.v53
      delta runH.sl.HS2_1 runH.sl.v37 runH.sl.v39
      delta runH.sl.HS0_1 runH.sl.HS1_1
      have hfull : ∀ g w L, arg9.view.read (Elt F) (arg9.view.writes (Elt F) g (⟨Rect.unit ![0, 0] ![1152, 2048] inb_S1152x2048_S1152x2048_0_0, w⟩ :: L)) = w :=
        fun g w L => View.read_writes_full arg9.view g inb_S1152x2048_S1152x2048_0_0 w L
      have hlow : ∀ g w L, arg9.view.read (Elt F) (arg9.view.writes (Elt F) g (⟨Rect.unit ![0, 0] ![384, 2048] inb_S1152x2048_S384x2048_0_0, w⟩ :: L))
          = VecWindow.put (arg9.view.read (Elt F) (arg9.view.writes (Elt F) g L)) ![0, 0] S384x2048.size w :=
        fun g w L => View.read_writes_cons_put arg9.view g inb_S1152x2048_S384x2048_0_0 w L rfl
      have hmid : ∀ g w L, arg9.view.read (Elt F) (arg9.view.writes (Elt F) g (⟨Rect.unit ![384, 0] ![384, 2048] inb_S1152x2048_S384x2048_384_0, w⟩ :: L))
          = VecWindow.put (arg9.view.read (Elt F) (arg9.view.writes (Elt F) g L)) ![384, 0] S384x2048.size w :=
        fun g w L => View.read_writes_cons_put arg9.view g inb_S1152x2048_S384x2048_384_0 w L rfl
      have hcov : ∀ L r, arg9.view.readCov (Val := Elt F) L r = arg9.view.readAt (Elt F) r (arg9.view.writes (Elt F) arg9.view.junk L) := fun _ _ => rfl
      have ra : ∀ g, arg9.view.readAt (Elt F) (Rect.unit ![0, 0] ![1152, 2048] inb_S1152x2048_S1152x2048_0_0).toLoadRect g = arg9.view.read (Elt F) g :=
        fun g => View.readAt_full arg9.view g inb_S1152x2048_S1152x2048_0_0
      have rl : ∀ g, arg9.view.readAt (Elt F) (Rect.unit ![0, 0] ![384, 2048] inb_S1152x2048_S384x2048_0_0).toLoadRect g
          = VecWindow.window (arg9.view.read (Elt F) g) ![0, 0] S384x2048.size inb_S1152x2048_S384x2048_0_0 := fun _ => rfl
      have rm : ∀ g, arg9.view.readAt (Elt F) (Rect.unit ![384, 0] ![384, 2048] inb_S1152x2048_S384x2048_384_0).toLoadRect g
          = VecWindow.window (arg9.view.read (Elt F) g) ![384, 0] S384x2048.size inb_S1152x2048_S384x2048_384_0 := fun _ => rfl
      have xa : ∀ g, arg5.view.readAt (Elt F) (Rect.unit ![0, 0] ![1152, 2048] inb_S1152x2048_S1152x2048_0_0).toLoadRect g = arg5.view.read (Elt F) g :=
        fun g => View.readAt_full arg5.view g inb_S1152x2048_S1152x2048_0_0
      have xl : ∀ g, arg5.view.readAt (Elt F) (Rect.unit ![0, 0] ![384, 2048] inb_S1152x2048_S384x2048_0_0).toLoadRect g
          = VecWindow.window (arg5.view.read (Elt F) g) ![0, 0] S384x2048.size inb_S1152x2048_S384x2048_0_0 := fun _ => rfl
      have xm : ∀ g, arg5.view.readAt (Elt F) (Rect.unit ![384, 0] ![384, 2048] inb_S1152x2048_S384x2048_384_0).toLoadRect g
          = VecWindow.window (arg5.view.read (Elt F) g) ![384, 0] S384x2048.size inb_S1152x2048_S384x2048_384_0 := fun _ => rfl
      have w1 : ∀ g, arg6.view.readAt (Elt F) (Rect.unit ![0, 0, 0] ![1, 2048, 256] inb_S1x2048x256_S1x2048x256_0_0_0).toLoadRect g = arg6.view.read (Elt F) g :=
        fun g => View.readAt_full arg6.view g inb_S1x2048x256_S1x2048x256_0_0_0
      have w3 : ∀ g, arg7.view.readAt (Elt F) (Rect.unit ![0, 0, 0] ![1, 2048, 256] inb_S1x2048x256_S1x2048x256_0_0_0).toLoadRect g = arg7.view.read (Elt F) g :=
        fun g => View.readAt_full arg7.view g inb_S1x2048x256_S1x2048x256_0_0_0
      have w2 : ∀ g, arg8.view.readAt (Elt F) (Rect.unit ![0, 0, 0] ![1, 256, 2048] inb_S1x256x2048_S1x256x2048_0_0_0).toLoadRect g = arg8.view.read (Elt F) g :=
        fun g => View.readAt_full arg8.view g inb_S1x256x2048_S1x256x2048_0_0_0
      have s1 : ∀ w L, arg10.view.readCov (Val := Elt F) (⟨Rect.unit ![0, 0] ![2048, 256] inb_S2048x256_S2048x256_0_0, w⟩ :: L) (Rect.unit ![0, 0] ![2048, 256] inb_S2048x256_S2048x256_0_0).toLoadRect = w :=
        fun w L => View.readCov_full arg10.view inb_S2048x256_S2048x256_0_0 inb_S2048x256_S2048x256_0_0 w L
      have s3 : ∀ w L, arg11.view.readCov (Val := Elt F) (⟨Rect.unit ![0, 0] ![2048, 256] inb_S2048x256_S2048x256_0_0, w⟩ :: L) (Rect.unit ![0, 0] ![2048, 256] inb_S2048x256_S2048x256_0_0).toLoadRect = w :=
        fun w L => View.readCov_full arg11.view inb_S2048x256_S2048x256_0_0 inb_S2048x256_S2048x256_0_0 w L
      have s2 : ∀ w L, arg12.view.readCov (Val := Elt F) (⟨Rect.unit ![0, 0] ![256, 2048] inb_S256x2048_S256x2048_0_0, w⟩ :: L) (Rect.unit ![0, 0] ![256, 2048] inb_S256x2048_S256x2048_0_0).toLoadRect = w :=
        fun w L => View.readCov_full arg12.view inb_S256x2048_S256x2048_0_0 inb_S256x2048_S256x2048_0_0 w L
      simp only [View.writes_nil, hcov, hfull, hlow, hmid, ra, rl, rm, xa, xl, xm, w1, w2, w3, s1, s2, s3, hf0, hf1, hf2, hf3, hf4, accAll, accLow, accMid]

    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    isplitl [HT1]; · iexact HT1
    iexact HT2

end Cert.KernelIdeal.Moe

end
-- ==== Proof.RunJ.lean ====
/- One run of the expert kernel's body: the tile goes on and has no rows. -/
module

public import proofs.«01_k».proof.Proof.RunH

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's triple where the tile goes on and has no rows. -/
theorem runJ (c : Dev nD) (i : grid0.Coords) (arg5 : Memref sig .tc .vmem S1152x2048 .bf16) (harg5 : arg5.IsWhole)
    (arg6 : Memref sig .tc .vmem S1x2048x256 .f32) (harg6 : arg6.IsWhole) (arg7 : Memref sig .tc .vmem S1x2048x256 .f32) (harg7 : arg7.IsWhole)
    (arg8 : Memref sig .tc .vmem S1x256x2048 .f32) (harg8 : arg8.IsWhole) (arg9 : Memref sig .tc .vmem S1152x2048 .f32) (harg9 : arg9.IsWhole)
    (arg10 : Memref sig .tc .vmem S2048x256 .bf16) (harg10 : arg10.IsWhole) (arg11 : Memref sig .tc .vmem S2048x256 .bf16) (harg11 : arg11.IsWhole)
    (arg12 : Memref sig .tc .vmem S256x2048 .bf16) (harg12 : arg12.IsWhole)
    (x0 : Vec F S1152x2048 .bf16) (x1 : Vec F S1x2048x256 .f32) (x2 : Vec F S1x2048x256 .f32) (x3 : Vec F S1x256x2048 .f32) (y : Vec F S1152x2048 .f32)
    (xt0 : TbBuf (F := F) c tbM0) (xt1 : TbBuf (F := F) c tbM1) (xt2 : TbBuf (F := F) c tbM2)
    (hc1 : ¬ k0_cond1 i = 1#1) (hc2 : ¬ k0_cond2 (word i xt1) = 1#1) (hc3 : ¬ k0_cond3 (word i xt1) = 1#1) (hc4 : ¬ k0_cond4 (word i xt1) = 1#1) :
      RunGoal c i arg5 harg5 arg6 harg6 arg7 harg7 arg8 harg8 arg9 harg9 arg10 harg10 arg11 harg11 arg12 harg12 x0 x1 x2 x3 y xt0 xt1 xt2 := by
    intro E K
    simp only [cc0_moe_ffn_eq_skeleton]; unfold cc0_moe_ffn_skel
    simp only [k0_part1_eq_skeleton]
    unfold stepOut
    simp only [zeroed, if_neg hc1, if_neg hc2, if_neg hc3, if_neg hc4]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, HT0, HT1, HT2, Hk⟩
    obtain rfl := harg5.eq_unread hf0; obtain rfl := harg6.eq_unread hf1; obtain rfl := harg7.eq_unread hf2; obtain rfl := harg8.eq_unread hf3; obtain rfl := harg9.eq_unread hf4
    sl_exec (disch := first | sl_exact hc1 | sl_exact hc2 | sl_exact hc3 | sl_exact hc4)
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; swap; · iexact H4
      ipureintro
      exact hf4

    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    isplitl [HT1]; · iexact HT1
    iexact HT2

end Cert.KernelIdeal.Moe

end
-- ==== Proof.Traj.lean ====
/- What the output block holds after every point of the grid, and the pipeline's proof data over it. -/
module

public import proofs.«01_k».proof.Proof.RunJ

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-- The body's triple at any coordinates. -/
theorem run_any (c : Dev nD) (i : grid0.Coords) (arg5 : Memref sig .tc .vmem S1152x2048 .bf16) (harg5 : arg5.IsWhole)
    (arg6 : Memref sig .tc .vmem S1x2048x256 .f32) (harg6 : arg6.IsWhole) (arg7 : Memref sig .tc .vmem S1x2048x256 .f32) (harg7 : arg7.IsWhole)
    (arg8 : Memref sig .tc .vmem S1x256x2048 .f32) (harg8 : arg8.IsWhole) (arg9 : Memref sig .tc .vmem S1152x2048 .f32) (harg9 : arg9.IsWhole)
    (arg10 : Memref sig .tc .vmem S2048x256 .bf16) (harg10 : arg10.IsWhole) (arg11 : Memref sig .tc .vmem S2048x256 .bf16) (harg11 : arg11.IsWhole)
    (arg12 : Memref sig .tc .vmem S256x2048 .bf16) (harg12 : arg12.IsWhole)
    (x0 : Vec F S1152x2048 .bf16) (x1 : Vec F S1x2048x256 .f32) (x2 : Vec F S1x2048x256 .f32) (x3 : Vec F S1x256x2048 .f32) (y : Vec F S1152x2048 .f32)
    (xt0 : TbBuf (F := F) c tbM0) (xt1 : TbBuf (F := F) c tbM1) (xt2 : TbBuf (F := F) c tbM2) :
      RunGoal c i arg5 harg5 arg6 harg6 arg7 harg7 arg8 harg8 arg9 harg9 arg10 harg10 arg11 harg11 arg12 harg12 x0 x1 x2 x3 y xt0 xt1 xt2 := by
  by_cases h2 : k0_cond2 (word i xt1) = 1#1
  · have h3 : ¬ k0_cond3 (word i xt1) = 1#1 := fun h => ((cond3_iff _).mp h).2 ((cond2_iff _).mp h2)
    have h4 : ¬ k0_cond4 (word i xt1) = 1#1 := fun h => ((cond4_iff _).mp h).2 ((cond2_iff _).mp h2)
    by_cases h1 : k0_cond1 i = 1#1
    · exact runA c i _ _ _ _ _ _ _ _ _ _ _ _ _ _ _ _ x0 x1 x2 x3 y xt0 xt1 xt2 h1 h2 h3 h4
    · exact runE c i _ _ _ _ _ _ _ _ _ _ _ _ _ _ _ _ x0 x1 x2 x3 y xt0 xt1 xt2 h1 h2 h3 h4
  · by_cases h4 : k0_cond4 (word i xt1) = 1#1
    · have h3 : k0_cond3 (word i xt1) = 1#1 := (cond3_iff _).mpr (by have := (cond4_iff _).mp h4; omega)
      by_cases h1 : k0_cond1 i = 1#1
      · exact runB c i _ _ _ _ _ _ _ _ _ _ _ _ _ _ _ _ x0 x1 x2 x3 y xt0 xt1 xt2 h1 h2 h3 h4
      · exact runG c i _ _ _ _ _ _ _ _ _ _ _ _ _ _ _ _ x0 x1 x2 x3 y xt0 xt1 xt2 h1 h2 h3 h4
    · by_cases h3 : k0_cond3 (word i xt1) = 1#1
      · by_cases h1 : k0_cond1 i = 1#1
        · exact runC c i _ _ _ _ _ _ _ _ _ _ _ _ _ _ _ _ x0 x1 x2 x3 y xt0 xt1 xt2 h1 h2 h3 h4
        · exact runH c i _ _ _ _ _ _ _ _ _ _ _ _ _ _ _ _ x0 x1 x2 x3 y xt0 xt1 xt2 h1 h2 h3 h4
      · by_cases h1 : k0_cond1 i = 1#1
        · exact runD c i _ _ _ _ _ _ _ _ _ _ _ _ _ _ _ _ x0 x1 x2 x3 y xt0 xt1 xt2 h1 h2 h3 h4
        · exact runJ c i _ _ _ _ _ _ _ _ _ _ _ _ _ _ _ _ x0 x1 x2 x3 y xt0 xt1 xt2 h1 h2 h3 h4

/-- The row count the body reads at point `t`. -/
abbrev rowsAt (hO : Ok V) (t : Fin (cfgM V hO).N) : BitVec 32 := word (c := (0 : Dev nD)) (grid0.coords t) (tbl V 1)

/-- The input blocks at point `t`. -/
abbrev ib0 (hO : Ok V) (c : Dev nD) (t : Fin (cfgM V hO).N) : Vec F S1152x2048 .bf16 := iblk V hO c 0 t
abbrev ib1 (hO : Ok V) (c : Dev nD) (t : Fin (cfgM V hO).N) : Vec F S1x2048x256 .f32 := iblk V hO c 1 t
abbrev ib2 (hO : Ok V) (c : Dev nD) (t : Fin (cfgM V hO).N) : Vec F S1x2048x256 .f32 := iblk V hO c 2 t
abbrev ib3 (hO : Ok V) (c : Dev nD) (t : Fin (cfgM V hO).N) : Vec F S1x256x2048 .f32 := iblk V hO c 3 t

/-- The output block after point `n`. -/
def outAt (hO : Ok V) (c : Dev nD) : (n : ℕ) → n < (cfgM V hO).N → Vec F S1152x2048 .f32
  | 0, h => stepOut (grid0.coords ⟨0, h⟩) (rowsAt V hO ⟨0, h⟩) (ib0 V hO c ⟨0, h⟩) (ib1 V hO c ⟨0, h⟩) (ib2 V hO c ⟨0, h⟩) (ib3 V hO c ⟨0, h⟩) (k0_pay1 (F := F))
  | n + 1, h => stepOut (grid0.coords ⟨n + 1, h⟩) (rowsAt V hO ⟨n + 1, h⟩) (ib0 V hO c ⟨n + 1, h⟩) (ib1 V hO c ⟨n + 1, h⟩) (ib2 V hO c ⟨n + 1, h⟩) (ib3 V hO c ⟨n + 1, h⟩)
      (outAt hO c n (Nat.lt_of_succ_lt h))

/-- The pipeline's proof data on core `c`: each input's buffer left at its block, the output's at `outAt`. -/
def dats (hO : Ok V) (_ : Fin 1) (c : Dev nD) : Dat τ (Elt F) Unit ℕ (UR sig nD τ) ℕ (cfgM V hO) c where
  A w := V c (Pipeline.arrRef spec0 w)
  after w t := match w with
    | ⟨0, _⟩ => iblk V hO c 0 t
    | ⟨1, _⟩ => iblk V hO c 1 t
    | ⟨2, _⟩ => iblk V hO c 2 t
    | ⟨3, _⟩ => iblk V hO c 3 t
    | ⟨4, _⟩ => outAt V hO c t.val t.isLt
  Φ _ := iprop(Pipeline.ΦA spec0 c ∗ Pipeline.ΦT pre0 (tbl V) c)
  q _ := fullShare
  owed _ := 0

theorem A_eq (hO : Ok V) (c : Dev nD) (w : Fin (cfgM V hO).W) : (dats V hO 0 c).A w = V c (Pipeline.arrRef spec0 w) := by
  dsimp only [dats]

theorem after0 (hO : Ok V) (c : Dev nD) (t : Fin (cfgM V hO).N) : (dats V hO 0 c).after 0 t = iblk V hO c 0 t := by dsimp only [dats]; try rfl
theorem after1 (hO : Ok V) (c : Dev nD) (t : Fin (cfgM V hO).N) : (dats V hO 0 c).after 1 t = iblk V hO c 1 t := by dsimp only [dats]; try rfl
theorem after2 (hO : Ok V) (c : Dev nD) (t : Fin (cfgM V hO).N) : (dats V hO 0 c).after 2 t = iblk V hO c 2 t := by dsimp only [dats]; try rfl
theorem after3 (hO : Ok V) (c : Dev nD) (t : Fin (cfgM V hO).N) : (dats V hO 0 c).after 3 t = iblk V hO c 3 t := by dsimp only [dats]; try rfl
theorem after4 (hO : Ok V) (c : Dev nD) (t : Fin (cfgM V hO).N) : (dats V hO 0 c).after 4 t = outAt V hO c t.val t.isLt := by dsimp only [dats]; try rfl

theorem before0 (hO : Ok V) (c : Dev nD) (t : Fin (cfgM V hO).N) (d) : (dats V hO 0 c).before 0 t d = iblk V hO c 0 t :=
  before_of0 V hO (dats V hO 0 c) (A_eq V hO c 0) (after0 V hO c) t d
theorem before1 (hO : Ok V) (c : Dev nD) (t : Fin (cfgM V hO).N) (d) : (dats V hO 0 c).before 1 t d = iblk V hO c 1 t :=
  before_of1 V hO (dats V hO 0 c) (A_eq V hO c 1) (after1 V hO c) t d
theorem before2 (hO : Ok V) (c : Dev nD) (t : Fin (cfgM V hO).N) (d) : (dats V hO 0 c).before 2 t d = iblk V hO c 2 t :=
  before_of2 V hO (dats V hO 0 c) (A_eq V hO c 2) (after2 V hO c) t d
theorem before3 (hO : Ok V) (c : Dev nD) (t : Fin (cfgM V hO).N) (d) : (dats V hO 0 c).before 3 t d = iblk V hO c 3 t :=
  before_of3 V hO (dats V hO 0 c) (A_eq V hO c 3) (after3 V hO c) t d

/-! ## The output window's schedule -/

theorem coord0 : ∀ t : Fin grid0.N, (grid0.coords t 0).val = t.val / 28 % 23 := fun t => Pipeline.Grid.coords_val t 0 (by decide) rfl
theorem coord1 : ∀ t : Fin grid0.N, (grid0.coords t 1).val = t.val / 1 % 28 := fun t => Pipeline.Grid.coords_val t 1 (by decide) rfl

theorem idx4 (hO : Ok V) (t : Fin (cfgM V hO).N) : ((cfgM V hO).win 4).index t = ![t.val / 28, 0] := by
  have ht : t.val < 644 := Nat.lt_of_lt_of_eq t.isLt N_0
  have e0 : (grid0.coords t 0).val = t.val / 28 % 23 := coord0 t
  show cc0_transform_4 (grid0.coords t) = _
  unfold cc0_transform_4
  simp only [e0]
  funext a
  refine Fin.cases ?_ (fun b => ?_) a
  · show (BitVec.ofNat 32 (t.val / 28 % 23)).toNat = t.val / 28
    rw [BitVec.toNat_ofNat]; omega
  · obtain rfl : b = 0 := Subsingleton.elim _ _
    rfl

theorem flush4 (hO : Ok V) (t : Fin (cfgM V hO).N) : ((cfgM V hO).win 4).flush t = decide (t.val % 28 = 27) := by
  have ht : t.val < 644 := Nat.lt_of_lt_of_eq t.isLt N_0
  have hN : (cfgM V hO).grid.N = 644 := N_0
  unfold Window.flush
  rw [show ((cfgM V hO).win 4).isOut = true from rfl, Bool.true_and]
  rw [Bool.eq_iff_iff, Bool.or_eq_true, decide_eq_true_iff, decide_eq_true_iff, decide_eq_true_iff]
  constructor
  · rintro (h | ⟨h, hne⟩)
    · have h' : t.val + 1 = 644 := h.trans hN
      omega
    · by_contra h27
      refine hne ((idx4 V hO ⟨t.val + 1, h⟩).trans ?_)
      refine Eq.trans ?_ (idx4 V hO t).symm
      show ![(t.val + 1) / 28, 0] = ![t.val / 28, 0]
      rw [show (t.val + 1) / 28 = t.val / 28 from by omega]
  · intro h
    by_cases h1 : t.val + 1 = 644
    · exact Or.inl (h1.trans hN.symm)
    · have hl : t.val + 1 < (cfgM V hO).N := Nat.lt_of_lt_of_eq (by omega) hN.symm
      refine Or.inr ⟨hl, fun e => ?_⟩
      have e' : ![(t.val + 1) / 28, 0] = ![t.val / 28, 0] := (idx4 V hO ⟨t.val + 1, hl⟩).symm.trans (e.trans (idx4 V hO t))
      have := congrFun e' 0
      simp only [Matrix.cons_val_zero] at this
      omega

theorem atD_eq (pf : pre0.Contents (Elt F)) (k : Fin 3) (off : Fin (pre0.ref k).ty.shape.rank → ℕ)
    (h : ∀ a, off a + 1 ≤ (pre0.ref k).ty.shape.size a) : pf.atD k off = pf k (fun a => ⟨off a, h a⟩) := dif_pos h

theorem word_atD (i : grid0.Coords) (pf : pre0.Contents (Elt F)) :
    pf.atD 1 (k0_off1 i) = word (c := (0 : Dev nD)) i (pf 1) := by
  refine (atD_eq pf 1 (k0_off1 i) (fun (a : Fin 1) => by obtain rfl : a = 0 := Subsingleton.elim _ _; exact k0_off1_inb i 0)).trans (congrArg (pf 1) (funext fun a => Fin.ext ?_))
  show k0_off1 i a = k0_off1 i a + 1 * 0
  omega

/-- At a point idle for the output, none of the branches is taken. -/
theorem idle4 (hO : Ok V) (t : Fin (cfgM V hO).N) (h : (cfgM V hO).idle 4 ((cfgM V hO).grid.coords t) = true) :
    ¬ k0_cond1 (grid0.coords t) = 1#1 ∧ ¬ k0_cond2 (rowsAt V hO t) = 1#1 ∧ ¬ k0_cond3 (rowsAt V hO t) = 1#1 ∧ ¬ k0_cond4 (rowsAt V hO t) = 1#1 := by
  have h' : (!(k0_cond1 (grid0.coords t) == 1#1) && !(k0_cond2 ((tbl V).atD 1 (k0_off1 (grid0.coords t))) == 1#1)
      && !(k0_cond3 ((tbl V).atD 1 (k0_off1 (grid0.coords t))) == 1#1) && !(k0_cond4 ((tbl V).atD 1 (k0_off1 (grid0.coords t))) == 1#1)) = true := h
  rw [word_atD] at h'
  simpa [and_assoc] using h'

theorem fresh4 (hO : Ok V) (n : ℕ) (hn : n ≤ (cfgM V hO).N) : (cfgM V hO).fresh 4 n = decide (n % 28 = 0) := by
  refine Pipeline.Cfg.fresh_tab (cfgM V hO) 4 (fun n => decide (n % 28 = 0)) rfl (fun t => ?_) n hn
  rw [flush4]
  by_cases h0 : t.val % 28 = 0
  · have hi : (cfgM V hO).idle 4 ((cfgM V hO).grid.coords t) = false := by
      rw [Bool.eq_false_iff]; intro h
      exact (idle4 V hO t h).1 ((cond1_iff t).mpr h0)
    rw [hi, Bool.false_and, Bool.or_false]
    rw [decide_eq_decide]; omega
  · rw [decide_eq_false h0, Bool.and_false, Bool.or_false, decide_eq_decide]; omega

/-- Where the output is idle, the block is what it was. -/
theorem outAt_idle (hO : Ok V) (c : Dev nD) (t : Fin (cfgM V hO).N) (ht : t.val ≠ 0)
    (h : (cfgM V hO).idle 4 ((cfgM V hO).grid.coords t) = true) :
    outAt V hO c t.val t.isLt = outAt V hO c (t.val - 1) (by omega) := by
  obtain ⟨h1, h2, h3, h4⟩ := idle4 V hO t h
  obtain ⟨n, hn⟩ := t
  cases n with
  | zero => exact absurd rfl ht
  | succ n =>
    show stepOut _ _ _ _ _ _ _ = _
    unfold stepOut
    rw [if_neg h2, if_neg h3]; unfold zeroed; rw [if_neg h1]; rfl

/-- What the body finds in the output's buffer: anything at a tile's first point, else what the point before left. -/
theorem before4 (hO : Ok V) (c : Dev nD) (t : Fin (cfgM V hO).N) (d) :
    (dats V hO 0 c).before 4 t d = if t.val % 28 = 0 then d else outAt V hO c (t.val - 1) (by omega) := by
  have h := (dats V hO 0 c).before_out_traj 4 rfl (fun _ _ => rfl) (fun t ht hi _ => by
    rw [after4, after4]; exact outAt_idle V hO c t ht hi) t.val t rfl d
  have hf := fresh4 V hO t.val (Nat.le_of_lt t.isLt)
  by_cases h0 : t.val % 28 = 0
  · exact h.trans ((if_pos (by rw [hf]; exact decide_eq_true h0)).trans (if_pos h0).symm)
  · exact h.trans ((if_neg (by rw [hf, decide_eq_false h0]; exact Bool.false_ne_true)).trans ((after4 V hO c _).trans (if_neg h0).symm))

/-- A tile's first step does not see what the block held. -/
theorem stepOut_first {i : grid0.Coords} (h1 : k0_cond1 i = 1#1) (v : BitVec 32) (x0 : Vec F S1152x2048 .bf16) (x1 x2 : Vec F S1x2048x256 .f32)
    (x3 : Vec F S1x256x2048 .f32) (y y' : Vec F S1152x2048 .f32) : stepOut i v x0 x1 x2 x3 y = stepOut i v x0 x1 x2 x3 y' := by
  unfold stepOut zeroed; simp only [if_pos h1]

/-- The step from what the body finds is what `outAt` says. -/
theorem step_before (hO : Ok V) (c : Dev nD) (t : Fin (cfgM V hO).N) (d) :
    stepOut (grid0.coords t) (rowsAt V hO t) (ib0 V hO c t) (ib1 V hO c t) (ib2 V hO c t) (ib3 V hO c t) ((dats V hO 0 c).before 4 t d)
      = outAt V hO c t.val t.isLt := by
  have hb := before4 V hO c t d
  obtain ⟨n, hn⟩ := t
  by_cases h0 : n % 28 = 0
  · have h1 : k0_cond1 (grid0.coords ⟨n, hn⟩) = 1#1 := (cond1_iff ⟨n, hn⟩).mpr h0
    cases n with
    | zero => exact stepOut_first h1 _ _ _ _ _ _ _
    | succ n => exact stepOut_first h1 _ _ _ _ _ _ _
  · cases n with
    | zero => exact absurd rfl h0
    | succ n => exact congrArg (stepOut _ _ _ _ _ _) (hb.trans (if_neg h0))

end Cert.KernelIdeal.Moe

end
-- ==== Proof.Run.lean ====
/- The kernel's run: the body obligation at every point, the entry, and what the run leaves. -/
module

public import proofs.«01_k».proof.Proof.Traj
public import Idealize.ShloMosaic.Lib.Claim

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Entry F)

/-- What the body is called with at point `t`, -/
def bodyPre (hO : Ok V) (c : Dev nD) (t : Fin (cfgM V hO).N) : sProp 𝕄 :=
  iprop((dats V hO 0 c).Φ t.castSucc ∗ (dats V hO 0 c).owesAt () t.castSucc
    ∗ (∃ d, owns (c : Thread nD τ) (ms0 V hO t) fullShare ((dats V hO 0 c).before 0 t d))
    ∗ (∃ d, owns (c : Thread nD τ) (ms1 V hO t) fullShare ((dats V hO 0 c).before 1 t d))
    ∗ (∃ d, owns (c : Thread nD τ) (ms2 V hO t) fullShare ((dats V hO 0 c).before 2 t d))
    ∗ (∃ d, owns (c : Thread nD τ) (ms3 V hO t) fullShare ((dats V hO 0 c).before 3 t d))
    ∗ (∃ d, owns (c : Thread nD τ) (ms4 V hO t) fullShare ((dats V hO 0 c).before 4 t d)))

/-- and what it returns. -/
def bodyPost (hO : Ok V) (c : Dev nD) (t : Fin (cfgM V hO).N) : sProp 𝕄 :=
  iprop((dats V hO 0 c).Φ t.succ ∗ (dats V hO 0 c).owesAt () t.succ
    ∗ owns (c : Thread nD τ) (ms0 V hO t) fullShare ((dats V hO 0 c).after 0 t)
    ∗ owns (c : Thread nD τ) (ms1 V hO t) fullShare ((dats V hO 0 c).after 1 t)
    ∗ owns (c : Thread nD τ) (ms2 V hO t) fullShare ((dats V hO 0 c).after 2 t)
    ∗ owns (c : Thread nD τ) (ms3 V hO t) fullShare ((dats V hO 0 c).after 3 t)
    ∗ owns (c : Thread nD τ) (ms4 V hO t) fullShare ((dats V hO 0 c).after 4 t))

set_option maxHeartbeats 3200000 in
/-- The body at any point. -/
theorem sound_body (hO : Ok V) (c : Dev nD) (t : Fin (cfgM V hO).N) :
    bodyPre V hO c t ⊢ wp frame (wpE (defs₀ (F := F)) Variants.none c none) Set.univ (bodyAt V hO t) (fun _ => bodyPost V hO c t) := by
  obtain rfl : c = 0 := Subsingleton.elim _ _
  unfold bodyPre bodyPost bodyAt
  simp only [before0, before1, before2, before3]
  rw [show (dats V hO 0 0).Φ t.succ = (dats V hO 0 0).Φ t.castSucc from rfl,
    show (dats V hO 0 0).owesAt () t.succ = (dats V hO 0 0).owesAt () t.castSucc from rfl,
    after0, after1, after2, after3, after4]
  rw [show (dats V hO 0 0).Φ t.castSucc = iprop(Pipeline.ΦA spec0 0 ∗ Pipeline.ΦT pre0 (tbl V) 0) from rfl, PhiT_eq, PhiA_eq]
  iintro ⟨⟨⟨⟨HS0, HS1, HS2⟩, Hg⟩, ⟨HT0, HT1, HT2⟩⟩, Ho, ⟨%d0, H0⟩, ⟨%d1, H1⟩, ⟨%d2, H2⟩, ⟨%d3, H3⟩, ⟨%d4, H4⟩⟩
  have hst := step_before V hO 0 t d4
  iapply ((run_any 0 (grid0.coords t) (ms0 V hO t) (hs0 V hO t) (ms1 V hO t) (hs1 V hO t) (ms2 V hO t) (hs2 V hO t) (ms3 V hO t) (hs3 V hO t) (ms4 V hO t) (hs4 V hO t) scM0 (Memref.isWhole_whole _) scM1 (Memref.isWhole_whole _) scM2 (Memref.isWhole_whole _)
    (ib0 V hO 0 t) (ib1 V hO 0 t) (ib2 V hO 0 t) (ib3 V hO 0 t) ((dats V hO 0 0).before 4 t d4) (tbl V 0) (tbl V 1) (tbl V 2)) Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HT0]; · iexact HT0
  isplitl [HT1]; · iexact HT1
  isplitl [HT2]; · iexact HT2
  rw [hst]
  iintro ⟨H0, H1, H2, H3, H4, HS0, HS1, HS2, HT0, HT1, HT2⟩
  isplitl [HS0 HS1 HS2 Hg HT0 HT1 HT2]
  · isplitl [HS0 HS1 HS2 Hg]
    · isplitl [HS0 HS1 HS2]
      · isplitl [HS0]
        · iexact HS0
        isplitl [HS1]
        · iexact HS1
        iexact HS2
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  iexact H4

/-- The output's buffer at `outAt` is what the schedule asks for, idle or not. -/
theorem leaves4 (hO : Ok V) (c : Dev nD) (t : Fin (cfgM V hO).N) :
    owns (c : Thread nD τ) (ms4 V hO t) fullShare ((dats V hO 0 c).after 4 t)
    ⊢ (match (cfgM V hO).idle 4 ((cfgM V hO).grid.coords t) with
        | true => match ((cfgM V hO).win 4).flush t with
          | false => iprop(∃ d, owns (c : Thread nD τ) (ms4 V hO t) fullShare ((dats V hO 0 c).before 4 t d))
          | true => owns (c : Thread nD τ) (ms4 V hO t) fullShare ((dats V hO 0 c).after 4 t)
        | false => owns (c : Thread nD τ) (ms4 V hO t) fullShare ((dats V hO 0 c).after 4 t) : sProp 𝕄) := by
  cases hi : (cfgM V hO).idle 4 ((cfgM V hO).grid.coords t) with
  | false => exact .rfl
  | true =>
    cases hf : ((cfgM V hO).win 4).flush t with
    | true => exact .rfl
    | false =>
      have h0 : t.val % 28 ≠ 0 := fun h => (idle4 V hO t hi).1 ((cond1_iff t).mpr h)
      have hb : (dats V hO 0 c).before 4 t (outAt V hO c t.val t.isLt) = (dats V hO 0 c).after 4 t :=
        ((before4 V hO c t _).trans (if_neg h0)).trans ((outAt_idle V hO c t (by omega) hi).symm.trans (after4 V hO c t).symm)
      rw [← hb]
      iintro H
      iexists _
      iexact H

/-- The body table's row at point `t`'s slots is the body as `bodyAt` spells it. -/
theorem defs₀_row (hO : Ok V) (t : Fin (cfgM V hO).N) :
    defs₀ (F := F) .tc (cfgM V hO).body ((cfgM V hO).bodyArgs t ((cfgM V hO).slots t)) = bodyAt V hO t := by
  unfold defs₀; rw [Defs.onTc_tc]

/-- The pipeline's obligation, at every point. -/
theorem body_obligation (hO : Ok V) (c : Dev nD) : BodyObligation (dats V hO 0 c) (defs₀ (F := F)) Variants.none () Set.univ := fun t => by
  rw [bigSep_W0, bigSep_W0, defs₀_row V hO]
  exact triple_restated (sound_body V hO c t) rfl .rfl fun _ =>
    sep_mono .rfl (sep_mono .rfl (sep_mono .rfl (sep_mono .rfl (sep_mono .rfl (sep_mono .rfl (leaves4 V hO c t))))))

end Cert.KernelIdeal.Moe

end
-- ==== Proof.Host.lean ====
/- The host operations before the region, stretch by stretch: what each leaves in the buffers read later, as a function
   of what it found. -/
module

public import proofs.«01_k».proof.Proof.Run
public import Idealize.ShloMosaic.Lib.StableHlo.RunRead

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

/-- The floor quotient as the host computes it. -/
def fdivT (a : (⟨S8, .i32⟩ : BufTy).Contents (Elt F)) (b : (⟨S_, .i32⟩ : BufTy).Contents (Elt F)) : (⟨S8, .i32⟩ : BufTy).Contents (Elt F) :=
  select (andi (cmpi .ne (signi a) (broadcastInDim S8 ![] bcast_S_S8 (signi (id b))))
      (cmpi .ne (Host.remsi a (broadcastInDim S8 ![] bcast_S_S8 (id b))) (broadcastInDim S8 ![] bcast_S_S8 (constantI S_ 32 0#32))))
    (subi (Host.divsi a (broadcastInDim S8 ![] bcast_S_S8 (id b))) (broadcastInDim S8 ![] bcast_S_S8 (constantI S_ 32 1#32)))
    (Host.divsi a (broadcastInDim S8 ![] bcast_S_S8 (id b)))

/-- The running sum as the host computes it. -/
def csumT (a : (⟨S8, .i32⟩ : BufTy).Contents (Elt F)) : (⟨S8, .i32⟩ : BufTy).Contents (Elt F) :=
  Host.reduceWindow IntOp.addi ![8] ![1] ![7] ![0] a (broadcastInDim S_ ![] bcast_S_S_ (constantI S_ 32 0#32)) reduceWindows_S8_S8_w8s1p7_0 h_S_

/-- Tiles per expert. -/
def tilesT (n : (⟨S8, .i32⟩ : BufTy).Contents (Elt F)) : (⟨S8, .i32⟩ : BufTy).Contents (Elt F) :=
  fdivT (subi (addi n (broadcastInDim S8 ![] bcast_S_S8 (constantI S_ 32 1152#32))) (broadcastInDim S8 ![] bcast_S_S8 (constantI S_ 32 1#32))) (constantI S_ 32 1152#32)

/-- The count of used tiles, off the running sums. -/
def usedT (e : (⟨S8, .i32⟩ : BufTy).Contents (Elt F)) : (⟨S_, .i32⟩ : BufTy).Contents (Elt F) :=
  shapeCast S_ (extractStridedSlice S1 ![7] e slices_S8_S1_7) shapeCasts_S1_S_

/-- The last used tile, or 0. -/
def lastT (e : (⟨S8, .i32⟩ : BufTy).Contents (Elt F)) : (⟨S_, .i32⟩ : BufTy).Contents (Elt F) := maxsi (subi (usedT e) (constantI S_ 32 1#32)) (constantI S_ 32 0#32)

/-- Each tile's source tile. -/
def srcT (e : (⟨S8, .i32⟩ : BufTy).Contents (Elt F)) : (⟨S23, .i32⟩ : BufTy).Contents (Elt F) :=
  minsi (broadcastInDim S23 ![] bcast_S_S23 (lastT e)) (maxsi (broadcastInDim S23 ![] bcast_S_S23 (id (constantI S_ 32 0#32))) (iotaInDim S23 32 0))

/-- Each tile's expert. -/
def teT (e : (⟨S8, .i32⟩ : BufTy).Contents (Elt F)) (src : (⟨S23, .i32⟩ : BufTy).Contents (Elt F)) : (⟨S23, .i32⟩ : BufTy).Contents (Elt F) :=
  minsi (Host.reduce IntOp.addi (extui 32 (cmpi .sle (broadcastInDim S23x8 ![0, 1] bcast_S1x8_S23x8_0_1 (broadcastInDim S1x8 ![1] bcast_S8_S1x8_1 e))
      (broadcastInDim S23x8 ![0, 1] bcast_S23x1_S23x8_0_1 (broadcastInDim S23x1 ![0] bcast_S23_S23x1_0 src))) natLt_1_32) (constantI S_ 32 0#32) reducesTo_S23x8_S23_d1 h_S_)
    (broadcastInDim S23 ![] bcast_S_S23 (constantI S_ 32 7#32))

/-- A vector over the experts read at each tile's expert. -/
def takeT (x : (⟨S8, .i32⟩ : BufTy).Contents (Elt F)) (te : (⟨S23, .i32⟩ : BufTy).Contents (Elt F)) : (⟨S23, .i32⟩ : BufTy).Contents (Elt F) :=
  Host.gather gather_S8_S23x1_S23_n_0_n_n_0_1_1 x (broadcastInDim S23x1 ![0] bcast_S23_S23x1_0
    (select (cmpi .slt te (broadcastInDim S23 ![] bcast_S_S23 (constantI S_ 32 0#32))) (addi te (broadcastInDim S23 ![] bcast_S_S23 (constantI S_ 32 8#32))) te))

/-- Each tile's rows left of its expert's, before clipping. -/
def leftT (n b : (⟨S8, .i32⟩ : BufTy).Contents (Elt F)) (te : (⟨S23, .i32⟩ : BufTy).Contents (Elt F)) : (⟨S23, .i32⟩ : BufTy).Contents (Elt F) :=
  subi (takeT n te) (muli (subi (iotaInDim S23 32 0) (takeT b te)) (broadcastInDim S23 ![] bcast_S_S23 (constantI S_ 32 1152#32)))

/-- Each tile's row count. -/
def rowsT (used : (⟨S_, .i32⟩ : BufTy).Contents (Elt F)) (l : (⟨S23, .i32⟩ : BufTy).Contents (Elt F)) : (⟨S23, .i32⟩ : BufTy).Contents (Elt F) :=
  select (cmpi .slt (iotaInDim S23 32 0) (broadcastInDim S23 ![] bcast_S_S23 used))
    (minsi (broadcastInDim S23 ![] bcast_S_S23 (id (constantI S_ 32 1152#32))) (maxsi (broadcastInDim S23 ![] bcast_S_S23 (id (constantI S_ 32 0#32))) l))
    (broadcastInDim S23 ![] bcast_S_S23 (id (constantI S_ 32 0#32)))

variable (W : Valuation τ sig (Elt F))

theorem h0_v3 : after (hostOps0 (F := F)) W (Proc.devRef .tc main_v3) = subi (addi (W (Proc.devRef .tc main_arg4)) (broadcastInDim S8 ![] bcast_S_S8 (constantI S_ 32 1152#32))) (broadcastInDim S8 ![] bcast_S_S8 (constantI S_ 32 1#32)) := by
  after_reads_simp; (try simp only [TRef.ofBuf_toBuf, TRef.ofBuf, TRef.toBuf, cast_eq]); try rfl
theorem h0_c_1 : after (hostOps0 (F := F)) W (Proc.devRef .tc main_c_1) = constantI S_ 32 1152#32 := by
  after_reads_simp; (try simp only [TRef.ofBuf_toBuf, TRef.ofBuf, TRef.toBuf, cast_eq]); try rfl
theorem h0_arg0 : after (hostOps0 (F := F)) W (Proc.devRef .tc main_arg0) = (W (Proc.devRef .tc main_arg0)) := by
  after_reads_simp; (try simp only [TRef.ofBuf_toBuf, TRef.ofBuf, TRef.toBuf, cast_eq]); try rfl
theorem h0_arg1 : after (hostOps0 (F := F)) W (Proc.devRef .tc main_arg1) = (W (Proc.devRef .tc main_arg1)) := by
  after_reads_simp; (try simp only [TRef.ofBuf_toBuf, TRef.ofBuf, TRef.toBuf, cast_eq]); try rfl
theorem h0_arg2 : after (hostOps0 (F := F)) W (Proc.devRef .tc main_arg2) = (W (Proc.devRef .tc main_arg2)) := by
  after_reads_simp; (try simp only [TRef.ofBuf_toBuf, TRef.ofBuf, TRef.toBuf, cast_eq]); try rfl
theorem h0_arg3 : after (hostOps0 (F := F)) W (Proc.devRef .tc main_arg3) = (W (Proc.devRef .tc main_arg3)) := by
  after_reads_simp; (try simp only [TRef.ofBuf_toBuf, TRef.ofBuf, TRef.toBuf, cast_eq]); try rfl
theorem h0_arg4 : after (hostOps0 (F := F)) W (Proc.devRef .tc main_arg4) = (W (Proc.devRef .tc main_arg4)) := by
  after_reads_simp; (try simp only [TRef.ofBuf_toBuf, TRef.ofBuf, TRef.toBuf, cast_eq]); try rfl
theorem h1_v4 : after (hostOps0_1 (F := F)) W (Proc.devRef .tc main_v4) = fdivT (W (Proc.devRef .tc main_v3)) (W (Proc.devRef .tc main_c_1)) := by
  after_reads_simp; (try simp only [TRef.ofBuf_toBuf, TRef.ofBuf, TRef.toBuf, cast_eq]); try rfl
theorem h1_arg0 : after (hostOps0_1 (F := F)) W (Proc.devRef .tc main_arg0) = (W (Proc.devRef .tc main_arg0)) := by
  after_reads_simp; (try simp only [TRef.ofBuf_toBuf, TRef.ofBuf, TRef.toBuf, cast_eq]); try rfl
theorem h1_arg1 : after (hostOps0_1 (F := F)) W (Proc.devRef .tc main_arg1) = (W (Proc.devRef .tc main_arg1)) := by
  after_reads_simp; (try simp only [TRef.ofBuf_toBuf, TRef.ofBuf, TRef.toBuf, cast_eq]); try rfl
theorem h1_arg2 : after (hostOps0_1 (F := F)) W (Proc.devRef .tc main_arg2) = (W (Proc.devRef .tc main_arg2)) := by
  after_reads_simp; (try simp only [TRef.ofBuf_toBuf, TRef.ofBuf, TRef.toBuf, cast_eq]); try rfl
theorem h1_arg3 : after (hostOps0_1 (F := F)) W (Proc.devRef .tc main_arg3) = (W (Proc.devRef .tc main_arg3)) := by
  after_reads_simp; (try simp only [TRef.ofBuf_toBuf, TRef.ofBuf, TRef.toBuf, cast_eq]); try rfl
theorem h1_arg4 : after (hostOps0_1 (F := F)) W (Proc.devRef .tc main_arg4) = (W (Proc.devRef .tc main_arg4)) := by
  after_reads_simp; (try simp only [TRef.ofBuf_toBuf, TRef.ofBuf, TRef.toBuf, cast_eq]); try rfl
theorem h2_v5 : after (hostOps0_2 (F := F)) W (Proc.devRef .tc main_v5) = csumT (W (Proc.devRef .tc main_v4)) := by
  after_reads_simp; (try simp only [TRef.ofBuf_toBuf, TRef.ofBuf, TRef.toBuf, cast_eq]); try rfl
theorem h2_v4 : after (hostOps0_2 (F := F)) W (Proc.devRef .tc main_v4) = (W (Proc.devRef .tc main_v4)) := by
  after_reads_simp; (try simp only [TRef.ofBuf_toBuf, TRef.ofBuf, TRef.toBuf, cast_eq]); try rfl
theorem h2_arg0 : after (hostOps0_2 (F := F)) W (Proc.devRef .tc main_arg0) = (W (Proc.devRef .tc main_arg0)) := by
  after_reads_simp; (try simp only [TRef.ofBuf_toBuf, TRef.ofBuf, TRef.toBuf, cast_eq]); try rfl
theorem h2_arg1 : after (hostOps0_2 (F := F)) W (Proc.devRef .tc main_arg1) = (W (Proc.devRef .tc main_arg1)) := by
  after_reads_simp; (try simp only [TRef.ofBuf_toBuf, TRef.ofBuf, TRef.toBuf, cast_eq]); try rfl
theorem h2_arg2 : after (hostOps0_2 (F := F)) W (Proc.devRef .tc main_arg2) = (W (Proc.devRef .tc main_arg2)) := by
  after_reads_simp; (try simp only [TRef.ofBuf_toBuf, TRef.ofBuf, TRef.toBuf, cast_eq]); try rfl
theorem h2_arg3 : after (hostOps0_2 (F := F)) W (Proc.devRef .tc main_arg3) = (W (Proc.devRef .tc main_arg3)) := by
  after_reads_simp; (try simp only [TRef.ofBuf_toBuf, TRef.ofBuf, TRef.toBuf, cast_eq]); try rfl
theorem h2_arg4 : after (hostOps0_2 (F := F)) W (Proc.devRef .tc main_arg4) = (W (Proc.devRef .tc main_arg4)) := by
  after_reads_simp; (try simp only [TRef.ofBuf_toBuf, TRef.ofBuf, TRef.toBuf, cast_eq]); try rfl
theorem h3_v6 : after (hostOps0_3 (F := F)) W (Proc.devRef .tc main_v6) = subi (W (Proc.devRef .tc main_v5)) (W (Proc.devRef .tc main_v4)) := by
  after_reads_simp; (try simp only [TRef.ofBuf_toBuf, TRef.ofBuf, TRef.toBuf, cast_eq]); try rfl
theorem h3_v8 : after (hostOps0_3 (F := F)) W (Proc.devRef .tc main_v8) = usedT (W (Proc.devRef .tc main_v5)) := by
  after_reads_simp; (try simp only [TRef.ofBuf_toBuf, TRef.ofBuf, TRef.toBuf, cast_eq]); try rfl
theorem h3_v9 : after (hostOps0_3 (F := F)) W (Proc.devRef .tc main_v9) = iotaInDim S23 32 0 := by
  after_reads_simp; (try simp only [TRef.ofBuf_toBuf, TRef.ofBuf, TRef.toBuf, cast_eq]); try rfl
theorem h3_v11 : after (hostOps0_3 (F := F)) W (Proc.devRef .tc main_v11) = lastT (W (Proc.devRef .tc main_v5)) := by
  after_reads_simp; (try simp only [TRef.ofBuf_toBuf, TRef.ofBuf, TRef.toBuf, cast_eq]); try rfl
theorem h3_c_4 : after (hostOps0_3 (F := F)) W (Proc.devRef .tc main_c_4) = constantI S_ 32 0#32 := by
  after_reads_simp; (try simp only [TRef.ofBuf_toBuf, TRef.ofBuf, TRef.toBuf, cast_eq]); try rfl
theorem h3_v5 : after (hostOps0_3 (F := F)) W (Proc.devRef .tc main_v5) = (W (Proc.devRef .tc main_v5)) := by
  after_reads_simp; (try simp only [TRef.ofBuf_toBuf, TRef.ofBuf, TRef.toBuf, cast_eq]); try rfl
theorem h3_arg0 : after (hostOps0_3 (F := F)) W (Proc.devRef .tc main_arg0) = (W (Proc.devRef .tc main_arg0)) := by
  after_reads_simp; (try simp only [TRef.ofBuf_toBuf, TRef.ofBuf, TRef.toBuf, cast_eq]); try rfl
theorem h3_arg1 : after (hostOps0_3 (F := F)) W (Proc.devRef .tc main_arg1) = (W (Proc.devRef .tc main_arg1)) := by
  after_reads_simp; (try simp only [TRef.ofBuf_toBuf, TRef.ofBuf, TRef.toBuf, cast_eq]); try rfl
theorem h3_arg2 : after (hostOps0_3 (F := F)) W (Proc.devRef .tc main_arg2) = (W (Proc.devRef .tc main_arg2)) := by
  after_reads_simp; (try simp only [TRef.ofBuf_toBuf, TRef.ofBuf, TRef.toBuf, cast_eq]); try rfl
theorem h3_arg3 : after (hostOps0_3 (F := F)) W (Proc.devRef .tc main_arg3) = (W (Proc.devRef .tc main_arg3)) := by
  after_reads_simp; (try simp only [TRef.ofBuf_toBuf, TRef.ofBuf, TRef.toBuf, cast_eq]); try rfl
theorem h3_arg4 : after (hostOps0_3 (F := F)) W (Proc.devRef .tc main_arg4) = (W (Proc.devRef .tc main_arg4)) := by
  after_reads_simp; (try simp only [TRef.ofBuf_toBuf, TRef.ofBuf, TRef.toBuf, cast_eq]); try rfl
theorem h4_v12 : after (hostOps0_4 (F := F)) W (Proc.devRef .tc main_v12) = minsi (broadcastInDim S23 ![] bcast_S_S23 (W (Proc.devRef .tc main_v11))) (maxsi (broadcastInDim S23 ![] bcast_S_S23 (id (W (Proc.devRef .tc main_c_4)))) (W (Proc.devRef .tc main_v9))) := by
  after_reads_simp; (try simp only [TRef.ofBuf_toBuf, TRef.ofBuf, TRef.toBuf, cast_eq]); try rfl
theorem h4_v5 : after (hostOps0_4 (F := F)) W (Proc.devRef .tc main_v5) = (W (Proc.devRef .tc main_v5)) := by
  after_reads_simp; (try simp only [TRef.ofBuf_toBuf, TRef.ofBuf, TRef.toBuf, cast_eq]); try rfl
theorem h4_v6 : after (hostOps0_4 (F := F)) W (Proc.devRef .tc main_v6) = (W (Proc.devRef .tc main_v6)) := by
  after_reads_simp; (try simp only [TRef.ofBuf_toBuf, TRef.ofBuf, TRef.toBuf, cast_eq]); try rfl
theorem h4_v8 : after (hostOps0_4 (F := F)) W (Proc.devRef .tc main_v8) = (W (Proc.devRef .tc main_v8)) := by
  after_reads_simp; (try simp only [TRef.ofBuf_toBuf, TRef.ofBuf, TRef.toBuf, cast_eq]); try rfl
theorem h4_v9 : after (hostOps0_4 (F := F)) W (Proc.devRef .tc main_v9) = (W (Proc.devRef .tc main_v9)) := by
  after_reads_simp; (try simp only [TRef.ofBuf_toBuf, TRef.ofBuf, TRef.toBuf, cast_eq]); try rfl
theorem h4_arg0 : after (hostOps0_4 (F := F)) W (Proc.devRef .tc main_arg0) = (W (Proc.devRef .tc main_arg0)) := by
  after_reads_simp; (try simp only [TRef.ofBuf_toBuf, TRef.ofBuf, TRef.toBuf, cast_eq]); try rfl
theorem h4_arg1 : after (hostOps0_4 (F := F)) W (Proc.devRef .tc main_arg1) = (W (Proc.devRef .tc main_arg1)) := by
  after_reads_simp; (try simp only [TRef.ofBuf_toBuf, TRef.ofBuf, TRef.toBuf, cast_eq]); try rfl
theorem h4_arg2 : after (hostOps0_4 (F := F)) W (Proc.devRef .tc main_arg2) = (W (Proc.devRef .tc main_arg2)) := by
  after_reads_simp; (try simp only [TRef.ofBuf_toBuf, TRef.ofBuf, TRef.toBuf, cast_eq]); try rfl
theorem h4_arg3 : after (hostOps0_4 (F := F)) W (Proc.devRef .tc main_arg3) = (W (Proc.devRef .tc main_arg3)) := by
  after_reads_simp; (try simp only [TRef.ofBuf_toBuf, TRef.ofBuf, TRef.toBuf, cast_eq]); try rfl
theorem h4_arg4 : after (hostOps0_4 (F := F)) W (Proc.devRef .tc main_arg4) = (W (Proc.devRef .tc main_arg4)) := by
  after_reads_simp; (try simp only [TRef.ofBuf_toBuf, TRef.ofBuf, TRef.toBuf, cast_eq]); try rfl
theorem h5_v21 : after (hostOps0_5 (F := F)) W (Proc.devRef .tc main_v21) = teT (W (Proc.devRef .tc main_v5)) (W (Proc.devRef .tc main_v12)) := by
  after_reads_simp; (try simp only [TRef.ofBuf_toBuf, TRef.ofBuf, TRef.toBuf, cast_eq]); try rfl
theorem h5_v23 : after (hostOps0_5 (F := F)) W (Proc.devRef .tc main_v23) = cmpi .slt (W (Proc.devRef .tc main_v9)) (broadcastInDim S23 ![] bcast_S_S23 (W (Proc.devRef .tc main_v8))) := by
  after_reads_simp; (try simp only [TRef.ofBuf_toBuf, TRef.ofBuf, TRef.toBuf, cast_eq]); try rfl
theorem h5_v41 : after (hostOps0_5 (F := F)) W (Proc.devRef .tc main_v41) = subi (takeT (W (Proc.devRef .tc main_arg4)) (teT (W (Proc.devRef .tc main_v5)) (W (Proc.devRef .tc main_v12)))) (muli (subi (W (Proc.devRef .tc main_v9)) (takeT (W (Proc.devRef .tc main_v6)) (teT (W (Proc.devRef .tc main_v5)) (W (Proc.devRef .tc main_v12))))) (broadcastInDim S23 ![] bcast_S_S23 (constantI S_ 32 1152#32))) := by
  after_reads_simp; (try simp only [TRef.ofBuf_toBuf, TRef.ofBuf, TRef.toBuf, cast_eq]); try rfl
theorem h5_c_12 : after (hostOps0_5 (F := F)) W (Proc.devRef .tc main_c_12) = constantI S_ 32 0#32 := by
  after_reads_simp; (try simp only [TRef.ofBuf_toBuf, TRef.ofBuf, TRef.toBuf, cast_eq]); try rfl
theorem h5_c_13 : after (hostOps0_5 (F := F)) W (Proc.devRef .tc main_c_13) = constantI S_ 32 1152#32 := by
  after_reads_simp; (try simp only [TRef.ofBuf_toBuf, TRef.ofBuf, TRef.toBuf, cast_eq]); try rfl
theorem h5_v12 : after (hostOps0_5 (F := F)) W (Proc.devRef .tc main_v12) = (W (Proc.devRef .tc main_v12)) := by
  after_reads_simp; (try simp only [TRef.ofBuf_toBuf, TRef.ofBuf, TRef.toBuf, cast_eq]); try rfl
theorem h5_arg0 : after (hostOps0_5 (F := F)) W (Proc.devRef .tc main_arg0) = (W (Proc.devRef .tc main_arg0)) := by
  after_reads_simp; (try simp only [TRef.ofBuf_toBuf, TRef.ofBuf, TRef.toBuf, cast_eq]); try rfl
theorem h5_arg1 : after (hostOps0_5 (F := F)) W (Proc.devRef .tc main_arg1) = (W (Proc.devRef .tc main_arg1)) := by
  after_reads_simp; (try simp only [TRef.ofBuf_toBuf, TRef.ofBuf, TRef.toBuf, cast_eq]); try rfl
theorem h5_arg2 : after (hostOps0_5 (F := F)) W (Proc.devRef .tc main_arg2) = (W (Proc.devRef .tc main_arg2)) := by
  after_reads_simp; (try simp only [TRef.ofBuf_toBuf, TRef.ofBuf, TRef.toBuf, cast_eq]); try rfl
theorem h5_arg3 : after (hostOps0_5 (F := F)) W (Proc.devRef .tc main_arg3) = (W (Proc.devRef .tc main_arg3)) := by
  after_reads_simp; (try simp only [TRef.ofBuf_toBuf, TRef.ofBuf, TRef.toBuf, cast_eq]); try rfl
theorem h5_arg4 : after (hostOps0_5 (F := F)) W (Proc.devRef .tc main_arg4) = (W (Proc.devRef .tc main_arg4)) := by
  after_reads_simp; (try simp only [TRef.ofBuf_toBuf, TRef.ofBuf, TRef.toBuf, cast_eq]); try rfl
theorem h6_v42 : after (hostOps0_6 (F := F)) W (Proc.devRef .tc main_v42) = minsi (broadcastInDim S23 ![] bcast_S_S23 (id (W (Proc.devRef .tc main_c_13)))) (maxsi (broadcastInDim S23 ![] bcast_S_S23 (id (W (Proc.devRef .tc main_c_12)))) (W (Proc.devRef .tc main_v41))) := by
  after_reads_simp; (try simp only [TRef.ofBuf_toBuf, TRef.ofBuf, TRef.toBuf, cast_eq]); try rfl
theorem h6_v12 : after (hostOps0_6 (F := F)) W (Proc.devRef .tc main_v12) = (W (Proc.devRef .tc main_v12)) := by
  after_reads_simp; (try simp only [TRef.ofBuf_toBuf, TRef.ofBuf, TRef.toBuf, cast_eq]); try rfl
theorem h6_v21 : after (hostOps0_6 (F := F)) W (Proc.devRef .tc main_v21) = (W (Proc.devRef .tc main_v21)) := by
  after_reads_simp; (try simp only [TRef.ofBuf_toBuf, TRef.ofBuf, TRef.toBuf, cast_eq]); try rfl
theorem h6_v23 : after (hostOps0_6 (F := F)) W (Proc.devRef .tc main_v23) = (W (Proc.devRef .tc main_v23)) := by
  after_reads_simp; (try simp only [TRef.ofBuf_toBuf, TRef.ofBuf, TRef.toBuf, cast_eq]); try rfl
theorem h6_arg0 : after (hostOps0_6 (F := F)) W (Proc.devRef .tc main_arg0) = (W (Proc.devRef .tc main_arg0)) := by
  after_reads_simp; (try simp only [TRef.ofBuf_toBuf, TRef.ofBuf, TRef.toBuf, cast_eq]); try rfl
theorem h6_arg1 : after (hostOps0_6 (F := F)) W (Proc.devRef .tc main_arg1) = (W (Proc.devRef .tc main_arg1)) := by
  after_reads_simp; (try simp only [TRef.ofBuf_toBuf, TRef.ofBuf, TRef.toBuf, cast_eq]); try rfl
theorem h6_arg2 : after (hostOps0_6 (F := F)) W (Proc.devRef .tc main_arg2) = (W (Proc.devRef .tc main_arg2)) := by
  after_reads_simp; (try simp only [TRef.ofBuf_toBuf, TRef.ofBuf, TRef.toBuf, cast_eq]); try rfl
theorem h6_arg3 : after (hostOps0_6 (F := F)) W (Proc.devRef .tc main_arg3) = (W (Proc.devRef .tc main_arg3)) := by
  after_reads_simp; (try simp only [TRef.ofBuf_toBuf, TRef.ofBuf, TRef.toBuf, cast_eq]); try rfl
theorem h6_arg4 : after (hostOps0_6 (F := F)) W (Proc.devRef .tc main_arg4) = (W (Proc.devRef .tc main_arg4)) := by
  after_reads_simp; (try simp only [TRef.ofBuf_toBuf, TRef.ofBuf, TRef.toBuf, cast_eq]); try rfl
theorem h7_c_14 : after (hostOps0_7 (F := F)) W (Proc.devRef .tc main_c_14) = constantI S_ 32 0#32 := by
  after_reads_simp; (try simp only [TRef.ofBuf_toBuf, TRef.ofBuf, TRef.toBuf, cast_eq]); try rfl
theorem h7_v12 : after (hostOps0_7 (F := F)) W (Proc.devRef .tc main_v12) = (W (Proc.devRef .tc main_v12)) := by
  after_reads_simp; (try simp only [TRef.ofBuf_toBuf, TRef.ofBuf, TRef.toBuf, cast_eq]); try rfl
theorem h7_v21 : after (hostOps0_7 (F := F)) W (Proc.devRef .tc main_v21) = (W (Proc.devRef .tc main_v21)) := by
  after_reads_simp; (try simp only [TRef.ofBuf_toBuf, TRef.ofBuf, TRef.toBuf, cast_eq]); try rfl
theorem h7_v23 : after (hostOps0_7 (F := F)) W (Proc.devRef .tc main_v23) = (W (Proc.devRef .tc main_v23)) := by
  after_reads_simp; (try simp only [TRef.ofBuf_toBuf, TRef.ofBuf, TRef.toBuf, cast_eq]); try rfl
theorem h7_v42 : after (hostOps0_7 (F := F)) W (Proc.devRef .tc main_v42) = (W (Proc.devRef .tc main_v42)) := by
  after_reads_simp; (try simp only [TRef.ofBuf_toBuf, TRef.ofBuf, TRef.toBuf, cast_eq]); try rfl
theorem h7_arg0 : after (hostOps0_7 (F := F)) W (Proc.devRef .tc main_arg0) = (W (Proc.devRef .tc main_arg0)) := by
  after_reads_simp; (try simp only [TRef.ofBuf_toBuf, TRef.ofBuf, TRef.toBuf, cast_eq]); try rfl
theorem h7_arg1 : after (hostOps0_7 (F := F)) W (Proc.devRef .tc main_arg1) = (W (Proc.devRef .tc main_arg1)) := by
  after_reads_simp; (try simp only [TRef.ofBuf_toBuf, TRef.ofBuf, TRef.toBuf, cast_eq]); try rfl
theorem h7_arg2 : after (hostOps0_7 (F := F)) W (Proc.devRef .tc main_arg2) = (W (Proc.devRef .tc main_arg2)) := by
  after_reads_simp; (try simp only [TRef.ofBuf_toBuf, TRef.ofBuf, TRef.toBuf, cast_eq]); try rfl
theorem h7_arg3 : after (hostOps0_7 (F := F)) W (Proc.devRef .tc main_arg3) = (W (Proc.devRef .tc main_arg3)) := by
  after_reads_simp; (try simp only [TRef.ofBuf_toBuf, TRef.ofBuf, TRef.toBuf, cast_eq]); try rfl
theorem h7_arg4 : after (hostOps0_7 (F := F)) W (Proc.devRef .tc main_arg4) = (W (Proc.devRef .tc main_arg4)) := by
  after_reads_simp; (try simp only [TRef.ofBuf_toBuf, TRef.ofBuf, TRef.toBuf, cast_eq]); try rfl
theorem h8_v43 : after (hostOps0_8 (F := F)) W (Proc.devRef .tc main_v43) = select (W (Proc.devRef .tc main_v23)) (W (Proc.devRef .tc main_v42)) (broadcastInDim S23 ![] bcast_S_S23 (id (W (Proc.devRef .tc main_c_14)))) := by
  after_reads_simp; (try simp only [TRef.ofBuf_toBuf, TRef.ofBuf, TRef.toBuf, cast_eq]); try rfl
theorem h8_v12 : after (hostOps0_8 (F := F)) W (Proc.devRef .tc main_v12) = (W (Proc.devRef .tc main_v12)) := by
  after_reads_simp; (try simp only [TRef.ofBuf_toBuf, TRef.ofBuf, TRef.toBuf, cast_eq]); try rfl
theorem h8_v21 : after (hostOps0_8 (F := F)) W (Proc.devRef .tc main_v21) = (W (Proc.devRef .tc main_v21)) := by
  after_reads_simp; (try simp only [TRef.ofBuf_toBuf, TRef.ofBuf, TRef.toBuf, cast_eq]); try rfl
theorem h8_arg0 : after (hostOps0_8 (F := F)) W (Proc.devRef .tc main_arg0) = (W (Proc.devRef .tc main_arg0)) := by
  after_reads_simp; (try simp only [TRef.ofBuf_toBuf, TRef.ofBuf, TRef.toBuf, cast_eq]); try rfl
theorem h8_arg1 : after (hostOps0_8 (F := F)) W (Proc.devRef .tc main_arg1) = (W (Proc.devRef .tc main_arg1)) := by
  after_reads_simp; (try simp only [TRef.ofBuf_toBuf, TRef.ofBuf, TRef.toBuf, cast_eq]); try rfl
theorem h8_arg2 : after (hostOps0_8 (F := F)) W (Proc.devRef .tc main_arg2) = (W (Proc.devRef .tc main_arg2)) := by
  after_reads_simp; (try simp only [TRef.ofBuf_toBuf, TRef.ofBuf, TRef.toBuf, cast_eq]); try rfl
theorem h8_arg3 : after (hostOps0_8 (F := F)) W (Proc.devRef .tc main_arg3) = (W (Proc.devRef .tc main_arg3)) := by
  after_reads_simp; (try simp only [TRef.ofBuf_toBuf, TRef.ofBuf, TRef.toBuf, cast_eq]); try rfl
theorem h8_arg4 : after (hostOps0_8 (F := F)) W (Proc.devRef .tc main_arg4) = (W (Proc.devRef .tc main_arg4)) := by
  after_reads_simp; (try simp only [TRef.ofBuf_toBuf, TRef.ofBuf, TRef.toBuf, cast_eq]); try rfl
theorem h9_v48 : after (hostOps0_9 (F := F)) W (Proc.devRef .tc main_v48) = addi (W (Proc.devRef .tc main_v21)) (broadcastInDim S23 ![] bcast_S_S23 (constantI S_ 32 0#32)) := by
  after_reads_simp; (try simp only [TRef.ofBuf_toBuf, TRef.ofBuf, TRef.toBuf, cast_eq]); try rfl
theorem h9_v44 : after (hostOps0_9 (F := F)) W (Proc.devRef .tc main_v44) = shapeCast S8x2048x7168 (W (Proc.devRef .tc main_arg1)) shapeCasts_S1x8x2048x7168_S8x2048x7168 := by
  after_reads_simp; (try simp only [TRef.ofBuf_toBuf, TRef.ofBuf, TRef.toBuf, cast_eq]); try rfl
theorem h9_v45 : after (hostOps0_9 (F := F)) W (Proc.devRef .tc main_v45) = shapeCast S8x2048x7168 (W (Proc.devRef .tc main_arg2)) shapeCasts_S1x8x2048x7168_S8x2048x7168 := by
  after_reads_simp; (try simp only [TRef.ofBuf_toBuf, TRef.ofBuf, TRef.toBuf, cast_eq]); try rfl
theorem h9_v46 : after (hostOps0_9 (F := F)) W (Proc.devRef .tc main_v46) = shapeCast S8x7168x2048 (W (Proc.devRef .tc main_arg3)) shapeCasts_S1x8x7168x2048_S8x7168x2048 := by
  after_reads_simp; (try simp only [TRef.ofBuf_toBuf, TRef.ofBuf, TRef.toBuf, cast_eq]); try rfl
theorem h9_v12 : after (hostOps0_9 (F := F)) W (Proc.devRef .tc main_v12) = (W (Proc.devRef .tc main_v12)) := by
  after_reads_simp; (try simp only [TRef.ofBuf_toBuf, TRef.ofBuf, TRef.toBuf, cast_eq]); try rfl
theorem h9_v43 : after (hostOps0_9 (F := F)) W (Proc.devRef .tc main_v43) = (W (Proc.devRef .tc main_v43)) := by
  after_reads_simp; (try simp only [TRef.ofBuf_toBuf, TRef.ofBuf, TRef.toBuf, cast_eq]); try rfl
theorem h9_arg0 : after (hostOps0_9 (F := F)) W (Proc.devRef .tc main_arg0) = (W (Proc.devRef .tc main_arg0)) := by
  after_reads_simp; (try simp only [TRef.ofBuf_toBuf, TRef.ofBuf, TRef.toBuf, cast_eq]); try rfl
theorem h9_arg1 : after (hostOps0_9 (F := F)) W (Proc.devRef .tc main_arg1) = (W (Proc.devRef .tc main_arg1)) := by
  after_reads_simp; (try simp only [TRef.ofBuf_toBuf, TRef.ofBuf, TRef.toBuf, cast_eq]); try rfl
theorem h9_arg2 : after (hostOps0_9 (F := F)) W (Proc.devRef .tc main_arg2) = (W (Proc.devRef .tc main_arg2)) := by
  after_reads_simp; (try simp only [TRef.ofBuf_toBuf, TRef.ofBuf, TRef.toBuf, cast_eq]); try rfl
theorem h9_arg3 : after (hostOps0_9 (F := F)) W (Proc.devRef .tc main_arg3) = (W (Proc.devRef .tc main_arg3)) := by
  after_reads_simp; (try simp only [TRef.ofBuf_toBuf, TRef.ofBuf, TRef.toBuf, cast_eq]); try rfl
theorem h9_arg4 : after (hostOps0_9 (F := F)) W (Proc.devRef .tc main_arg4) = (W (Proc.devRef .tc main_arg4)) := by
  after_reads_simp; (try simp only [TRef.ofBuf_toBuf, TRef.ofBuf, TRef.toBuf, cast_eq]); try rfl

end Cert.KernelIdeal.Moe

end
-- ==== Proof.Entry.lean ====
/- The buffers when the region is entered, as functions of @main's arguments. -/
module

public import proofs.«01_k».proof.Proof.Host

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

/-- The host stretches before the region, in order. -/
def opss : List (List (HloOp τ sig (Elt F))) :=
  [hostOps0, hostOps0_1, hostOps0_2, hostOps0_3, hostOps0_4, hostOps0_5, hostOps0_6, hostOps0_7, hostOps0_8, hostOps0_9]

/-- The running tile counts. -/
def endT (n : (⟨S8, .i32⟩ : BufTy).Contents (Elt F)) : (⟨S8, .i32⟩ : BufTy).Contents (Elt F) := csumT (tilesT n)
/-- The three tables. -/
def expertT (n : (⟨S8, .i32⟩ : BufTy).Contents (Elt F)) : (⟨S23, .i32⟩ : BufTy).Contents (Elt F) := teT (endT n) (srcT (endT n))
def countT (n : (⟨S8, .i32⟩ : BufTy).Contents (Elt F)) : (⟨S23, .i32⟩ : BufTy).Contents (Elt F) := rowsT (usedT (endT n)) (leftT n (subi (endT n) (tilesT n)) (expertT n))

/-- All stretches, one after another. -/
def thru (W : Valuation τ sig (Elt F)) : Valuation τ sig (Elt F) :=
  after hostOps0_9 (after hostOps0_8 (after hostOps0_7 (after hostOps0_6 (after hostOps0_5 (after hostOps0_4 (after hostOps0_3 (after hostOps0_2 (after hostOps0_1 (after hostOps0 W)))))))))

theorem after_opss (W : Valuation τ sig (Elt F)) : after (opss (F := F)).flatten W = thru W := by
  unfold opss thru
  simp only [List.flatten_cons, List.flatten_nil, List.append_nil, StableHlo.after_append]

variable (W : Valuation τ sig (Elt F))

theorem thru_v12 : thru W (Proc.devRef .tc main_v12) = srcT (endT (W (Proc.devRef .tc main_arg4))) := by
  unfold thru
  rw [h9_v12, h8_v12, h7_v12, h6_v12, h5_v12, h4_v12, h3_v11, h3_c_4, h3_v9, h2_v5, h1_v4, h0_v3, h0_c_1]
  try rfl
theorem thru_v48 : thru W (Proc.devRef .tc main_v48) = addi (expertT (W (Proc.devRef .tc main_arg4))) (broadcastInDim S23 ![] bcast_S_S23 (constantI S_ 32 0#32)) := by
  unfold thru
  rw [h9_v48, h8_v21, h7_v21, h6_v21, h5_v21, h4_v12, h4_v5, h3_v11, h3_c_4, h3_v9, h3_v5, h2_v5, h1_v4, h0_v3, h0_c_1]
  try rfl
theorem thru_v43 : thru W (Proc.devRef .tc main_v43) = countT (W (Proc.devRef .tc main_arg4)) := by
  unfold thru
  rw [h9_v43, h8_v43, h7_v23, h7_v42, h7_c_14, h6_v23, h6_v42, h5_v23, h5_v41, h5_c_12, h5_c_13, h4_arg4, h4_v12, h4_v9, h4_v8, h4_v6, h4_v5, h3_arg4, h3_v11, h3_c_4, h3_v9, h3_v8, h3_v6, h3_v5, h2_arg4, h2_v5, h2_v4, h1_arg4, h1_v4, h0_arg4, h0_v3, h0_c_1]
  try rfl
theorem thru_v44 : thru W (Proc.devRef .tc main_v44) = shapeCast S8x2048x7168 (W (Proc.devRef .tc main_arg1)) shapeCasts_S1x8x2048x7168_S8x2048x7168 := by
  unfold thru
  rw [h9_v44, h8_arg1, h7_arg1, h6_arg1, h5_arg1, h4_arg1, h3_arg1, h2_arg1, h1_arg1, h0_arg1]
  try rfl
theorem thru_v45 : thru W (Proc.devRef .tc main_v45) = shapeCast S8x2048x7168 (W (Proc.devRef .tc main_arg2)) shapeCasts_S1x8x2048x7168_S8x2048x7168 := by
  unfold thru
  rw [h9_v45, h8_arg2, h7_arg2, h6_arg2, h5_arg2, h4_arg2, h3_arg2, h2_arg2, h1_arg2, h0_arg2]
  try rfl
theorem thru_v46 : thru W (Proc.devRef .tc main_v46) = shapeCast S8x7168x2048 (W (Proc.devRef .tc main_arg3)) shapeCasts_S1x8x7168x2048_S8x7168x2048 := by
  unfold thru
  rw [h9_v46, h8_arg3, h7_arg3, h6_arg3, h5_arg3, h4_arg3, h3_arg3, h2_arg3, h1_arg3, h0_arg3]
  try rfl
theorem thru_arg0 : thru W (Proc.devRef .tc main_arg0) = W (Proc.devRef .tc main_arg0) := by
  unfold thru
  rw [h9_arg0, h8_arg0, h7_arg0, h6_arg0, h5_arg0, h4_arg0, h3_arg0, h2_arg0, h1_arg0, h0_arg0]
  try rfl
theorem thru_arg1 : thru W (Proc.devRef .tc main_arg1) = W (Proc.devRef .tc main_arg1) := by
  unfold thru
  rw [h9_arg1, h8_arg1, h7_arg1, h6_arg1, h5_arg1, h4_arg1, h3_arg1, h2_arg1, h1_arg1, h0_arg1]
  try rfl
theorem thru_arg2 : thru W (Proc.devRef .tc main_arg2) = W (Proc.devRef .tc main_arg2) := by
  unfold thru
  rw [h9_arg2, h8_arg2, h7_arg2, h6_arg2, h5_arg2, h4_arg2, h3_arg2, h2_arg2, h1_arg2, h0_arg2]
  try rfl
theorem thru_arg3 : thru W (Proc.devRef .tc main_arg3) = W (Proc.devRef .tc main_arg3) := by
  unfold thru
  rw [h9_arg3, h8_arg3, h7_arg3, h6_arg3, h5_arg3, h4_arg3, h3_arg3, h2_arg3, h1_arg3, h0_arg3]
  try rfl
theorem thru_arg4 : thru W (Proc.devRef .tc main_arg4) = W (Proc.devRef .tc main_arg4) := by
  unfold thru
  rw [h9_arg4, h8_arg4, h7_arg4, h6_arg4, h5_arg4, h4_arg4, h3_arg4, h2_arg4, h1_arg4, h0_arg4]
  try rfl

variable (m : (ℓ : Loc nD τ sig) → Buf (Elt F) ℓ)

/-- Core `c`'s buffers when the region is entered. -/
def V : Entry F := fun c b => after (opss (F := F)).flatten (fun b => m (c, b)) (Proc.devRef .tc b)

theorem V_thru (c : Dev nD) (b : Ref sig .tc) : V m c b = thru (fun b => m (c, b)) (Proc.devRef .tc b) := by
  unfold V; rw [after_opss]

set_option maxHeartbeats 800000 in
/-- @main runs the stretches, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main opss
    ⟨hostOps0_sub, hostOps0_1_sub, hostOps0_2_sub, hostOps0_3_sub, hostOps0_4_sub, hostOps0_5_sub, hostOps0_6_sub, hostOps0_7_sub, hostOps0_8_sub, hostOps0_9_sub⟩
    (by unfold opss; simp only [List.Forall]; repeat' apply And.intro
        all_goals rfl)
    main_chain

end Cert.KernelIdeal.Moe

end
-- ==== Proof.Tables.lean ====
/- The three tables the host code makes, read at a point; every window's block lies in its array, whatever the counts. -/
module

public import proofs.«01_k».proof.Proof.Entry
public import Idealize.ShloMosaic.Lib.Routing.Words
public import Idealize.ShloMosaic.Lib.PlanTiles.Rows
public import Idealize.ShloMosaic.Lib.SortNet.Extract

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo
open Idealize.ShloMosaic.WordCmp Idealize.ShloMosaic.ValueIdx
open Idealize.ShloMosaic.Routing (bc0 bcCols bcRows reduce_count addi_ap subi_ap muli_ap iota1_ap)
open Idealize.ShloMosaic.PlanTiles (minsi_word)
open Idealize.ShloMosaic.SortNet (toInt_minsi toInt_maxsi)

/-! ## Each table's range, at any counts -/

/-- The source tile of tile `s` is one of the 23. -/
theorem srcT_lt (e : (⟨S8, .i32⟩ : BufTy).Contents (Elt F)) (s : Fin 23) : (srcT (F := F) e (ix1 s)).toNat < 23 := by
  have hs : ((iotaInDim S23 32 0 : IVec S23 32) (ix1 s)).toInt = s.val := by
    rw [show (iotaInDim S23 32 0 : IVec S23 32) (ix1 s) = BitVec.ofNat 32 s.val from rfl]
    exact toInt_ofNat_of_lt (w := 32) (by have := s.isLt; omega)
  have hL : (0 : Int) ≤ (broadcastInDim S23 ![] bcast_S_S23 (lastT (F := F) e) (ix1 s)).toInt := by
    unfold lastT
    rw [bc0]
    rw [maxsi_apply, toInt_maxsi]
    exact le_max_right _ _
  have h : ((srcT (F := F) e (ix1 s))).toInt = min (broadcastInDim S23 ![] bcast_S_S23 (lastT (F := F) e) (ix1 s)).toInt (max (0#32).toInt s.val) := by
    unfold srcT
    rw [minsi_apply, toInt_minsi, maxsi_apply, toInt_maxsi, hs]
    rfl
  have h0 : (0#32 : BitVec 32).toInt = 0 := rfl
  have hlt := s.isLt
  have h1 : 0 ≤ (srcT (F := F) e (ix1 s)).toInt ∧ (srcT (F := F) e (ix1 s)).toInt < 23 := by
    rw [h, h0]; omega
  have := BitVec.toInt_eq_toNat_cond (srcT (F := F) e (ix1 s))
  have hb := (srcT (F := F) e (ix1 s)).isLt
  split at this <;> omega

/-- Tile `s`'s expert is the lesser of 7 and the count of the experts whose tiles end at or before its source tile. -/
theorem teT_ap (e : (⟨S8, .i32⟩ : BufTy).Contents (Elt F)) (src : (⟨S23, .i32⟩ : BufTy).Contents (Elt F)) (s : Fin 23)
    (Q : Nat → Prop) [DecidablePred Q] (hQ : ∀ q : Fin 8, (e (ix1 q) : BitVec 32).toInt ≤ (src (ix1 s) : BitVec 32).toInt ↔ Q q.val) :
    teT (F := F) e src (ix1 s) = BitVec.ofNat 32 (min 7 (Nat.count Q 8)) := by
  have hc : Nat.count Q 8 ≤ 8 := Nat.count_le _
  unfold teT
  rw [minsi_apply]
  refine (congrArg₂ IntOp.minsi (reduce_count (n := 23) (m := 8) (by decide) _ natLt_1_32 reducesTo_S23x8_S23_d1 h_S_ s Q fun q => ?_) (bc0 bcast_S_S23 _ _)).trans ?_
  · rw [cmpi_at, cmpi_sle_eq, ofBool_decide_eq_one_iff]
    have h1 := bcCols (n := 23) (m := 8) bcast_S8_S1x8_1 bcast_S1x8_S23x8_0_1 e s q
    have h2 := bcRows (n := 23) (m := 8) bcast_S23_S23x1_0 bcast_S23x1_S23x8_0_1 src s q
    rw [h1, h2]
    exact hQ q
  · rw [constantI_at, show (7#32 : BitVec 32) = BitVec.ofNat 32 7 from rfl, minsi_word (by omega) (by decide)]

theorem expertT_lt (n : (⟨S8, .i32⟩ : BufTy).Contents (Elt F)) (s : Fin 23) :
    ∃ k : Nat, k < 8 ∧ addi (expertT (F := F) n) (broadcastInDim S23 ![] bcast_S_S23 (constantI S_ 32 0#32)) (ix1 s) = BitVec.ofNat 32 k := by
  classical
  have h := teT_ap (endT (F := F) n) (srcT (F := F) (endT (F := F) n)) s
      (fun q => if h : q < 8 then (endT (F := F) n (ix1 ⟨q, h⟩) : BitVec 32).toInt ≤ (srcT (F := F) (endT (F := F) n) (ix1 s) : BitVec 32).toInt else False)
      (fun q => by rw [dif_pos q.isLt])
  refine ⟨_, ?_, (addi_ap _ _ _).trans ((congrArg₂ (fun a b : BitVec 32 => a + b) h ((bc0 bcast_S_S23 _ _).trans (constantI_at _ _))).trans (BitVec.add_zero _))⟩
  omega

/-! ## Reading a table at a point -/

/-- The tile of a point. -/
abbrev tileOf (i : grid0.Coords) : Fin 23 := i 0

theorem emb_tab (i : grid0.Coords) :
    (Rect.unit (s := S23) (k0_off1 i) S1.size (k0_off1_inb i)).emb (Shape.Idx.first (numel1_S1.symm ▸ Nat.one_pos)) = ix1 (tileOf i) := by
  funext a
  obtain rfl : a = (0 : Fin 1) := Subsingleton.elim _ _
  refine Fin.ext ?_
  show (Scalar.indexCast (BitVec.ofNat 32 (i 0).val)).toNat + 1 * 0 = (i 0).val
  have h : (i 0).val < 23 := (i 0).isLt
  show (BitVec.ofNat 32 (i 0).val).toNat + 1 * 0 = (i 0).val
  rw [BitVec.toNat_ofNat]; omega

variable (m : (ℓ : Loc nD τ sig) → Buf (Elt F) ℓ)

theorem tbl0_at (i : grid0.Coords) :
    (tbl (V m)).at 0 (Rect.unit (s := S23) (k0_off1 i) S1.size (k0_off1_inb i)) numel1_S1
      = addi (expertT (F := F) (m (0, Proc.devRef .tc main_arg4))) (broadcastInDim S23 ![] bcast_S_S23 (constantI S_ 32 0#32)) (ix1 (tileOf i)) :=
  (congrArg (tbl (V m) 0) (emb_tab i)).trans (congrFun ((V_thru m 0 main_v48).trans (thru_v48 _)) _)

theorem tbl1_at (i : grid0.Coords) :
    (tbl (V m)).at 1 (Rect.unit (s := S23) (k0_off1 i) S1.size (k0_off1_inb i)) numel1_S1
      = countT (F := F) (m (0, Proc.devRef .tc main_arg4)) (ix1 (tileOf i)) :=
  (congrArg (tbl (V m) 1) (emb_tab i)).trans (congrFun ((V_thru m 0 main_v43).trans (thru_v43 _)) _)

theorem tbl2_at (i : grid0.Coords) :
    (tbl (V m)).at 2 (Rect.unit (s := S23) (k0_off1 i) S1.size (k0_off1_inb i)) numel1_S1
      = srcT (F := F) (endT (m (0, Proc.devRef .tc main_arg4))) (ix1 (tileOf i)) :=
  (congrArg (tbl (V m) 2) (emb_tab i)).trans (congrFun ((V_thru m 0 main_v12).trans (thru_v12 _)) _)

/-- The block of the hidden dimension that a point reads. -/
def fblk (v : BitVec 32) (i : grid0.Coords) : Nat := if 0 < v.toInt then (i 1).val else 27

theorem fblk_eq (v : BitVec 32) (i : grid0.Coords) :
    (Scalar.select (Scalar.cmpi .sgt v 0#32) (BitVec.ofNat 32 (i 1).val) 27#32).toNat = fblk v i := by
  have h : (i 1).val < 28 := (i 1).isLt
  have e : Scalar.cmpi .sgt v 0#32 = BitVec.ofBool (decide ((0 : Int) < v.toInt)) := cmpi_sgt_eq v 0#32
  rw [e]
  unfold fblk
  by_cases hv : 0 < v.toInt
  · rw [if_pos hv, decide_eq_true hv]
    refine Eq.trans (b := (BitVec.ofNat 32 (i 1).val).toNat) rfl ?_
    rw [BitVec.toNat_ofNat]; omega
  · rw [if_neg hv, decide_eq_false hv]; rfl

theorem fblk_lt (v : BitVec 32) (i : grid0.Coords) : fblk v i < 28 := by
  have h : (i 1).val < 28 := (i 1).isLt
  unfold fblk; split <;> omega

/-- The source tile, the expert and the row count of tile `s`. -/
def srcN (s : Fin 23) : Nat := (srcT (F := F) (endT (m (0, Proc.devRef .tc main_arg4))) (ix1 s) : BitVec 32).toNat
def expN (s : Fin 23) : Nat := (addi (expertT (F := F) (m (0, Proc.devRef .tc main_arg4))) (broadcastInDim S23 ![] bcast_S_S23 (constantI S_ 32 0#32)) (ix1 s) : BitVec 32).toNat
def cntW (s : Fin 23) : BitVec 32 := countT (F := F) (m (0, Proc.devRef .tc main_arg4)) (ix1 s)

theorem srcN_lt (s : Fin 23) : srcN m s < 23 := srcT_lt _ s
theorem expN_lt (s : Fin 23) : expN m s < 8 := by
  obtain ⟨k, hk, e⟩ := expertT_lt (F := F) (m (0, Proc.devRef .tc main_arg4)) s
  unfold expN; rw [e, BitVec.toNat_ofNat]; omega

theorem tr0 (i : grid0.Coords) : cc0_transform_0 k0_off1_inb numel1_S1 (tbl (V m)) i = ![srcN m (tileOf i), 0] :=
  congrArg (fun v : BitVec 32 => (![v.toNat, (0#32).toNat] : Fin 2 → Nat)) (tbl2_at m i)
theorem tr1 (i : grid0.Coords) : cc0_transform_1 k0_off1_inb numel1_S1 (tbl (V m)) i = ![expN m (tileOf i), 0, fblk (cntW m (tileOf i)) i] :=
  (congrArg₂ (fun v w : BitVec 32 => (![v.toNat, (0#32).toNat, (Scalar.select (Scalar.cmpi .sgt w 0#32) (BitVec.ofNat 32 (i 1).val) 27#32).toNat] : Fin 3 → Nat)) (tbl0_at m i) (tbl1_at m i)).trans
    (congrArg (fun k => (![expN m (tileOf i), 0, k] : Fin 3 → Nat)) (fblk_eq (cntW m (tileOf i)) i))
theorem tr2 (i : grid0.Coords) : cc0_transform_2 k0_off1_inb numel1_S1 (tbl (V m)) i = ![expN m (tileOf i), 0, fblk (cntW m (tileOf i)) i] := tr1 m i
theorem tr3 (i : grid0.Coords) : cc0_transform_3 k0_off1_inb numel1_S1 (tbl (V m)) i = ![expN m (tileOf i), fblk (cntW m (tileOf i)) i, 0] :=
  (congrArg₂ (fun v w : BitVec 32 => (![v.toNat, (Scalar.select (Scalar.cmpi .sgt w 0#32) (BitVec.ofNat 32 (i 1).val) 27#32).toNat, (0#32).toNat] : Fin 3 → Nat)) (tbl0_at m i) (tbl1_at m i)).trans
    (congrArg (fun k => (![expN m (tileOf i), k, 0] : Fin 3 → Nat)) (fblk_eq (cntW m (tileOf i)) i))

theorem in0 (k : Nat) (hk : k < 23) : ∀ a, ((![k, 0] : Fin 2 → Nat) a + 1) * S1152x2048.size a ≤ S26496x2048.size a := fun a => by
  match a with
  | ⟨0, _⟩ => show (k + 1) * 1152 ≤ 26496; omega
  | ⟨1, _⟩ => show (0 + 1) * 2048 ≤ 2048; omega
theorem in1 (k f : Nat) (hk : k < 8) (hf : f < 28) : ∀ a, ((![k, 0, f] : Fin 3 → Nat) a + 1) * S1x2048x256.size a ≤ S8x2048x7168.size a := fun a => by
  match a with
  | ⟨0, _⟩ => show (k + 1) * 1 ≤ 8; omega
  | ⟨1, _⟩ => show (0 + 1) * 2048 ≤ 2048; omega
  | ⟨2, _⟩ => show (f + 1) * 256 ≤ 7168; omega
theorem in3 (k f : Nat) (hk : k < 8) (hf : f < 28) : ∀ a, ((![k, f, 0] : Fin 3 → Nat) a + 1) * S1x256x2048.size a ≤ S8x7168x2048.size a := fun a => by
  match a with
  | ⟨0, _⟩ => show (k + 1) * 1 ≤ 8; omega
  | ⟨1, _⟩ => show (f + 1) * 256 ≤ 7168; omega
  | ⟨2, _⟩ => show (0 + 1) * 2048 ≤ 2048; omega

theorem words0 (o : Fin 2 → Nat) (h : ∀ a, (o a + 1) * S1152x2048.size a ≤ S26496x2048.size a) :
    (Rect.block (s := S26496x2048) S1152x2048.size o h).WholeWords 2 := by
  have h2 : 2 ≤ S26496x2048.rank := by decide
  have hr : S26496x2048.rowAx h2 = (0 : Fin 2) := rfl
  refine .inl (.inr ⟨h2, rfl, .inl ?_⟩)
  rw [hr]
  exact ⟨Dvd.dvd.mul_left (by decide : 2 ∣ 1152) (o 0), (by decide : 2 ∣ 1152)⟩

/-- Every window's block lies in its array, whatever the counts. -/
theorem ok : Ok (V m) := by
  refine ⟨fun i => ⟨?_, .inr (words0 _ _)⟩, fun i => ⟨?_, .inl rfl⟩, fun i => ⟨?_, .inl rfl⟩, fun i => ⟨?_, .inl rfl⟩⟩
  · rw [tr0]; exact in0 _ (srcN_lt m _)
  · rw [tr1]; exact in1 _ _ (expN_lt m _) (fblk_lt _ _)
  · rw [tr2]; exact in1 _ _ (expN_lt m _) (fblk_lt _ _)
  · rw [tr3]; exact in3 _ _ (expN_lt m _) (fblk_lt _ _)

end Cert.KernelIdeal.Moe

end
-- ==== Proof.Launch.lean ====
/- The run of @main: it ends, its arguments are unchanged, the counters are at zero, and its result holds what the write-backs leave. -/
module

public import proofs.«01_k».proof.Proof.Tables
public import proofs.«01_k».proof.Proof.Run

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ) (ρ : Dev nD → PrngReg)

abbrev hO : Ok (V m) := ok m

set_option maxHeartbeats 4000000 in
set_option backward.isDefEq.respectTransparency.types false in
/-- Every run of @main ends, each array at what the write-backs leave in it, every other buffer as the region found it, the counters at zero. -/
theorem run_main_quiescent : θ_run defs (onTc (τ := τ) (main (F := F))) (s₀ m ρ)
    (fun r => Pipeline.FramePost (Pipeline.pin pcfgs fun _ => adm (V m) (hO m)) (dats (V m) (hO m)) 0 (V m) r ∧ r.2.sem = fun _ => 0) :=
  Pipeline.θ_run_frameP (Q' := _) pcfgs (fun _ => adm (V m) (hO m)) (dats (V m) (hO m)) (0 : Fin 1) launch0 defs₀ Variants.none m ρ main
    (hbody := fun c => (body_obligation (V m) (hO m) c).loose) (hshare := fun c => (dats (V m) (hO m) 0 c).share_full fun _ => rfl)
    (howed := fun _ _ => rfl) (V := V m) (hmain := hmain m Variants.none) (hA := A_eq (V m) (hO m)) (hpf := V_pre (V m)) (hΦ := fun _ _ => rfl)

theorem V_arg0 (c : Dev nD) : V m c main_arg0 = m ((c.tc : Thread nD τ).loc main_arg0) := (V_thru m c main_arg0).trans (thru_arg0 _)
theorem V_arg1 (c : Dev nD) : V m c main_arg1 = m ((c.tc : Thread nD τ).loc main_arg1) := (V_thru m c main_arg1).trans (thru_arg1 _)
theorem V_arg2 (c : Dev nD) : V m c main_arg2 = m ((c.tc : Thread nD τ).loc main_arg2) := (V_thru m c main_arg2).trans (thru_arg2 _)
theorem V_arg3 (c : Dev nD) : V m c main_arg3 = m ((c.tc : Thread nD τ).loc main_arg3) := (V_thru m c main_arg3).trans (thru_arg3 _)
theorem V_arg4 (c : Dev nD) : V m c main_arg4 = m ((c.tc : Thread nD τ).loc main_arg4) := (V_thru m c main_arg4).trans (thru_arg4 _)

/-- @main ends with its arguments unchanged, the counters at zero and its result at what the write-backs leave. -/
theorem run_main : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)
      ∧ ∀ c : Dev nD, r.2.mem ((c.tc : Thread nD τ).loc main_v49) = (dats (V m) (hO m) 0 c).arrAt 4 (cfgM (V m) (hO m)).N) :=
  (θ_run defs _ _).mono (fun _ h => ⟨⟨fun c => ⟨((h.1 c).1 0).trans <| ((dats (V m) (hO m) 0 c).arrAt_in 0 rfl _).trans ((A_eq (V m) (hO m) c 0).trans (V_arg0 m c)),
      ((h.1 c).2 main_arg1 (by decide : main_arg1 ∈ Pipeline.restRefs sig spec0)).trans (V_arg1 m c),
      ((h.1 c).2 main_arg2 (by decide : main_arg2 ∈ Pipeline.restRefs sig spec0)).trans (V_arg2 m c),
      ((h.1 c).2 main_arg3 (by decide : main_arg3 ∈ Pipeline.restRefs sig spec0)).trans (V_arg3 m c),
      ((h.1 c).2 main_arg4 (by decide : main_arg4 ∈ Pipeline.restRefs sig spec0)).trans (V_arg4 m c)⟩, h.2⟩,
      fun c => (h.1 c).1 4⟩) (run_main_quiescent m ρ)

end Cert.KernelIdeal.Moe

end
-- ==== Proof.Across.lean ====
/- The run of @main carried to any program equal to it part by part. -/
module

public import proofs.«01_k».proof.Proof.Launch

@[expose] public section

noncomputable section

namespace Cert.KernelIdeal.Moe

open Cert.KernelIdeal.Gen
open Idealize.ShloMosaic Idealize.ShloMosaic.TcCoe Idealize.SL.Sem

variable {F : FTy → Type} [FloatOps F]

/-- A program with the same pipeline, the same body and the same items runs as @main does. -/
theorem run_at (pc : (p : Fin 1) → Pipeline.PCfg sig Λ₀ (Elt F)) (hp : pc = pcfgs) (d : Defs nD τ sig (Elt F) Λ₀) (hd : d = defs₀)
    (M : Dev nD → Prog (TpuEff nD τ sig (Elt F) (Pipeline.Sig Λ₀ (Fin 1) fun p => (pc p).Adm) .tc) PUnit)
    (hM : ∀ c, M c = Pipeline.chain
      [ StableHlo.seq hostOps0, StableHlo.seq hostOps0_1, StableHlo.seq hostOps0_2, StableHlo.seq hostOps0_3, StableHlo.seq hostOps0_4,
        StableHlo.seq hostOps0_5, StableHlo.seq hostOps0_6, StableHlo.seq hostOps0_7, StableHlo.seq hostOps0_8, StableHlo.seq hostOps0_9,
        Prog.lift (.customCall (Pipeline.entry 0) ()) ])
    (m : (ℓ : Loc nD τ sig) → Buf (Elt F) ℓ) (ρ : Dev nD → PrngReg) :
    θ_run (Pipeline.defs pc d) (onTc (τ := τ) M) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  subst hp hd
  have e : M = main := funext fun c => (hM c).trans (main_chain c).symm
  subst e
  exact (θ_run defs _ _).mono (fun _ h => h.1) (run_main m ρ)

end Cert.KernelIdeal.Moe

end
-- ==== Proof.Same.lean ====
/- The program as printed for reading at floats' bit patterns has the pipeline, the body and the items of the one read at the extended reals. -/
module

public import proofs.«01_k».proof.Proof.Gen.Kernel.Launch
public import proofs.«01_k».proof.Proof.Gen.KernelIdeal.Launch

@[expose] public section

set_option maxHeartbeats 8000000

noncomputable section

namespace Cert.Proof

open Idealize.ShloMosaic Idealize.ShloMosaic.TcCoe Idealize.SL.Sem

variable (F : FTy → Type) [FloatOps F]

theorem same_pcfgs : Cert.Kernel.pcfgs (F := F) = Cert.KernelIdeal.pcfgs (F := F) := rfl

theorem same_defs : Cert.Kernel.defs₀ (F := F) = Cert.KernelIdeal.defs₀ (F := F) := by
  unfold Cert.Kernel.defs₀ Cert.KernelIdeal.defs₀
  refine congrArg Defs.onTc ?_
  funext l x
  match l, x with
  | 0, (t, s) => exact rfl

theorem same0 : Cert.Kernel.Gen.hostOps0 (F := F) = Cert.KernelIdeal.Gen.hostOps0 (F := F) := rfl
theorem same1 : Cert.Kernel.Gen.hostOps0_1 (F := F) = Cert.KernelIdeal.Gen.hostOps0_1 (F := F) := rfl
theorem same2 : Cert.Kernel.Gen.hostOps0_2 (F := F) = Cert.KernelIdeal.Gen.hostOps0_2 (F := F) := rfl
theorem same3 : Cert.Kernel.Gen.hostOps0_3 (F := F) = Cert.KernelIdeal.Gen.hostOps0_3 (F := F) := rfl
theorem same4 : Cert.Kernel.Gen.hostOps0_4 (F := F) = Cert.KernelIdeal.Gen.hostOps0_4 (F := F) := rfl
theorem same5 : Cert.Kernel.Gen.hostOps0_5 (F := F) = Cert.KernelIdeal.Gen.hostOps0_5 (F := F) := rfl
theorem same6 : Cert.Kernel.Gen.hostOps0_6 (F := F) = Cert.KernelIdeal.Gen.hostOps0_6 (F := F) := rfl
theorem same7 : Cert.Kernel.Gen.hostOps0_7 (F := F) = Cert.KernelIdeal.Gen.hostOps0_7 (F := F) := rfl
theorem same8 : Cert.Kernel.Gen.hostOps0_8 (F := F) = Cert.KernelIdeal.Gen.hostOps0_8 (F := F) := rfl
theorem same9 : Cert.Kernel.Gen.hostOps0_9 (F := F) = Cert.KernelIdeal.Gen.hostOps0_9 (F := F) := rfl

end Cert.Proof

end
-- ==== Proof.Frames.lean ====
/- The frames of the three programs. -/
module

public import proofs.«01_k».proof.Defs
public import proofs.«01_k».proof.Proof.Across
public import proofs.«01_k».proof.Proof.Same
public import proofs.«01_k».proof.Proof.Gen.Kernel
public import proofs.«01_k».proof.Proof.Gen.ReferenceIdeal.Run
public import proofs.«01_k».proof.Proof.Gen.Pre_counts_ok

@[expose] public section

set_option maxHeartbeats 2000000

noncomputable section

namespace Cert.Proof

open Idealize.ShloMosaic Idealize.ShloMosaic.TcCoe Idealize.SL.Sem

theorem frame_kernel : Cert.quiescent_Kernel (hKernel := Cert.Kernel.Gen.facts) := fun m ρ _ =>
  Cert.KernelIdeal.Moe.run_at (F := Bits) (Cert.Kernel.pcfgs (F := Bits)) (same_pcfgs Bits) (Cert.Kernel.defs₀ (F := Bits)) (same_defs Bits)
    (Cert.Kernel.main (F := Bits)) (fun c => by
      refine (Cert.Kernel.Gen.main_chain (F := Bits) c).trans ?_
      rw [same0, same1, same2, same3, same4, same5, same6, same7, same8, same9]) m ρ

theorem frame_ideal : Cert.quiescent_KernelIdeal (hKernelIdeal := Cert.KernelIdeal.Gen.facts) := fun m ρ _ =>
  (θ_run (Cert.KernelIdeal.defs (F := Ideal)) _ _).mono (fun _ h => h.1) (Cert.KernelIdeal.Moe.run_main (F := Ideal) m ρ)

theorem frame_ideal_pre : Cert.quiescent_KernelIdeal_pre_counts_ok (hKernelIdeal := Cert.KernelIdeal.Gen.facts) (hPre_counts_ok := Cert.Pre_counts_ok.Gen.facts) := fun m ρ _ =>
  (θ_run (Cert.KernelIdeal.defs (F := Ideal)) _ _).mono (fun _ h => h.1) (Cert.KernelIdeal.Moe.run_main (F := Ideal) m ρ)

theorem frame_ref : Cert.quiescent_ReferenceIdeal (hReferenceIdeal := Cert.ReferenceIdeal.Gen.facts) := fun m ρ _ =>
  (θ_run (Cert.ReferenceIdeal.defs (F := Ideal)) _ _).mono (fun r h => ⟨fun c => (h c).2, Idealize.ShloMosaic.sem_eq_zero_of_no_sems (by decide) r.2⟩)
    (Cert.ReferenceIdeal.Value.run (F := Ideal) m ρ)

theorem frame_ref_pre : Cert.quiescent_ReferenceIdeal_pre_counts_ok (hReferenceIdeal := Cert.ReferenceIdeal.Gen.facts) (hPre_counts_ok := Cert.Pre_counts_ok.Gen.facts) := fun m ρ _ =>
  (θ_run (Cert.ReferenceIdeal.defs (F := Ideal)) _ _).mono (fun r h => ⟨fun c => (h c).2, Idealize.ShloMosaic.sem_eq_zero_of_no_sems (by decide) r.2⟩)
    (Cert.ReferenceIdeal.Value.run (F := Ideal) m ρ)

end Cert.Proof

end
-- ==== Proof.Body.lean ====
/- What one grid point adds to an element of the tile's block, over the extended reals. -/
module

public import proofs.«01_k».proof.Proof.Traj
public import Idealize.ShloMosaic.Lib.Pointwise

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

/-- A hidden value before the gate: a row of the tile against a column of a weight block. -/
def hid (x : Vec Ideal S1152x2048 .bf16) (w : Vec Ideal S1x2048x256 .f32) (r : Fin 1152) (f : Fin 256) : EReal :=
  ∑ k : Fin 2048, x (ix2 r k) * w (ix3 0 k f)

/-- The gate as the kernel computes it. -/
def gate (h : EReal) : EReal :=
  h * (Ideal.ofBits .f32 0x3F000000#32 * Ideal.tanh (Ideal.ofBits .f32 0x3F000000#32 * h) + Ideal.ofBits .f32 0x3F000000#32)

/-- What one block of the hidden axis adds to an element of the tile. -/
def contrib (x0 : Vec Ideal S1152x2048 .bf16) (x1 x2 : Vec Ideal S1x2048x256 .f32) (x3 : Vec Ideal S1x256x2048 .f32)
    (r : Fin 1152) (d : Fin 2048) : EReal :=
  ∑ f : Fin 256, gate (hid x0 x1 r f) * hid x0 x2 r f * x3 (ix3 0 f d)

theorem accAll_ap (x0 : Vec Ideal S1152x2048 .bf16) (x1 x2 : Vec Ideal S1x2048x256 .f32) (x3 : Vec Ideal S1x256x2048 .f32)
    (y : Vec Ideal S1152x2048 .f32) (r : Fin 1152) (d : Fin 2048) :
    accAll x0 x1 x2 x3 y (ix2 r d) = y (ix2 r d) + contrib x0 x1 x2 x3 r d := by
  unfold accAll contrib hid gate
  pointwise [k0_pay2]

/-- The three products of a group of 384 rows, at an element. -/
def contribOf (xw : Fin 2048 → EReal) (x1 x2 : Vec Ideal S1x2048x256 .f32) (x3 : Vec Ideal S1x256x2048 .f32) (d : Fin 2048) : EReal :=
  ∑ f : Fin 256, gate (∑ k : Fin 2048, xw k * x1 (ix3 0 k f)) * (∑ k : Fin 2048, xw k * x2 (ix3 0 k f)) * x3 (ix3 0 f d)

theorem low_pay (xw : Vec Ideal S384x2048 .bf16) (x1 x2 : Vec Ideal S1x2048x256 .f32) (x3 : Vec Ideal S1x256x2048 .f32)
    (yw : Vec Ideal S384x2048 .f32) (q : Fin 384) (d : Fin 2048) :
    k0_pay3 (k0_pay8 xw (k0_pay6 x2)) (k0_pay9 xw (k0_pay5 x1)) yw (k0_pay7 x3) (ix2 q d)
      = yw (ix2 q d) + contribOf (fun k => xw (ix2 q k)) x1 x2 x3 d := by
  unfold contribOf gate
  pointwise [k0_pay3, k0_pay5, k0_pay6, k0_pay7, k0_pay8, k0_pay9]

theorem mid_pay (xw : Vec Ideal S384x2048 .bf16) (x1 x2 : Vec Ideal S1x2048x256 .f32) (x3 : Vec Ideal S1x256x2048 .f32)
    (yw : Vec Ideal S384x2048 .f32) (q : Fin 384) (d : Fin 2048) :
    k0_pay4 xw (k0_pay5 x1) (k0_pay6 x2) yw (k0_pay7 x3) (ix2 q d)
      = yw (ix2 q d) + contribOf (fun k => xw (ix2 q k)) x1 x2 x3 d := by
  unfold contribOf gate
  pointwise [k0_pay4, k0_pay5, k0_pay6, k0_pay7]

/-- A window of 384 rows from row `o` on, read at a row of it. -/
theorem window_rows {e : EltTy} (x : Vec Ideal S1152x2048 e) (o : ℕ) (inb : ∀ a, (![o, 0] : Fin 2 → ℕ) a + S384x2048.size a ≤ S1152x2048.size a)
    (q : Fin 384) (k : Fin 2048) (r : Fin 1152) (h : r.val = o + q.val) :
    VecWindow.window (s := S1152x2048) x ![o, 0] S384x2048.size inb (ix2 q k) = x (ix2 r k) :=
  congrArg x (funext fun a => by
    match a with
    | ⟨0, _⟩ => exact Fin.ext (by show o + 1 * q.val = r.val; omega)
    | ⟨1, _⟩ => exact Fin.ext (by show 0 + 1 * k.val = k.val; omega))

theorem put_in {e : EltTy} (y : Vec Ideal S1152x2048 e) (o : ℕ) (w : Vec Ideal S384x2048 e) (r : Fin 1152) (d : Fin 2048) (q : Fin 384)
    (h : r.val = o + q.val) :
    VecWindow.put (s := S1152x2048) y ![o, 0] S384x2048.size w (ix2 r d) = w (ix2 q d) := by
  unfold VecWindow.put
  rw [dif_pos (fun a => by
    match a with
    | ⟨0, _⟩ => exact ⟨by show o ≤ r.val; omega, by show r.val < o + 384; have := q.isLt; omega⟩
    | ⟨1, _⟩ => exact ⟨Nat.zero_le _, by show d.val < 0 + 2048; omega⟩)]
  exact congrArg w (funext fun a => by
    match a with
    | ⟨0, _⟩ => exact Fin.ext (by show r.val - o = q.val; omega)
    | ⟨1, _⟩ => exact Fin.ext (by show d.val - 0 = d.val; omega))

theorem put_out {e : EltTy} (y : Vec Ideal S1152x2048 e) (o : ℕ) (w : Vec Ideal S384x2048 e) (r : Fin 1152) (d : Fin 2048)
    (h : r.val < o ∨ o + 384 ≤ r.val) :
    VecWindow.put (s := S1152x2048) y ![o, 0] S384x2048.size w (ix2 r d) = y (ix2 r d) := by
  unfold VecWindow.put
  rw [dif_neg (fun hall => by
    have h0 : o ≤ r.val ∧ r.val < o + 384 := hall (0 : Fin 2)
    omega)]

theorem accLow_in (x0 : Vec Ideal S1152x2048 .bf16) (x1 x2 : Vec Ideal S1x2048x256 .f32) (x3 : Vec Ideal S1x256x2048 .f32)
    (y : Vec Ideal S1152x2048 .f32) (r : Fin 1152) (d : Fin 2048) (hr : r.val < 384) :
    accLow x0 x1 x2 x3 y (ix2 r d) = y (ix2 r d) + contrib x0 x1 x2 x3 r d := by
  refine (put_in y 0 _ r d ⟨r.val, hr⟩ (by show r.val = 0 + r.val; omega)).trans ((low_pay _ x1 x2 x3 _ _ d).trans ?_)
  refine congrArg₂ (· + ·) (window_rows y 0 _ _ d r (by show r.val = 0 + r.val; omega)) ?_
  exact congrArg (fun g => contribOf g x1 x2 x3 d) (funext fun k => window_rows x0 0 _ _ k r (by show r.val = 0 + r.val; omega))

theorem accLow_out (x0 : Vec Ideal S1152x2048 .bf16) (x1 x2 : Vec Ideal S1x2048x256 .f32) (x3 : Vec Ideal S1x256x2048 .f32)
    (y : Vec Ideal S1152x2048 .f32) (r : Fin 1152) (d : Fin 2048) (hr : 384 ≤ r.val) :
    accLow x0 x1 x2 x3 y (ix2 r d) = y (ix2 r d) :=
  put_out y 0 _ r d (Or.inr (by omega))

theorem accMid_in (x0 : Vec Ideal S1152x2048 .bf16) (x1 x2 : Vec Ideal S1x2048x256 .f32) (x3 : Vec Ideal S1x256x2048 .f32)
    (y : Vec Ideal S1152x2048 .f32) (r : Fin 1152) (d : Fin 2048) (h0 : 384 ≤ r.val) (hr : r.val < 768) :
    accMid x0 x1 x2 x3 y (ix2 r d) = y (ix2 r d) + contrib x0 x1 x2 x3 r d := by
  have e : r.val = 384 + (r.val - 384) := by omega
  refine (put_in y 384 _ r d ⟨r.val - 384, by omega⟩ e).trans ((mid_pay _ x1 x2 x3 _ _ d).trans ?_)
  refine congrArg₂ (· + ·) (window_rows y 384 _ _ d r e) ?_
  exact congrArg (fun g => contribOf g x1 x2 x3 d) (funext fun k => window_rows x0 384 _ _ k r e)

theorem accMid_out (x0 : Vec Ideal S1152x2048 .bf16) (x1 x2 : Vec Ideal S1x2048x256 .f32) (x3 : Vec Ideal S1x256x2048 .f32)
    (y : Vec Ideal S1152x2048 .f32) (r : Fin 1152) (d : Fin 2048) (hr : r.val < 384) :
    accMid x0 x1 x2 x3 y (ix2 r d) = y (ix2 r d) :=
  put_out y 384 _ r d (Or.inl hr)

/-- A row below the tile's row count gets the block's contribution, whichever of the three cases the point takes. -/
theorem stepOut_ap (i : grid0.Coords) (v : BitVec 32) (x0 : Vec Ideal S1152x2048 .bf16) (x1 x2 : Vec Ideal S1x2048x256 .f32)
    (x3 : Vec Ideal S1x256x2048 .f32) (y : Vec Ideal S1152x2048 .f32) (r : Fin 1152) (d : Fin 2048) (hr : (r.val : ℤ) < v.toInt) :
    stepOut i v x0 x1 x2 x3 y (ix2 r d) = zeroed i y (ix2 r d) + contrib x0 x1 x2 x3 r d := by
  unfold stepOut
  by_cases h2 : 768 < v.toInt
  · rw [if_pos ((cond2_iff v).2 h2)]
    exact accAll_ap x0 x1 x2 x3 _ r d
  · rw [if_neg (fun h => h2 ((cond2_iff v).1 h)), if_pos ((cond3_iff v).2 ⟨by omega, h2⟩)]
    by_cases h4 : 384 < v.toInt
    · rw [if_pos ((cond4_iff v).2 ⟨h4, h2⟩)]
      by_cases hl : r.val < 384
      · exact (accMid_out x0 x1 x2 x3 _ r d hl).trans (accLow_in x0 x1 x2 x3 _ r d hl)
      · rw [accMid_in x0 x1 x2 x3 _ r d (by omega) (by omega), accLow_out x0 x1 x2 x3 _ r d (by omega)]
    · rw [if_neg (fun h => h4 ((cond4_iff v).1 h).1)]
      exact accLow_in x0 x1 x2 x3 _ r d (by omega)

theorem zeroed_pos (i : grid0.Coords) (h : k0_cond1 i = 1#1) (y : Vec Ideal S1152x2048 .f32) (j : S1152x2048.Idx) : zeroed i y j = 0 := by
  unfold zeroed
  rw [if_pos h]
  pointwise [k0_pay1]

end Cert.KernelIdeal.Moe

end
-- ==== Proof.Final.lean ====
/- The input blocks at an index, and the result array after the run: the tiles' blocks side by side. -/
module

public import proofs.«01_k».proof.Proof.Traj
public import Idealize.ShloMosaic.Lib.Pointwise
public import Idealize.ShloMosaic.Lib.Pipeline.ValueKit.Geometry

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (V : Entry F)

/-- The output window's block index, an axis at a time. -/
theorem idx4_0 (hO : Ok V) (t : Fin (cfgM V hO).N) : ((cfgM V hO).win 4).index t (0 : Fin 2) = t.val / 28 := congrFun (idx4 V hO t) (0 : Fin 2)
theorem idx4_1 (hO : Ok V) (t : Fin (cfgM V hO).N) : ((cfgM V hO).win 4).index t (1 : Fin 2) = 0 := congrFun (idx4 V hO t) (1 : Fin 2)

/-- An index of the output's block, placed in the array. -/
theorem emb4_0 (hO : Ok V) (t : Fin (cfgM V hO).N) (y : S1152x2048.Idx) :
    (((((cfgM V hO).win 4).blk t).view.emb y : S26496x2048.Idx) (0 : Fin 2)).val = t.val / 28 * 1152 + (y (0 : Fin 2)).val := by
  show ((cfgM V hO).win 4).index t (0 : Fin 2) * 1152 + 1 * (y (0 : Fin 2)).val = _
  rw [idx4_0, Nat.one_mul]
theorem emb4_1 (hO : Ok V) (t : Fin (cfgM V hO).N) (y : S1152x2048.Idx) :
    (((((cfgM V hO).win 4).blk t).view.emb y : S26496x2048.Idx) (1 : Fin 2)).val = (y (1 : Fin 2)).val := by
  show ((cfgM V hO).win 4).index t (1 : Fin 2) * 2048 + 1 * (y (1 : Fin 2)).val = _
  rw [idx4_1, Nat.one_mul, Nat.zero_mul, Nat.zero_add]

/-- An index of an input's block, placed in the array. -/
theorem emb0_0 (hO : Ok V) (t : Fin (cfgM V hO).N) (y : S1152x2048.Idx) :
    (((((cfgM V hO).win 0).blk t).view.emb y : S26496x2048.Idx) (0 : Fin 2)).val
      = cc0_transform_0 k0_off1_inb numel1_S1 (tbl V) (grid0.coords t) (0 : Fin 2) * 1152 + 1 * (y (0 : Fin 2)).val := rfl
theorem emb0_1 (hO : Ok V) (t : Fin (cfgM V hO).N) (y : S1152x2048.Idx) :
    (((((cfgM V hO).win 0).blk t).view.emb y : S26496x2048.Idx) (1 : Fin 2)).val
      = cc0_transform_0 k0_off1_inb numel1_S1 (tbl V) (grid0.coords t) (1 : Fin 2) * 2048 + 1 * (y (1 : Fin 2)).val := rfl
theorem emb1_0 (hO : Ok V) (t : Fin (cfgM V hO).N) (y : S1x2048x256.Idx) :
    (((((cfgM V hO).win 1).blk t).view.emb y : S8x2048x7168.Idx) (0 : Fin 3)).val
      = cc0_transform_1 k0_off1_inb numel1_S1 (tbl V) (grid0.coords t) (0 : Fin 3) * 1 + 1 * (y (0 : Fin 3)).val := rfl
theorem emb1_1 (hO : Ok V) (t : Fin (cfgM V hO).N) (y : S1x2048x256.Idx) :
    (((((cfgM V hO).win 1).blk t).view.emb y : S8x2048x7168.Idx) (1 : Fin 3)).val
      = cc0_transform_1 k0_off1_inb numel1_S1 (tbl V) (grid0.coords t) (1 : Fin 3) * 2048 + 1 * (y (1 : Fin 3)).val := rfl
theorem emb1_2 (hO : Ok V) (t : Fin (cfgM V hO).N) (y : S1x2048x256.Idx) :
    (((((cfgM V hO).win 1).blk t).view.emb y : S8x2048x7168.Idx) (2 : Fin 3)).val
      = cc0_transform_1 k0_off1_inb numel1_S1 (tbl V) (grid0.coords t) (2 : Fin 3) * 256 + 1 * (y (2 : Fin 3)).val := rfl
theorem emb2_0 (hO : Ok V) (t : Fin (cfgM V hO).N) (y : S1x2048x256.Idx) :
    (((((cfgM V hO).win 2).blk t).view.emb y : S8x2048x7168.Idx) (0 : Fin 3)).val
      = cc0_transform_2 k0_off1_inb numel1_S1 (tbl V) (grid0.coords t) (0 : Fin 3) * 1 + 1 * (y (0 : Fin 3)).val := rfl
theorem emb2_1 (hO : Ok V) (t : Fin (cfgM V hO).N) (y : S1x2048x256.Idx) :
    (((((cfgM V hO).win 2).blk t).view.emb y : S8x2048x7168.Idx) (1 : Fin 3)).val
      = cc0_transform_2 k0_off1_inb numel1_S1 (tbl V) (grid0.coords t) (1 : Fin 3) * 2048 + 1 * (y (1 : Fin 3)).val := rfl
theorem emb2_2 (hO : Ok V) (t : Fin (cfgM V hO).N) (y : S1x2048x256.Idx) :
    (((((cfgM V hO).win 2).blk t).view.emb y : S8x2048x7168.Idx) (2 : Fin 3)).val
      = cc0_transform_2 k0_off1_inb numel1_S1 (tbl V) (grid0.coords t) (2 : Fin 3) * 256 + 1 * (y (2 : Fin 3)).val := rfl
theorem emb3_0 (hO : Ok V) (t : Fin (cfgM V hO).N) (y : S1x256x2048.Idx) :
    (((((cfgM V hO).win 3).blk t).view.emb y : S8x7168x2048.Idx) (0 : Fin 3)).val
      = cc0_transform_3 k0_off1_inb numel1_S1 (tbl V) (grid0.coords t) (0 : Fin 3) * 1 + 1 * (y (0 : Fin 3)).val := rfl
theorem emb3_1 (hO : Ok V) (t : Fin (cfgM V hO).N) (y : S1x256x2048.Idx) :
    (((((cfgM V hO).win 3).blk t).view.emb y : S8x7168x2048.Idx) (1 : Fin 3)).val
      = cc0_transform_3 k0_off1_inb numel1_S1 (tbl V) (grid0.coords t) (1 : Fin 3) * 256 + 1 * (y (1 : Fin 3)).val := rfl
theorem emb3_2 (hO : Ok V) (t : Fin (cfgM V hO).N) (y : S1x256x2048.Idx) :
    (((((cfgM V hO).win 3).blk t).view.emb y : S8x7168x2048.Idx) (2 : Fin 3)).val
      = cc0_transform_3 k0_off1_inb numel1_S1 (tbl V) (grid0.coords t) (2 : Fin 3) * 2048 + 1 * (y (2 : Fin 3)).val := rfl

/-- An input block at an index: its array at the placed index. -/
theorem iblk0_ap (hO : Ok V) (c : Dev nD) (t : Fin (cfgM V hO).N) (y : S1152x2048.Idx) (z : S26496x2048.Idx)
    (h0 : cc0_transform_0 k0_off1_inb numel1_S1 (tbl V) (grid0.coords t) (0 : Fin 2) * 1152 + 1 * (y (0 : Fin 2)).val = (z (0 : Fin 2)).val)
    (h1 : cc0_transform_0 k0_off1_inb numel1_S1 (tbl V) (grid0.coords t) (1 : Fin 2) * 2048 + 1 * (y (1 : Fin 2)).val = (z (1 : Fin 2)).val) :
    ib0 V hO c t y = V c main_arg0 z :=
  congrArg (V c main_arg0) (funext fun (a : Fin 2) => by
    match a with
    | ⟨0, _⟩ => exact Fin.ext ((emb0_0 V hO t y).trans h0)
    | ⟨1, _⟩ => exact Fin.ext ((emb0_1 V hO t y).trans h1))
theorem iblk1_ap (hO : Ok V) (c : Dev nD) (t : Fin (cfgM V hO).N) (y : S1x2048x256.Idx) (z : S8x2048x7168.Idx)
    (h0 : cc0_transform_1 k0_off1_inb numel1_S1 (tbl V) (grid0.coords t) (0 : Fin 3) * 1 + 1 * (y (0 : Fin 3)).val = (z (0 : Fin 3)).val)
    (h1 : cc0_transform_1 k0_off1_inb numel1_S1 (tbl V) (grid0.coords t) (1 : Fin 3) * 2048 + 1 * (y (1 : Fin 3)).val = (z (1 : Fin 3)).val)
    (h2 : cc0_transform_1 k0_off1_inb numel1_S1 (tbl V) (grid0.coords t) (2 : Fin 3) * 256 + 1 * (y (2 : Fin 3)).val = (z (2 : Fin 3)).val) :
    ib1 V hO c t y = V c main_v44 z :=
  congrArg (V c main_v44) (funext fun (a : Fin 3) => by
    match a with
    | ⟨0, _⟩ => exact Fin.ext ((emb1_0 V hO t y).trans h0)
    | ⟨1, _⟩ => exact Fin.ext ((emb1_1 V hO t y).trans h1)
    | ⟨2, _⟩ => exact Fin.ext ((emb1_2 V hO t y).trans h2))
theorem iblk2_ap (hO : Ok V) (c : Dev nD) (t : Fin (cfgM V hO).N) (y : S1x2048x256.Idx) (z : S8x2048x7168.Idx)
    (h0 : cc0_transform_2 k0_off1_inb numel1_S1 (tbl V) (grid0.coords t) (0 : Fin 3) * 1 + 1 * (y (0 : Fin 3)).val = (z (0 : Fin 3)).val)
    (h1 : cc0_transform_2 k0_off1_inb numel1_S1 (tbl V) (grid0.coords t) (1 : Fin 3) * 2048 + 1 * (y (1 : Fin 3)).val = (z (1 : Fin 3)).val)
    (h2 : cc0_transform_2 k0_off1_inb numel1_S1 (tbl V) (grid0.coords t) (2 : Fin 3) * 256 + 1 * (y (2 : Fin 3)).val = (z (2 : Fin 3)).val) :
    ib2 V hO c t y = V c main_v45 z :=
  congrArg (V c main_v45) (funext fun (a : Fin 3) => by
    match a with
    | ⟨0, _⟩ => exact Fin.ext ((emb2_0 V hO t y).trans h0)
    | ⟨1, _⟩ => exact Fin.ext ((emb2_1 V hO t y).trans h1)
    | ⟨2, _⟩ => exact Fin.ext ((emb2_2 V hO t y).trans h2))
theorem iblk3_ap (hO : Ok V) (c : Dev nD) (t : Fin (cfgM V hO).N) (y : S1x256x2048.Idx) (z : S8x7168x2048.Idx)
    (h0 : cc0_transform_3 k0_off1_inb numel1_S1 (tbl V) (grid0.coords t) (0 : Fin 3) * 1 + 1 * (y (0 : Fin 3)).val = (z (0 : Fin 3)).val)
    (h1 : cc0_transform_3 k0_off1_inb numel1_S1 (tbl V) (grid0.coords t) (1 : Fin 3) * 256 + 1 * (y (1 : Fin 3)).val = (z (1 : Fin 3)).val)
    (h2 : cc0_transform_3 k0_off1_inb numel1_S1 (tbl V) (grid0.coords t) (2 : Fin 3) * 2048 + 1 * (y (2 : Fin 3)).val = (z (2 : Fin 3)).val) :
    ib3 V hO c t y = V c main_v46 z :=
  congrArg (V c main_v46) (funext fun (a : Fin 3) => by
    match a with
    | ⟨0, _⟩ => exact Fin.ext ((emb3_0 V hO t y).trans h0)
    | ⟨1, _⟩ => exact Fin.ext ((emb3_1 V hO t y).trans h1)
    | ⟨2, _⟩ => exact Fin.ext ((emb3_2 V hO t y).trans h2))

theorem iblk0_at (hO : Ok V) (c : Dev nD) (t : Fin (cfgM V hO).N) (r : Fin 1152) (k : Fin 2048) (p : Fin 26496) (a : ℕ)
    (h : cc0_transform_0 k0_off1_inb numel1_S1 (tbl V) (grid0.coords t) = ![a, 0]) (hp : p.val = a * 1152 + r.val) :
    ib0 V hO c t (ix2 r k) = V c main_arg0 (ix2 p k) :=
  iblk0_ap V hO c t (ix2 r k) (ix2 p k)
    (by rw [h]; show a * 1152 + 1 * r.val = p.val; omega)
    (by rw [h]; show 0 * 2048 + 1 * k.val = k.val; omega)
theorem iblk1_at (hO : Ok V) (c : Dev nD) (t : Fin (cfgM V hO).N) (k : Fin 2048) (f : Fin 256) (e : Fin 8) (g : Fin 7168) (a b : ℕ)
    (h : cc0_transform_1 k0_off1_inb numel1_S1 (tbl V) (grid0.coords t) = ![a, 0, b]) (he : e.val = a) (hg : g.val = b * 256 + f.val) :
    ib1 V hO c t (ix3 0 k f) = V c main_v44 (ix3 e k g) :=
  iblk1_ap V hO c t (ix3 0 k f) (ix3 e k g)
    (by rw [h]; show a * 1 + 1 * 0 = e.val; omega)
    (by rw [h]; show 0 * 2048 + 1 * k.val = k.val; omega)
    (by rw [h]; show b * 256 + 1 * f.val = g.val; omega)
theorem iblk2_at (hO : Ok V) (c : Dev nD) (t : Fin (cfgM V hO).N) (k : Fin 2048) (f : Fin 256) (e : Fin 8) (g : Fin 7168) (a b : ℕ)
    (h : cc0_transform_2 k0_off1_inb numel1_S1 (tbl V) (grid0.coords t) = ![a, 0, b]) (he : e.val = a) (hg : g.val = b * 256 + f.val) :
    ib2 V hO c t (ix3 0 k f) = V c main_v45 (ix3 e k g) :=
  iblk2_ap V hO c t (ix3 0 k f) (ix3 e k g)
    (by rw [h]; show a * 1 + 1 * 0 = e.val; omega)
    (by rw [h]; show 0 * 2048 + 1 * k.val = k.val; omega)
    (by rw [h]; show b * 256 + 1 * f.val = g.val; omega)
theorem iblk3_at (hO : Ok V) (c : Dev nD) (t : Fin (cfgM V hO).N) (f : Fin 256) (d : Fin 2048) (e : Fin 8) (g : Fin 7168) (a b : ℕ)
    (h : cc0_transform_3 k0_off1_inb numel1_S1 (tbl V) (grid0.coords t) = ![a, b, 0]) (he : e.val = a) (hg : g.val = b * 256 + f.val) :
    ib3 V hO c t (ix3 0 f d) = V c main_v46 (ix3 e g d) :=
  iblk3_ap V hO c t (ix3 0 f d) (ix3 e g d)
    (by rw [h]; show a * 1 + 1 * 0 = e.val; omega)
    (by rw [h]; show b * 256 + 1 * f.val = g.val; omega)
    (by rw [h]; show 0 * 2048 + 1 * d.val = d.val; omega)

theorem lastPt (hO : Ok V) (p : ℕ) (h : p < 26496) : 28 * (p / 1152) + 27 < (cfgM V hO).N := by
  have hN : (cfgM V hO).N = 644 := N_0
  omega

/-- What the result array ends holding: each tile of 1152 rows at its block after the tile's last point. -/
def result (hO : Ok V) (c : Dev nD) : (⟨S26496x2048, .f32⟩ : BufTy).Contents (Elt F) := fun i =>
  outAt V hO c (28 * ((i (0 : Fin 2)).val / 1152) + 27) (lastPt V hO _ (i (0 : Fin 2)).isLt)
    (ix2 ⟨(i (0 : Fin 2)).val % 1152, Nat.mod_lt _ (by decide)⟩ (i (1 : Fin 2)))

theorem outAt_congr (hO : Ok V) (c : Dev nD) {a b : ℕ} (e : a = b) (ha : a < (cfgM V hO).N) (hb : b < (cfgM V hO).N) (y z : S1152x2048.Idx) (hy : y = z) :
    outAt V hO c a ha y = outAt V hO c b hb z := by subst e; subst hy; rfl

theorem result_ap (hO : Ok V) (c : Dev nD) (t : Fin (cfgM V hO).N) (h27 : t.val % 28 = 27) (y : S1152x2048.Idx) (z : S26496x2048.Idx)
    (h0 : (z (0 : Fin 2)).val = t.val / 28 * 1152 + (y (0 : Fin 2)).val) (h1 : (z (1 : Fin 2)).val = (y (1 : Fin 2)).val) :
    outAt V hO c t.val t.isLt y = result V hO c z := by
  have hy0 : (y (0 : Fin 2)).val < 1152 := (y (0 : Fin 2)).isLt
  unfold result
  refine outAt_congr V hO c (by omega) _ _ _ _ (funext fun (a : Fin 2) => ?_)
  match a with
  | ⟨0, _⟩ => exact Fin.ext (by show (y (0 : Fin 2)).val = (z (0 : Fin 2)).val % 1152; omega)
  | ⟨1, _⟩ => exact Fin.ext h1.symm

theorem flushed_eq (hO : Ok V) (c : Dev nD) (t : Fin (cfgM V hO).N) (hf : ((cfgM V hO).win 4).flush t = true) :
    (dats V hO 0 c).flushed 4 t = (((cfgM V hO).win 4).blk t).view.read (Elt F) (result V hO c) := by
  have h27 : t.val % 28 = 27 := by rw [flush4, decide_eq_true_iff] at hf; exact hf
  show ((cfgM V hO).win 4).cut (grid0.coords t) ((dats V hO 0 c).after 4 t) = _
  rw [after4]
  exact funext fun (y : S1152x2048.Idx) => result_ap V hO c t h27 y _ (emb4_0 V hO t y) (emb4_1 V hO t y)

theorem cover4 (hO : Ok V) (i : S26496x2048.Idx) :
    ∃ t : Fin (cfgM V hO).N, ((cfgM V hO).win 4).flush t = true ∧ i ∈ (((cfgM V hO).win 4).blk t).view.set := by
  have h0 : (i (0 : Fin 2)).val < 26496 := (i (0 : Fin 2)).isLt
  have h1 : (i (1 : Fin 2)).val < 2048 := (i (1 : Fin 2)).isLt
  have ht := lastPt V hO _ h0
  obtain ⟨t, et⟩ : ∃ t : Fin (cfgM V hO).N, t.val = 28 * ((i (0 : Fin 2)).val / 1152) + 27 := ⟨⟨_, ht⟩, rfl⟩
  refine ⟨t, by rw [flush4, decide_eq_true_iff]; omega, ?_⟩
  have hx0 := idx4_0 V hO t
  have hx1 := idx4_1 V hO t
  refine (ValueKit.mem_set_slice_whole_iff main_v49 (((cfgM V hO).win 4).rect t) i (Rect.mem_set_unit (s := S26496x2048))).2 ?_
  intro (a : Fin 2)
  match a with
  | ⟨0, _⟩ =>
    show ((cfgM V hO).win 4).index t (0 : Fin 2) * 1152 ≤ (i (0 : Fin 2)).val ∧ (i (0 : Fin 2)).val < ((cfgM V hO).win 4).index t (0 : Fin 2) * 1152 + 1152
    rw [hx0]; omega
  | ⟨1, _⟩ =>
    show ((cfgM V hO).win 4).index t (1 : Fin 2) * 2048 ≤ (i (1 : Fin 2)).val ∧ (i (1 : Fin 2)).val < ((cfgM V hO).win 4).index t (1 : Fin 2) * 2048 + 2048
    rw [hx1]; omega

theorem final_out (hO : Ok V) (c : Dev nD) : (dats V hO 0 c).arrAt 4 (cfgM V hO).N = result V hO c :=
  (dats V hO 0 c).arrAt_eq_of_cover 4 (result V hO c) (flushed_eq V hO c) (cover4 V hO)

end Cert.KernelIdeal.Moe

end
-- ==== Proof.Acc.lean ====
/- What a tile's block holds after its points, at a counted row, in the argument arrays. -/
module

public import proofs.«01_k».proof.Proof.Launch
public import proofs.«01_k».proof.Proof.Body
public import proofs.«01_k».proof.Proof.Final

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt Ideal) ℓ)

abbrev NM : ℕ := (cfgM (V m) (hO m)).N

theorem rows_eq (t : Fin (cfgM (V m) (hO m)).N) : rowsAt (V m) (hO m) t = cntW m (tileOf (grid0.coords t)) := tbl1_at m (grid0.coords t)

/-- The argument arrays, as plain arrays of extended reals. -/
abbrev aX (c : Dev nD) : Vec Ideal S26496x2048 .bf16 := m ((c.tc : Thread nD τ).loc main_arg0)
abbrev aW1 (c : Dev nD) : Vec Ideal S1x8x2048x7168 .f32 := m ((c.tc : Thread nD τ).loc main_arg1)
abbrev aW3 (c : Dev nD) : Vec Ideal S1x8x2048x7168 .f32 := m ((c.tc : Thread nD τ).loc main_arg2)
abbrev aW2 (c : Dev nD) : Vec Ideal S1x8x7168x2048 .f32 := m ((c.tc : Thread nD τ).loc main_arg3)

/-- A row of the tile's source block. -/
theorem ib0_ap (c : Dev nD) (t : Fin (cfgM (V m) (hO m)).N) (r : Fin 1152) (k : Fin 2048) (p : Fin 26496)
    (hp : p.val = srcN m (tileOf (grid0.coords t)) * 1152 + r.val) :
    ib0 (V m) (hO m) c t (ix2 r k) = aX m c (ix2 p k) := by
  exact (iblk0_at (V m) (hO m) c t r k p _ (tr0 m (grid0.coords t)) hp).trans (congrFun (V_arg0 m c) (ix2 p k))

theorem cast1 (w : Vec Ideal S1x8x2048x7168 .f32) (e : Fin 8) (k : Fin 2048) (g : Fin 7168) :
    shapeCast S8x2048x7168 w shapeCasts_S1x8x2048x7168_S8x2048x7168 (ix3 e k g) = w (ix4 0 e k g) := by
  pointwise
theorem cast3 (w : Vec Ideal S1x8x7168x2048 .f32) (e : Fin 8) (k : Fin 7168) (g : Fin 2048) :
    shapeCast S8x7168x2048 w shapeCasts_S1x8x7168x2048_S8x7168x2048 (ix3 e k g) = w (ix4 0 e k g) := by
  pointwise

theorem ib1_ap (c : Dev nD) (t : Fin (cfgM (V m) (hO m)).N) (k : Fin 2048) (f : Fin 256) (e : Fin 8) (g : Fin 7168)
    (he : e.val = expN m (tileOf (grid0.coords t)))
    (hg : g.val = fblk (cntW m (tileOf (grid0.coords t))) (grid0.coords t) * 256 + f.val) :
    ib1 (V m) (hO m) c t (ix3 0 k f) = aW1 m c (ix4 0 e k g) := by
  exact (iblk1_at (V m) (hO m) c t k f e g _ _ (tr1 m (grid0.coords t)) he hg).trans
    ((congrFun ((V_thru m c main_v44).trans (thru_v44 _)) (ix3 e k g)).trans (cast1 _ e k g))

theorem ib2_ap (c : Dev nD) (t : Fin (cfgM (V m) (hO m)).N) (k : Fin 2048) (f : Fin 256) (e : Fin 8) (g : Fin 7168)
    (he : e.val = expN m (tileOf (grid0.coords t)))
    (hg : g.val = fblk (cntW m (tileOf (grid0.coords t))) (grid0.coords t) * 256 + f.val) :
    ib2 (V m) (hO m) c t (ix3 0 k f) = aW3 m c (ix4 0 e k g) := by
  exact (iblk2_at (V m) (hO m) c t k f e g _ _ (tr2 m (grid0.coords t)) he hg).trans
    ((congrFun ((V_thru m c main_v45).trans (thru_v45 _)) (ix3 e k g)).trans (cast1 _ e k g))

theorem ib3_ap (c : Dev nD) (t : Fin (cfgM (V m) (hO m)).N) (f : Fin 256) (d : Fin 2048) (e : Fin 8) (g : Fin 7168)
    (he : e.val = expN m (tileOf (grid0.coords t)))
    (hg : g.val = fblk (cntW m (tileOf (grid0.coords t))) (grid0.coords t) * 256 + f.val) :
    ib3 (V m) (hO m) c t (ix3 0 f d) = aW2 m c (ix4 0 e g d) := by
  exact (iblk3_at (V m) (hO m) c t f d e g _ _ (tr3 m (grid0.coords t)) he hg).trans
    ((congrFun ((V_thru m c main_v46).trans (thru_v46 _)) (ix3 e g d)).trans (cast3 _ e g d))

/-- One hidden unit's share of an element of expert `e`'s output, at row `p`. -/
def unit (c : Dev nD) (e : Fin 8) (p : Fin 26496) (d : Fin 2048) (g : Fin 7168) : EReal :=
  gate (∑ k : Fin 2048, aX m c (ix2 p k) * aW1 m c (ix4 0 e k g))
    * (∑ k : Fin 2048, aX m c (ix2 p k) * aW3 m c (ix4 0 e k g))
    * aW2 m c (ix4 0 e g d)

/-- A point's contribution, in the argument arrays. -/
theorem contrib_ap (c : Dev nD) (t : Fin (cfgM (V m) (hO m)).N) (r : Fin 1152) (d : Fin 2048) (p : Fin 26496) (e : Fin 8)
    (hp : p.val = srcN m (tileOf (grid0.coords t)) * 1152 + r.val) (he : e.val = expN m (tileOf (grid0.coords t)))
    (hc : 0 < (cntW m (tileOf (grid0.coords t))).toInt) (j : Fin 28) (hj : j.val = t.val % 28) :
    contrib (ib0 (V m) (hO m) c t) (ib1 (V m) (hO m) c t) (ib2 (V m) (hO m) c t) (ib3 (V m) (hO m) c t) r d
      = ∑ f : Fin 256, unit m c e p d ⟨j.val * 256 + f.val, by have := j.isLt; have := f.isLt; omega⟩ := by
  have hb : fblk (cntW m (tileOf (grid0.coords t))) (grid0.coords t) = j.val := by
    unfold fblk; rw [if_pos hc, hj]
    have e1 : (grid0.coords t 1).val = t.val / 1 % 28 := coord1 t
    rw [e1, Nat.div_one]
  unfold contrib unit hid
  refine Finset.sum_congr rfl fun f _ => ?_
  have hg : j.val * 256 + f.val = fblk (cntW m (tileOf (grid0.coords t))) (grid0.coords t) * 256 + f.val := by rw [hb]
  have a1 : (∑ k : Fin 2048, ib0 (V m) (hO m) c t (ix2 r k) * ib1 (V m) (hO m) c t (ix3 0 k f))
      = ∑ k : Fin 2048, aX m c (ix2 p k) * aW1 m c (ix4 0 e k ⟨j.val * 256 + f.val, by have := j.isLt; have := f.isLt; omega⟩) :=
    Finset.sum_congr rfl fun k _ => congrArg₂ (fun a b : EReal => a * b) (ib0_ap m c t r k p hp) (ib1_ap m c t k f e ⟨j.val * 256 + f.val, by have := j.isLt; have := f.isLt; omega⟩ he hg)
  have a2 : (∑ k : Fin 2048, ib0 (V m) (hO m) c t (ix2 r k) * ib2 (V m) (hO m) c t (ix3 0 k f))
      = ∑ k : Fin 2048, aX m c (ix2 p k) * aW3 m c (ix4 0 e k ⟨j.val * 256 + f.val, by have := j.isLt; have := f.isLt; omega⟩) :=
    Finset.sum_congr rfl fun k _ => congrArg₂ (fun a b : EReal => a * b) (ib0_ap m c t r k p hp) (ib2_ap m c t k f e ⟨j.val * 256 + f.val, by have := j.isLt; have := f.isLt; omega⟩ he hg)
  exact congrArg₂ (fun a b : EReal => a * b) (congrArg₂ (fun a b : EReal => gate a * b) a1 a2) (ib3_ap m c t f d e ⟨j.val * 256 + f.val, by have := j.isLt; have := f.isLt; omega⟩ he hg)

/-- The block after a point from which every start leads to the same value. -/
theorem outAt_zero (V : Entry Ideal) (hO : Ok V) (c : Dev nD) (n : ℕ) (h : n < (cfgM V hO).N) (y : S1152x2048.Idx) (x : EReal)
    (key : ∀ z, stepOut (grid0.coords ⟨n, h⟩) (rowsAt V hO ⟨n, h⟩) (ib0 V hO c ⟨n, h⟩) (ib1 V hO c ⟨n, h⟩) (ib2 V hO c ⟨n, h⟩) (ib3 V hO c ⟨n, h⟩) z y = x) :
    outAt V hO c n h y = x := by
  cases n with
  | zero => unfold outAt; exact key _
  | succ n => unfold outAt; exact key _

/-- After block `j` of the hidden axis, a counted row of tile `s` holds the sum of the first `j + 1` blocks. -/
theorem outAt_sum (c : Dev nD) (s : Fin 23) (r : Fin 1152) (d : Fin 2048) (p : Fin 26496) (e : Fin 8)
    (hp : p.val = srcN m s * 1152 + r.val) (he : e.val = expN m s) (hr : (r.val : ℤ) < (cntW m s).toInt) :
    ∀ (j : ℕ) (hj : j < 28) (h : 28 * s.val + j < (cfgM (V m) (hO m)).N), outAt (V m) (hO m) c (28 * s.val + j) h (ix2 r d)
      = ∑ b : Fin (j + 1), ∑ f : Fin 256, unit m c e p d ⟨b.val * 256 + f.val, by have := b.isLt; have := f.isLt; omega⟩ := by
  have hs : ∀ j, j < 28 → ∀ h : 28 * s.val + j < (cfgM (V m) (hO m)).N, tileOf (grid0.coords ⟨28 * s.val + j, h⟩) = s := fun j hj h => by
    refine Fin.ext ?_
    have e0 : (grid0.coords ⟨28 * s.val + j, h⟩ 0).val = (28 * s.val + j) / 28 % 23 := coord0 ⟨28 * s.val + j, h⟩
    show (grid0.coords ⟨28 * s.val + j, h⟩ 0).val = s.val
    have := s.isLt
    rw [e0]; omega
  have hstep : ∀ (j : ℕ) (hj : j < 28) (h : 28 * s.val + j < (cfgM (V m) (hO m)).N) (y : Vec Ideal S1152x2048 .f32),
      stepOut (grid0.coords ⟨28 * s.val + j, h⟩) (rowsAt (V m) (hO m) ⟨28 * s.val + j, h⟩) (ib0 (V m) (hO m) c ⟨28 * s.val + j, h⟩)
        (ib1 (V m) (hO m) c ⟨28 * s.val + j, h⟩) (ib2 (V m) (hO m) c ⟨28 * s.val + j, h⟩) (ib3 (V m) (hO m) c ⟨28 * s.val + j, h⟩) y (ix2 r d)
      = zeroed (grid0.coords ⟨28 * s.val + j, h⟩) y (ix2 r d)
        + ∑ f : Fin 256, unit m c e p d ⟨j * 256 + f.val, by have := f.isLt; omega⟩ := fun j hj h y => by
    rw [rows_eq]
    have hsj := hs j hj h
    refine (stepOut_ap _ _ _ _ _ _ _ r d (by rw [hsj]; exact hr)).trans (congrArg (fun z : EReal => zeroed (grid0.coords ⟨28 * s.val + j, h⟩) y (ix2 r d) + z) ?_)
    exact contrib_ap m c ⟨28 * s.val + j, h⟩ r d p e (by rw [hsj]; exact hp) (by rw [hsj]; exact he) (by rw [hsj]; omega) ⟨j, hj⟩ (by show j = (28 * s.val + j) % 28; omega)
  intro j
  induction j with
  | zero =>
    intro hj h
    have hz : k0_cond1 (grid0.coords ⟨28 * s.val + 0, h⟩) = 1#1 := (cond1_iff ⟨28 * s.val + 0, h⟩).2 (by show (28 * s.val + 0) % 28 = 0; omega)
    have key : ∀ y, stepOut (grid0.coords ⟨28 * s.val + 0, h⟩) (rowsAt (V m) (hO m) ⟨28 * s.val + 0, h⟩) (ib0 (V m) (hO m) c ⟨28 * s.val + 0, h⟩)
        (ib1 (V m) (hO m) c ⟨28 * s.val + 0, h⟩) (ib2 (V m) (hO m) c ⟨28 * s.val + 0, h⟩) (ib3 (V m) (hO m) c ⟨28 * s.val + 0, h⟩) y (ix2 r d)
        = ∑ b : Fin (0 + 1), ∑ f : Fin 256, unit m c e p d ⟨b.val * 256 + f.val, by have := b.isLt; have := f.isLt; omega⟩ := fun y => by
      rw [hstep 0 hj h y, zeroed_pos _ hz, zero_add]
      exact (Fin.sum_univ_one (fun b : Fin 1 => ∑ f : Fin 256, unit m c e p d ⟨b.val * 256 + f.val, by have := b.isLt; have := f.isLt; omega⟩)).symm
    exact outAt_zero _ _ c _ h (ix2 r d) _ key
  | succ j ih =>
    intro hj h
    have hnz : ¬ k0_cond1 (grid0.coords ⟨28 * s.val + (j + 1), h⟩) = 1#1 := fun hh => by
      have := (cond1_iff ⟨28 * s.val + (j + 1), h⟩).1 hh
      have e1 : (28 * s.val + (j + 1)) % 28 = 0 := this
      omega
    have ih' := ih (by omega) (Nat.lt_of_succ_lt h)
    rw [Fin.sum_univ_castSucc]
    show outAt (V m) (hO m) c ((28 * s.val + j) + 1) h (ix2 r d) = _
    unfold outAt
    refine (hstep (j + 1) hj h _).trans ?_
    unfold zeroed
    rw [if_neg hnz]
    exact congrArg₂ (fun a b : EReal => a + b) ih' rfl

end Cert.KernelIdeal.Moe

end
-- ==== Proof.Counts.lean ====
/- What the tables hold at a tile of an expert's segment, from counts within their range. -/
module

public import proofs.«01_k».proof.Proof.Tables
public import Idealize.ShloMosaic.Lib.Routing.OpsSearch

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo
open Idealize.ShloMosaic.WordCmp Idealize.ShloMosaic.ValueIdx
open Idealize.ShloMosaic.Routing (bc0 bcCols bcRows bcCol reduce_count addi_ap subi_ap muli_ap iota1_ap pyDiv_ap cumsum1 slice1 take_ap ofNat32_sub maxsi_zero_left maxsi_pred)
open Idealize.ShloMosaic.PlanTiles (minsi_word)

/-! ## The layout that the counts fix -/

/-- Tiles that `n` rows take. -/
def nt (n : Nat → Nat) (k : Nat) : Nat := (n k + 1151) / 1152

/-- The first tile of expert `k`'s segment. -/
def st (n : Nat → Nat) (k : Nat) : Nat := ((List.range k).map (nt n)).sum

theorem st_succ (n : Nat → Nat) (k : Nat) : st n (k + 1) = st n k + nt n k := by
  unfold st
  rw [List.range_succ, List.map_append, List.sum_append]
  simp

theorem st_mono (n : Nat → Nat) {a b : Nat} (h : a ≤ b) : st n a ≤ st n b := by
  induction h with
  | refl => exact Nat.le_refl _
  | step _ ih => exact ih.trans (by rw [st_succ]; omega)

theorem nt_le {n : Nat → Nat} (hn : ∀ k, n k ≤ 16640) (k : Nat) : nt n k ≤ 15 := by have := hn k; unfold nt; omega

theorem st_le {n : Nat → Nat} (hn : ∀ k, n k ≤ 16640) (k : Nat) : st n k ≤ 15 * k := by
  induction k with
  | zero => exact Nat.le_refl _
  | succ k ih => rw [st_succ]; have := nt_le hn k; omega

theorem count_below (n : Nat → Nat) (s e k : Nat) (h0 : st n e ≤ s) (h1 : s < st n (e + 1)) :
    Nat.count (fun q => st n (q + 1) ≤ s) k = min k e := by
  induction k with
  | zero => simp
  | succ k ih =>
    rw [Nat.count_succ, ih]
    by_cases h : k < e
    · rw [if_pos ((st_mono n h).trans h0)]; omega
    · rw [if_neg (fun hc => by have := st_mono n (show e + 1 ≤ k + 1 by omega); omega)]; omega

section Words
variable {c : (⟨S8, .i32⟩ : BufTy).Contents (Elt F)} {n : Nat → Nat}

theorem fdivT_ap (a : (⟨S8, .i32⟩ : BufTy).Contents (Elt F)) (q : Fin 8) {k : Nat} (ha : a (ix1 q) = BitVec.ofNat 32 k) (hk : k < 2 ^ 31) :
    fdivT (F := F) a (constantI S_ 32 1152#32) (ix1 q) = BitVec.ofNat 32 (k / 1152) :=
  pyDiv_ap bcast_S_S8 a (constantI S_ 32 1152#32) (ix1 q) ha rfl hk (by decide) (by decide)

theorem tilesT_ap (hc : ∀ q : Fin 8, c (ix1 q) = BitVec.ofNat 32 (n q.val)) (hn : ∀ k, n k ≤ 16640) (q : Fin 8) :
    tilesT (F := F) c (ix1 q) = BitVec.ofNat 32 (nt n q.val) := by
  have hb := hn q.val
  refine fdivT_ap (F := F) _ q (k := n q.val + 1151) ?_ (by omega)
  refine Eq.trans (b := (c (ix1 q) + 1152#32) - 1#32) rfl ?_
  rw [hc q, show (1152#32 : BitVec 32) = BitVec.ofNat 32 1152 from rfl, BitVec.ofNat_add_ofNat, show (1#32 : BitVec 32) = BitVec.ofNat 32 1 from rfl, ofNat32_sub (by omega)]
  rfl

theorem csumT_ap (a : (⟨S8, .i32⟩ : BufTy).Contents (Elt F)) (f : Nat → Nat) (ha : ∀ q : Fin 8, a (ix1 q) = BitVec.ofNat 32 (f q.val)) (q : Fin 8) :
    csumT (F := F) a (ix1 q) = BitVec.ofNat 32 ((List.range (q.val + 1)).map f).sum :=
  cumsum1 (N := 8) (Nm1 := 7) rfl a f ha _ ((bc0 bcast_S_S_ _ _).trans (constantI_at _ _)) reduceWindows_S8_S8_w8s1p7_0 h_S_ q

theorem endT_ap (hc : ∀ q : Fin 8, c (ix1 q) = BitVec.ofNat 32 (n q.val)) (hn : ∀ k, n k ≤ 16640) (q : Fin 8) :
    endT (F := F) c (ix1 q) = BitVec.ofNat 32 (st n (q.val + 1)) :=
  csumT_ap (F := F) _ (nt n) (tilesT_ap hc hn) q

theorem begT_ap (hc : ∀ q : Fin 8, c (ix1 q) = BitVec.ofNat 32 (n q.val)) (hn : ∀ k, n k ≤ 16640) (q : Fin 8) :
    subi (endT (F := F) c) (tilesT c) (ix1 q) = BitVec.ofNat 32 (st n q.val) := by
  rw [subi_ap, endT_ap hc hn q, tilesT_ap hc hn q, ofNat32_sub (by rw [st_succ]; omega), st_succ, Nat.add_sub_cancel]

theorem usedT_ap (hc : ∀ q : Fin 8, c (ix1 q) = BitVec.ofNat 32 (n q.val)) (hn : ∀ k, n k ≤ 16640) :
    usedT (F := F) (endT c) ValueIdx.ix0 = BitVec.ofNat 32 (st n 8) := by
  unfold usedT
  refine (shapeCast_apply _ shapeCasts_S1_S_ ValueIdx.ix0 (ix1 (0 : Fin 1)) rfl).trans ?_
  exact (slice1 (m := 8) (n := 1) 7 _ slices_S8_S1_7 (0 : Fin 1) (by decide)).trans (endT_ap hc hn (7 : Fin 8))

theorem lastT_ap (hc : ∀ q : Fin 8, c (ix1 q) = BitVec.ofNat 32 (n q.val)) (hn : ∀ k, n k ≤ 16640) :
    lastT (F := F) (endT c) ValueIdx.ix0 = BitVec.ofNat 32 (st n 8 - 1) := by
  have hb := st_le hn 8
  unfold lastT
  rw [maxsi_apply, subi_ap, usedT_ap hc hn]
  exact maxsi_pred (by omega)

theorem srcT_ap (hc : ∀ q : Fin 8, c (ix1 q) = BitVec.ofNat 32 (n q.val)) (hn : ∀ k, n k ≤ 16640) (s : Fin 23) (hs : s.val < st n 8) :
    srcT (F := F) (endT c) (ix1 s) = BitVec.ofNat 32 s.val := by
  have hb := st_le hn 8
  have h23 := s.isLt
  unfold srcT
  rw [minsi_apply, maxsi_apply, bc0, bc0, lastT_ap hc hn]
  refine (congrArg (IntOp.minsi _) ((maxsi_zero_left (a := s.val) (by omega)))).trans ?_
  rw [minsi_word (by omega) (by omega)]
  congr 1; omega

/-- Tile `s` of expert `e`'s segment names expert `e`. -/
theorem expertT_ap (hc : ∀ q : Fin 8, c (ix1 q) = BitVec.ofNat 32 (n q.val)) (hn : ∀ k, n k ≤ 16640) (s : Fin 23) (e : Fin 8)
    (h0 : st n e.val ≤ s.val) (h1 : s.val < st n (e.val + 1)) : expertT (F := F) c (ix1 s) = BitVec.ofNat 32 e.val := by
  have h23 := s.isLt
  have he := e.isLt
  have h8 : s.val < st n 8 := lt_of_lt_of_le h1 (st_mono n (show e.val + 1 ≤ 8 by omega))
  refine (teT_ap (F := F) (endT c) (srcT (endT c)) s (fun q => st n (q + 1) ≤ s.val) fun q => ?_).trans ?_
  · have hq := st_le hn (q.val + 1)
    have hq8 := q.isLt
    rw [srcT_ap hc hn s h8, endT_ap hc hn q, toInt_ofNat_of_lt (w := 32) (show st n (q.val + 1) < 2 ^ (32 - 1) by omega), toInt_ofNat_of_lt (w := 32) (show s.val < 2 ^ (32 - 1) by omega)]
    omega
  · rw [count_below n s.val e.val 8 h0 h1]
    congr 1; omega

theorem takeT_ap (x : (⟨S8, .i32⟩ : BufTy).Contents (Elt F)) (te : (⟨S23, .i32⟩ : BufTy).Contents (Elt F)) (s : Fin 23) (e : Fin 8) (h : te (ix1 s) = BitVec.ofNat 32 e.val) :
    takeT (F := F) x te (ix1 s) = x (ix1 e) := by
  have he := e.isLt
  unfold takeT
  refine take_ap (N := 8) (n := 23) gather_S8_S23x1_S23_n_0_n_n_0_1_1 rfl rfl rfl rfl x _ s he (by omega) ?_
  refine (bcCol bcast_S23_S23x1_0 _ s).trans ?_
  rw [select_at, cmpi_at, bc0, constantI_at, h, show (0#32 : BitVec 32) = BitVec.ofNat 32 0 from rfl, cmpi_slt_ofNat (w := 32) (by omega) (by decide), select_decide, if_neg (by omega)]

/-- The rows of tile `s` of expert `e`'s segment. -/
theorem countT_ap (hc : ∀ q : Fin 8, c (ix1 q) = BitVec.ofNat 32 (n q.val)) (hn : ∀ k, n k ≤ 16640) (s : Fin 23) (e : Fin 8)
    (h0 : st n e.val ≤ s.val) (h1 : s.val < st n (e.val + 1)) :
    countT (F := F) c (ix1 s) = BitVec.ofNat 32 (min (n e.val - (s.val - st n e.val) * 1152) 1152) := by
  have h23 := s.isLt
  have he := e.isLt
  have hb := st_le hn 8
  have hne := hn e.val
  have h8 : s.val < st n 8 := lt_of_lt_of_le h1 (st_mono n (show e.val + 1 ≤ 8 by omega))
  have hle : (s.val - st n e.val) * 1152 ≤ n e.val := by
    rw [st_succ] at h1; unfold nt at h1; omega
  have hE := expertT_ap hc hn s e h0 h1
  have hl : leftT (F := F) c (subi (endT c) (tilesT c)) (expertT c) (ix1 s) = BitVec.ofNat 32 (n e.val - (s.val - st n e.val) * 1152) := by
    unfold leftT
    rw [subi_ap, muli_ap, subi_ap, takeT_ap _ _ s e hE, takeT_ap _ _ s e hE, begT_ap hc hn e, hc e, bc0, constantI_at]
    refine (congrArg (fun v : BitVec 32 => BitVec.ofNat 32 (n e.val) - (v - BitVec.ofNat 32 (st n e.val)) * 1152#32) (iota1_ap s)).trans ?_
    rw [ofNat32_sub h0, show (1152#32 : BitVec 32) = BitVec.ofNat 32 1152 from rfl, BitVec.ofNat_mul_ofNat, ofNat32_sub hle]
  unfold countT rowsT
  rw [select_at, cmpi_at, bc0, usedT_ap hc hn]
  refine (congrArg (fun v : BitVec 32 => Scalar.select (IntOp.cmpi .slt v (BitVec.ofNat 32 (st n 8))) _ _) (iota1_ap s)).trans ?_
  rw [cmpi_slt_ofNat (w := 32) (by omega) (by omega), select_decide, if_pos h8, minsi_apply, maxsi_apply, hl, bc0, bc0]
  refine (congrArg (IntOp.minsi _) (maxsi_zero_left (by omega))).trans ?_
  refine Eq.trans (b := IntOp.minsi (BitVec.ofNat 32 1152) (BitVec.ofNat 32 (n e.val - (s.val - st n e.val) * 1152))) rfl ?_
  rw [minsi_word (by omega) (by omega)]

end Words

/-- A place `p` of expert `e`'s segment: its tile, and the rows of its tile. -/
theorem place {n : Nat → Nat} {p e : Nat} (h0 : 1152 * st n e ≤ p) (h1 : p < 1152 * st n e + n e) :
    st n e ≤ p / 1152 ∧ p / 1152 < st n (e + 1) ∧ p % 1152 < min (n e - (p / 1152 - st n e) * 1152) 1152 := by
  rw [st_succ]; unfold nt; omega

end Cert.KernelIdeal.Moe

end
-- ==== Proof.Value.lean ====
/- The result's rows that lie in a segment. -/
module

public import proofs.«01_k».proof.Proof.Acc
public import proofs.«01_k».proof.Proof.Counts

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt Ideal) ℓ)

/-- The result at a row of expert `e`'s segment: the expert's feed-forward of the row. -/
theorem result_seg (c : Dev nD) (n : Nat → Nat)
    (hc : ∀ q : Fin 8, (m (0, Proc.devRef .tc main_arg4) : (⟨S8, .i32⟩ : BufTy).Contents (Elt Ideal)) (ValueIdx.ix1 q) = BitVec.ofNat 32 (n q.val))
    (hn : ∀ k, n k ≤ 16640) (e : Fin 8) (p : Fin 26496) (d : Fin 2048)
    (h0 : 1152 * st n e.val ≤ p.val) (h1 : p.val < 1152 * st n e.val + n e.val) :
    result (V m) (hO m) c (ix2 p d) = ∑ g : Fin 7168, unit m c e p d g := by
  obtain ⟨hs0, hs1, hr⟩ := place h0 h1
  have hp := p.isLt
  have he := e.isLt
  have hne := hn e.val
  have h8 : p.val / 1152 < st n 8 := lt_of_lt_of_le hs1 (st_mono n (show e.val + 1 ≤ 8 by omega))
  have hS : srcN m ⟨p.val / 1152, by omega⟩ = p.val / 1152 := by
    unfold srcN
    rw [srcT_ap hc hn ⟨p.val / 1152, by omega⟩ h8, BitVec.toNat_ofNat]
    show p.val / 1152 % 2 ^ 32 = p.val / 1152
    omega
  have hE : expN m ⟨p.val / 1152, by omega⟩ = e.val := by
    unfold expN
    have hb := expertT_ap hc hn ⟨p.val / 1152, by omega⟩ e hs0 hs1
    refine (congrArg (fun v : BitVec 32 => (v + 0#32).toNat) hb).trans ?_
    rw [BitVec.add_zero, BitVec.toNat_ofNat]
    omega
  have hW : ((p.val % 1152 : ℕ) : ℤ) < (cntW m ⟨p.val / 1152, by omega⟩).toInt := by
    unfold cntW
    rw [countT_ap hc hn ⟨p.val / 1152, by omega⟩ e hs0 hs1, WordCmp.toInt_ofNat_of_lt (w := 32) (lt_of_le_of_lt (Nat.min_le_right _ _) (by decide))]
    exact_mod_cast hr
  refine (outAt_sum m c ⟨p.val / 1152, by omega⟩ ⟨p.val % 1152, Nat.mod_lt _ (by decide)⟩ d p e (by rw [hS]; show p.val = p.val / 1152 * 1152 + p.val % 1152; omega) hE.symm hW 27 (by decide) (lastPt (V m) (hO m) _ hp)).trans ?_
  exact (Fin.sum_univ_tiles 28 256 rfl _).symm

end Cert.KernelIdeal.Moe

end
-- ==== Proof.Ref.lean ====
/- The reference's result at an index. -/
module

public import proofs.«01_k».proof.Proof.Gen.ReferenceIdeal.Read
public import Idealize.ShloMosaic.Lib.Pointwise

@[expose] public section

noncomputable section

namespace Cert.ReferenceIdeal.Moe

open Cert.ReferenceIdeal Cert.ReferenceIdeal.Gen Cert.ReferenceIdeal.Read
open Idealize.ShloMosaic Idealize.ShloMosaic.TcCoe Idealize.ShloMosaic.StableHlo

variable (x0 : FVec Ideal S26496x2048 .bf16) (x1 x2 : FVec Ideal S1x8x2048x7168 .f32) (x3 : FVec Ideal S1x8x7168x2048 .f32)

/-- The gate as the reference computes it. -/
def gateR (h : EReal) : EReal := h * Ideal.div 1 (1 + Ideal.exp (-h))

theorem one_f32 : FloatOps.ofBits (F := Ideal) .f32 0x3F800000#32 = (1 : EReal) := by
  show Ideal.ofBits .f32 0x3F800000#32 = (1 : EReal)
  simp [Ideal.ofBits, Ideal.ieee, -EReal.coe_mul]
  norm_num

theorem zero_f32 : FloatOps.ofBits (F := Ideal) .f32 0x00000000#32 = (0 : EReal) := by
  show Ideal.ofBits .f32 0x00000000#32 = (0 : EReal)
  simp [Ideal.ofBits, Ideal.ieee, -EReal.coe_mul]

theorem h1_ap (e : Fin 8) (p : Fin 26496) (g : Fin 7168) :
    val_main_v21 (F := Ideal) x0 x1 (ix3 e p g) = ∑ k : Fin 2048, x1 (ix4 0 e k g) * x0 (ix2 p k) := by
  pointwise [val_main_v21, val_main_v20, val_main_v19, val_main_v18]

theorem h3_ap (e : Fin 8) (p : Fin 26496) (g : Fin 7168) :
    val_main_v24 (F := Ideal) x0 x2 (ix3 e p g) = ∑ k : Fin 2048, x2 (ix4 0 e k g) * x0 (ix2 p k) := by
  pointwise [val_main_v24, val_main_v23, val_main_v22, val_main_v18]

theorem gate_ap (i : S8x26496x7168.Idx) :
    val_main_v25 (F := Ideal) x0 x1 i = gateR (val_main_v21 (F := Ideal) x0 x1 i) := by
  unfold gateR
  pointwise [val_main_v25, val_main_call3_v5, val_main_call3_v4, val_main_call3_v3, val_main_call3_v2, val_main_call3_v1, val_main_call3_v0, val_main_call3_cst, val_main_call3_cst_0]

theorem v28_ap (e : Fin 8) (p : Fin 26496) (d : Fin 2048) :
    val_main_v28 (F := Ideal) x0 x1 x2 x3 (ix3 e p d)
      = ∑ g : Fin 7168, gateR (∑ k : Fin 2048, x1 (ix4 0 e k g) * x0 (ix2 p k)) * (∑ k : Fin 2048, x2 (ix4 0 e k g) * x0 (ix2 p k)) * x3 (ix4 0 e g d) := by
  pointwise [val_main_v28, val_main_v26, val_main_v27]
  simp only [gate_ap, h1_ap, h3_ap]

/-- The mask as a factor. -/
theorem mask_ap (x4 : IVec S8 32) (i : S26496x8.Idx) :
    val_main_v16 (F := Ideal) x4 i = if val_main_v15 (F := Ideal) x4 i = 1#1 then (1 : EReal) else 0 := by
  rw [val_main_v16_apply, val_main_call2_v0_apply, val_main_call2_v1_apply, val_main_cst_apply, val_main_cst_2_apply, one_f32, zero_f32]
  rfl

theorem v33_ap (x4 : IVec S8 32) (p : Fin 26496) (d : Fin 2048) :
    val_main_v33 (F := Ideal) x0 x1 x2 x3 x4 (ix2 p d)
      = ∑ e : Fin 8, (if val_main_v15 (F := Ideal) x4 (ix2 p e) = 1#1 then 1 else 0) * val_main_v28 (F := Ideal) x0 x1 x2 x3 (ix3 e p d) := by
  pointwise [val_main_v33, val_main_v32, val_main_v31, val_main_v30, val_main_v29, val_main_v17]
  simp only [id, mask_ap]
  refine (congrArg (· + _) (show val_main_cst_3 (F := Ideal) (Shape.Idx.first h_S_) = (0 : EReal) from zero_f32)).trans ?_
  rw [zero_add]

end Cert.ReferenceIdeal.Moe

end
-- ==== Proof.Sigmoid.lean ====
/- The logistic function by the hyperbolic tangent. -/
module

public import Idealize.ShloMosaic.Lib.Pointwise

@[expose] public section

noncomputable section

namespace Cert.Sigmoid

open Idealize.ShloMosaic

theorem half_f32 : Ideal.ofBits .f32 0x3F000000#32 = ((1 / 2 : ℝ) : EReal) := by
  simp [Ideal.ofBits, Ideal.ieee, -EReal.coe_mul]
  norm_num

/-- The logistic function by the hyperbolic tangent, over the reals. -/
theorem half_tanh (r : ℝ) : 1 / 2 * Real.tanh (1 / 2 * r) + 1 / 2 = (1 + Real.exp (-r))⁻¹ := by
  have h : Real.exp (-r) = Real.exp (-(1 / 2 * r)) * Real.exp (-(1 / 2 * r)) := by rw [← Real.exp_add]; congr 1; ring
  have h1 : Real.exp (1 / 2 * r) * Real.exp (-(1 / 2 * r)) = 1 := by rw [← Real.exp_add]; simp
  rw [Real.tanh_eq_sinh_div_cosh, Real.sinh_eq, Real.cosh_eq, h]
  have ha := Real.exp_pos (1 / 2 * r)
  have hb := Real.exp_pos (-(1 / 2 * r))
  generalize Real.exp (1 / 2 * r) = a at *
  generalize Real.exp (-(1 / 2 * r)) = b at *
  have hs : a + b ≠ 0 := by positivity
  have ht : 1 + b * b ≠ 0 := by positivity
  field_simp
  nlinarith [h1]

/-- The logistic function by the hyperbolic tangent, over the extended reals. -/
theorem sigmoid_eq (h : EReal) :
    Ideal.ofBits .f32 0x3F000000#32 * Ideal.tanh (Ideal.ofBits .f32 0x3F000000#32 * h) + Ideal.ofBits .f32 0x3F000000#32 = Ideal.div 1 (1 + Ideal.exp (-h)) := by
  rw [half_f32]
  show _ = Ideal.logistic h
  induction h with
  | bot =>
    rw [EReal.coe_mul_bot_of_pos (by norm_num), Ideal.tanh_bot, Ideal.logistic_bot, show (-1 : EReal) = ((-1 : ℝ) : EReal) by simp, ← EReal.coe_mul, ← EReal.coe_add]
    norm_num
  | top =>
    rw [EReal.coe_mul_top_of_pos (by norm_num), Ideal.tanh_top, Ideal.logistic_top]
    norm_cast
    norm_num
  | coe r =>
    rw [← EReal.coe_mul, Ideal.tanh_coe, Ideal.logistic_coe, ← EReal.coe_mul, ← EReal.coe_add, half_tanh]

end Cert.Sigmoid

end
-- ==== Proof.Gate.lean ====
/- The two spellings of the gate agree. -/
module

public import proofs.«01_k».proof.Proof.Ref
public import proofs.«01_k».proof.Proof.Body
public import proofs.«01_k».proof.Proof.Sigmoid

@[expose] public section

noncomputable section

namespace Cert.ReferenceIdeal.Moe

open Idealize.ShloMosaic
open Cert.KernelIdeal.Moe (gate)

theorem gate_eq (h : EReal) : gate h = gateR h :=
  congrArg (h * ·) (Cert.Sigmoid.sigmoid_eq h)

end Cert.ReferenceIdeal.Moe

end
-- ==== Proof.Mask.lean ====
/- The reference's mask at an index, from counts within their range. -/
module

public import proofs.«01_k».proof.Proof.Gen.ReferenceIdeal.Read
public import proofs.«01_k».proof.Proof.Counts

@[expose] public section

noncomputable section

namespace Cert.ReferenceIdeal.Moe

open Cert.ReferenceIdeal Cert.ReferenceIdeal.Gen Cert.ReferenceIdeal.Read
open Cert.KernelIdeal.Moe (st nt st_succ st_mono st_le fdivT_ap csumT_ap)
open Idealize.ShloMosaic Idealize.ShloMosaic.TcCoe Idealize.ShloMosaic.StableHlo
open Idealize.ShloMosaic.WordCmp Idealize.ShloMosaic.ValueIdx
open Idealize.ShloMosaic.Routing (ofNat32_sub)

variable {F : FTy → Type} [FloatOps F]

variable (x4 : IVec S8 32) (n : Nat → Nat)

/-- Where the counts start each segment. -/
theorem v6_ap (hc : ∀ q : Fin 8, x4 (ix1 q) = BitVec.ofNat 32 (n q.val)) (hn : ∀ k, n k ≤ 16640) (q : Fin 8) :
    val_main_v6 (F := F) x4 (ix1 q) = BitVec.ofNat 32 (1152 * st n q.val) := by
  have h2 : ∀ q : Fin 8, val_main_v2 (F := F) x4 (ix1 q) = BitVec.ofNat 32 (nt n q.val) := fun q => by
    have hb := hn q.val
    refine fdivT_ap (F := F) _ q (k := n q.val + 1151) ?_ (by omega)
    refine Eq.trans (b := x4 (ix1 q) + 1151#32) rfl ?_
    rw [hc q, show (1151#32 : BitVec 32) = BitVec.ofNat 32 1151 from rfl, BitVec.ofNat_add_ofNat]
  have h3 : val_main_v3 (F := F) x4 (ix1 q) = BitVec.ofNat 32 (st n (q.val + 1)) := csumT_ap (F := F) _ (nt n) h2 q
  rw [val_main_v6_apply, val_main_v4_apply, val_main_v5_apply, val_main_c_1_apply, h3, h2 q]
  show (BitVec.ofNat 32 (st n (q.val + 1)) - BitVec.ofNat 32 (nt n q.val)) * 1152#32 = _
  rw [ofNat32_sub (by rw [st_succ]; omega), st_succ, Nat.add_sub_cancel, show (1152#32 : BitVec 32) = BitVec.ofNat 32 1152 from rfl, BitVec.ofNat_mul_ofNat, Nat.mul_comm]

/-- The mask at a row and an expert: the row lies in the expert's segment. -/
theorem v15_ap (hc : ∀ q : Fin 8, x4 (ix1 q) = BitVec.ofNat 32 (n q.val)) (hn : ∀ k, n k ≤ 16640) (p : Fin 26496) (q : Fin 8) :
    val_main_v15 (F := F) x4 (ix2 p q) = 1#1 ↔ 1152 * st n q.val ≤ p.val ∧ p.val < 1152 * st n q.val + n q.val := by
  have hp := p.isLt
  have hq := q.isLt
  have hs := st_le hn q.val
  have hnq := hn q.val
  have h9 : val_main_v9 (F := F) x4 (ix2 p q) = BitVec.ofNat 32 (1152 * st n q.val) := by
    rw [val_main_v9_apply, val_main_v8_apply]
    refine Eq.trans (congrArg _ ?_) (v6_ap x4 n hc hn q)
    funext a; match a with | ⟨0, _⟩ => rfl
  have h13 : val_main_v13 (F := F) x4 (ix2 p q) = BitVec.ofNat 32 (1152 * st n q.val + n q.val) := by
    rw [val_main_v13_apply, val_main_v12_apply]
    refine Eq.trans (b := val_main_v11 (F := F) x4 (ix1 q)) (congrArg _ ?_) ?_
    · funext a; match a with | ⟨0, _⟩ => rfl
    · rw [val_main_v11_apply, v6_ap x4 n hc hn q, hc q]
      exact BitVec.ofNat_add_ofNat ..
  rw [val_main_v15_apply, val_main_v10_apply, val_main_v14_apply, val_main_v7_apply, h9, h13, IntOp.andi_eq_one, IntOp.cmpi_sge, IntOp.cmpi_slt]
  show (BitVec.ofNat 32 (1152 * st n q.val)).toInt ≤ (BitVec.ofNat 32 p.val).toInt ∧ (BitVec.ofNat 32 p.val).toInt < (BitVec.ofNat 32 (1152 * st n q.val + n q.val)).toInt ↔ _
  rw [toInt_ofNat_of_lt (w := 32) (show 1152 * st n q.val < 2 ^ (32 - 1) by omega), toInt_ofNat_of_lt (w := 32) (show p.val < 2 ^ (32 - 1) by omega), toInt_ofNat_of_lt (w := 32) (show 1152 * st n q.val + n q.val < 2 ^ (32 - 1) by omega)]
  omega

/-- A row lies in one segment at most. -/
theorem seg_unique {n : Nat → Nat} {p a b : Nat} (ha : 1152 * st n a ≤ p ∧ p < 1152 * st n a + n a) (hb : 1152 * st n b ≤ p ∧ p < 1152 * st n b + n b) : a = b := by
  by_contra hne
  rcases Nat.lt_or_gt_of_ne hne with h | h
  · have h1 := st_mono n (show a + 1 ≤ b from h)
    rw [st_succ] at h1; unfold nt at h1; omega
  · have h1 := st_mono n (show b + 1 ≤ a from h)
    rw [st_succ] at h1; unfold nt at h1; omega

end Cert.ReferenceIdeal.Moe

end
-- ==== Proof.Decode.lean ====
/- What the precondition and the claim's mask say of the counts. -/
module

public import proofs.«01_k».proof.Defs
public import proofs.«01_k».proof.Proof.Mask
public import proofs.«01_k».proof.Proof.Gen.Pre_counts_ok
public import proofs.«01_k».proof.Proof.Gen.On_in_segment
public import Idealize.ShloMosaic.Lib.ReduceAll

@[expose] public section

noncomputable section

namespace Cert.ReferenceIdeal.Moe

open Cert.ReferenceIdeal Cert.ReferenceIdeal.Gen Cert.ReferenceIdeal.Read
open Idealize.ShloMosaic Idealize.ShloMosaic.TcCoe Idealize.ShloMosaic.StableHlo
open Idealize.ShloMosaic.ValueIdx

variable {F : FTy → Type} [FloatOps F]
variable (x0 : FVec F S26496x2048 .bf16) (x1 x2 : FVec F S1x8x2048x7168 .f32) (x3 : FVec F S1x8x7168x2048 .f32) (x4 : IVec S8 32)

/-- The naturals the counts hold. -/
def cn (x4 : IVec S8 32) (k : Nat) : Nat := if h : k < 8 then (x4 (ix1 ⟨k, h⟩)).toNat else 0

theorem cn_word (q : Fin 8) : x4 (ix1 q) = BitVec.ofNat 32 (cn x4 q.val) := by
  unfold cn
  rw [dif_pos q.isLt]
  simp

/-- The precondition bounds every count. -/
theorem cn_le (h : Cert.Pre_counts_ok.fn (F := F) x0 x1 x2 x3 x4 = fun _ => 1#1) (k : Nat) : cn x4 k ≤ 16640 := by
  unfold cn
  by_cases hk : k < 8
  · rw [dif_pos hk]
    have h0 := congrFun h ix0
    dsimp only [Cert.Pre_counts_ok.fn] at h0
    haveI : Subsingleton Cert.Pre_counts_ok.S_.Idx := ⟨fun a b => funext fun i => i.elim0⟩
    have h1 := Host.reduce_andi_all _ _ _ _ _ h0 (ix1 ⟨k, hk⟩)
    obtain ⟨ha, hb⟩ := IntOp.andi_eq_one.1 h1
    have ha' : (0#32).toInt ≤ (x4 (ix1 ⟨k, hk⟩)).toInt := IntOp.cmpi_sge.1 ha
    have hb' : (x4 (ix1 ⟨k, hk⟩)).toInt ≤ (16640#32).toInt := IntOp.cmpi_sle.1 hb
    have e1 : (0#32).toInt = 0 := by decide
    have e2 : (16640#32).toInt = 16640 := by decide
    rw [e1] at ha'; rw [e2] at hb'
    have h2 := BitVec.toInt_eq_toNat_cond (x4 (ix1 ⟨k, hk⟩))
    have h3 := (x4 (ix1 ⟨k, hk⟩)).isLt
    split at h2 <;> omega
  · rw [dif_neg hk]; omega

/-- A left fold by `or` from 0 that came out 1 met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => Or.inl h
  | a :: l, init, h => by
    rcases foldl_ori_eq_one f l _ h with h1 | ⟨n, hn, hf⟩
    · rcases IntOp.ori_eq_one.1 h1 with h2 | h2
      · exact Or.inl h2
      · exact Or.inr ⟨a, List.mem_cons_self .., h2⟩
    · exact Or.inr ⟨n, List.mem_cons_of_mem _ hn, hf⟩

/-- The claim's mask is, at a row, the reference's mask of the row for some expert. -/
theorem on_some (i : S26496x2048.Idx) (h : Cert.On_in_segment.fn (F := F) x0 x1 x2 x3 x4 i = 1#1) :
    ∃ q : Fin 8, val_main_v15 (F := F) x4 (ix2 ⟨(i (0 : Fin 2)).val, (i (0 : Fin 2)).isLt⟩ q) = 1#1 := by
  dsimp only [Cert.On_in_segment.fn] at h
  have h1 := (broadcastInDim_apply _ Cert.On_in_segment.Gen.facts.bcast_S26496x1_S26496x2048_0_1 _ i (ix2 ⟨(i (0 : Fin 2)).val, (i (0 : Fin 2)).isLt⟩ (0 : Fin 1)) (fun a => match a with
    | ⟨0, _⟩ => by show (i (0 : Fin 2)).val = if (26496 : Nat) = 1 then 0 else (i (0 : Fin 2)).val; rw [if_neg (by decide)]
    | ⟨1, _⟩ => by show 0 = if (1 : Nat) = 1 then 0 else (i (1 : Fin 2)).val; rw [if_pos rfl])).symm.trans h
  have h2 := (broadcastInDim_apply _ Cert.On_in_segment.Gen.facts.bcast_S26496_S26496x1_0 _ (ix2 ⟨(i (0 : Fin 2)).val, (i (0 : Fin 2)).isLt⟩ (0 : Fin 1)) (ix1 ⟨(i (0 : Fin 2)).val, (i (0 : Fin 2)).isLt⟩) (fun a => match a with
    | ⟨0, _⟩ => by show (i (0 : Fin 2)).val = if (26496 : Nat) = 1 then 0 else (i (0 : Fin 2)).val; rw [if_neg (by decide)])).symm.trans h1
  clear h h1
  rename' h2 => h
  rw [Host.reduce_eq_foldl] at h
  rcases foldl_ori_eq_one _ _ _ h with h1 | ⟨j, hj, hf⟩
  · exact absurd h1 (by show ¬ (0#1 = 1#1); decide)
  · have hd := of_decide_eq_true (List.mem_filter.1 hj).2
    refine ⟨⟨(j (1 : Fin 2)).val, (j (1 : Fin 2)).isLt⟩, ?_⟩
    refine Eq.trans (congrArg (val_main_v15 (F := F) x4) ?_) hf
    have h0 := congrFun hd (0 : Fin 1)
    have h00 := congrArg Fin.val h0
    rw [Shape.ReducesTo.drop_apply_val] at h00
    funext a
    match a with
    | ⟨0, _⟩ => exact Fin.ext h00.symm
    | ⟨1, _⟩ => rfl

end Cert.ReferenceIdeal.Moe

end
-- ==== Proof.Algebra.lean ====
/- The result equals the reference's where the claim's mask is set. -/
module

public import proofs.«01_k».proof.Proof.Value
public import proofs.«01_k».proof.Proof.Gate
public import proofs.«01_k».proof.Proof.Decode
public import proofs.«01_k».proof.Proof.Gen.ReferenceIdeal.Run

@[expose] public section

noncomputable section

namespace Cert.Proof

open Cert.ReferenceIdeal.Moe (gateR gate_eq v33_ap v28_ap v15_ap seg_unique cn cn_word cn_le on_some)
open Cert.ReferenceIdeal.Read (val_main_v33 val_main_v15 val_main_v28)
open Cert.KernelIdeal.Moe (st aX aW1 aW2 aW3 result_seg result V hO dats cfgM final_out)
open Idealize.ShloMosaic Idealize.ShloMosaic.TcCoe Idealize.SL.Sem

variable (x0 : FVec Ideal Cert.ReferenceIdeal.S26496x2048 .bf16) (x1 x2 : FVec Ideal Cert.ReferenceIdeal.S1x8x2048x7168 .f32) (x3 : FVec Ideal Cert.ReferenceIdeal.S1x8x7168x2048 .f32) (x4 : IVec Cert.ReferenceIdeal.S8 32)

/-- The reference's result at a row of expert `e`'s segment. -/
theorem ref_seg (hn : ∀ k, cn x4 k ≤ 16640) (e : Fin 8) (p : Fin 26496) (d : Fin 2048)
    (h : 1152 * st (cn x4) e.val ≤ p.val ∧ p.val < 1152 * st (cn x4) e.val + cn x4 e.val) :
    val_main_v33 (F := Ideal) x0 x1 x2 x3 x4 (ix2 p d) = val_main_v28 (F := Ideal) x0 x1 x2 x3 (ix3 e p d) := by
  have hv : ∀ q : Fin 8, val_main_v15 (F := Ideal) x4 (ix2 p q) = 1#1 ↔ q = e := fun q => by
    rw [ix2_eq_valueIdx, v15_ap x4 (cn x4) (cn_word x4) hn p q]
    exact ⟨fun hq => Fin.ext (seg_unique hq h), fun hq => hq ▸ h⟩
  rw [v33_ap]
  simp only [hv]
  rw [Finset.sum_eq_single e (fun q _ hq => by rw [if_neg hq, zero_mul]) (fun he => absurd (Finset.mem_univ e) he), if_pos rfl, one_mul]

open Cert.KernelIdeal in
/-- At a row of a segment the kernel's result is the reference's of the same arrays. -/
theorem value_eq (m : (ℓ : Loc nD τ sig) → Buf (Elt Ideal) ℓ) (c : Dev nD) (x4 : IVec Cert.ReferenceIdeal.S8 32)
    (hx : x4 = m (0, Proc.devRef .tc main_arg4)) (hn : ∀ k, cn x4 k ≤ 16640) (p : Fin 26496) (d : Fin 2048) (q : Fin 8)
    (hq : val_main_v15 (F := Ideal) x4 (ix2 p q) = 1#1) :
    result (V m) (hO m) c (ix2 p d) = val_main_v33 (F := Ideal) (aX m c) (aW1 m c) (aW3 m c) (aW2 m c) x4 (ix2 p d) := by
  have h := hq
  rw [ix2_eq_valueIdx, v15_ap x4 (cn x4) (cn_word x4) hn p q] at h
  rw [ref_seg _ _ _ _ _ hn q p d h, v28_ap, result_seg m c (cn x4) (fun q => by rw [← hx]; exact cn_word x4 q) hn q p d h.1 h.2]
  refine Finset.sum_congr rfl fun g _ => ?_
  unfold Cert.KernelIdeal.Moe.unit
  rw [gate_eq]
  refine congrArg (· * _) (congrArg₂ (· * ·) (congrArg gateR ?_) ?_)
  · exact Finset.sum_congr rfl fun k _ => mul_comm _ _
  · exact Finset.sum_congr rfl fun k _ => mul_comm _ _

theorem algebraic : Cert.algebraic_KernelIdeal_ReferenceIdeal_on_in_segment_pre_counts_ok (hKernelIdeal := Cert.KernelIdeal.Gen.facts)
    (hReferenceIdeal := Cert.ReferenceIdeal.Gen.facts) (hPre_counts_ok := Cert.Pre_counts_ok.Gen.facts) (hOn_in_segment := Cert.On_in_segment.Gen.facts) := by
  intro m g m' g' hpre hargs
  refine ⟨fun c => result (V m) (hO m) c, ?_, ?_⟩
  · refine (θ_run (Cert.KernelIdeal.defs (F := Ideal)) _ _).mono (fun r h c => ⟨fun i _ => ?_, h.1.1 c⟩) (Cert.KernelIdeal.Moe.run_main (F := Ideal) m g)
    exact congrFun ((h.2 c).trans (final_out (V m) (hO m) c)) i
  · refine (θ_run (Cert.ReferenceIdeal.defs (F := Ideal)) _ _).mono (fun r h c => ⟨fun i hi => ?_, (h c).2⟩) (Cert.ReferenceIdeal.Value.run (F := Ideal) m' g')
    obtain ⟨a0, a1, a2, a3, a4⟩ := hargs c
    have hn := cn_le _ _ _ _ _ (hpre c)
    obtain ⟨q, hq⟩ := on_some _ _ _ _ _ i hi
    have hc : c = 0 := Subsingleton.elim _ _
    have hv := value_eq m c _ (by subst hc; rfl) hn ⟨(i (0 : Fin 2)).val, (i (0 : Fin 2)).isLt⟩ ⟨(i (1 : Fin 2)).val, (i (1 : Fin 2)).isLt⟩ q (by rw [ix2_eq_valueIdx]; exact hq)
    have hix : (ix2 ⟨(i (0 : Fin 2)).val, (i (0 : Fin 2)).isLt⟩ ⟨(i (1 : Fin 2)).val, (i (1 : Fin 2)).isLt⟩ : (⟨2, ![26496, 2048]⟩ : Shape).Idx) = i := by
      funext a
      match a with
      | ⟨0, _⟩ => rfl
      | ⟨1, _⟩ => rfl
    rw [hix] at hv
    refine ((congrFun ((h c).1.trans (Cert.ReferenceIdeal.Read.val_main_v33_eq m' c)) i).trans ?_).trans hv.symm
    rw [a0, a1, a2, a3, a4]

end Cert.Proof

end
-- ==== Proof.FramesRest.lean ====
/- The frames of the further calls and of their references. -/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run

@[expose] public section

noncomputable section

namespace Cert.Proof

open Idealize.ShloMosaic Idealize.ShloMosaic.TcCoe Idealize.SL.Sem

theorem frame_kernel2 : Cert.quiescent_Kernel2 (hKernel2 := Cert.Kernel2.Gen.facts) := fun m ρ _ => Cert.Kernel2.Gen.frame m ρ

theorem frame_ideal2 : Cert.quiescent_Kernel2Ideal (hKernel2Ideal := Cert.Kernel2Ideal.Gen.facts) := fun m ρ _ => Cert.Kernel2Ideal.Gen.frame m ρ

theorem frame_ref2 : Cert.quiescent_Reference2Ideal (hReference2Ideal := Cert.Reference2Ideal.Gen.facts) := fun m ρ _ =>
  (θ_run (Cert.Reference2Ideal.defs (F := Ideal)) _ _).mono (fun r h => ⟨fun c => (h c).2, Idealize.ShloMosaic.sem_eq_zero_of_no_sems (by decide) r.2⟩)
    (Cert.Reference2Ideal.Value.run (F := Ideal) m ρ)

theorem frame_kernel3 : Cert.quiescent_Kernel3 (hKernel3 := Cert.Kernel3.Gen.facts) := fun m ρ _ => Cert.Kernel3.Gen.frame m ρ

theorem frame_ideal3 : Cert.quiescent_Kernel3Ideal (hKernel3Ideal := Cert.Kernel3Ideal.Gen.facts) := fun m ρ _ => Cert.Kernel3Ideal.Gen.frame m ρ

theorem frame_ref3 : Cert.quiescent_Reference3Ideal (hReference3Ideal := Cert.Reference3Ideal.Gen.facts) := fun m ρ _ =>
  (θ_run (Cert.Reference3Ideal.defs (F := Ideal)) _ _).mono (fun r h => ⟨fun c => (h c).2, Idealize.ShloMosaic.sem_eq_zero_of_no_sems (by decide) r.2⟩)
    (Cert.Reference3Ideal.Value.run (F := Ideal) m ρ)

theorem frame_kernel4 : Cert.quiescent_Kernel4 (hKernel4 := Cert.Kernel4.Gen.facts) := fun m ρ _ => Cert.Kernel4.Gen.frame m ρ

theorem frame_ideal4 : Cert.quiescent_Kernel4Ideal (hKernel4Ideal := Cert.Kernel4Ideal.Gen.facts) := fun m ρ _ => Cert.Kernel4Ideal.Gen.frame m ρ

theorem frame_ref4 : Cert.quiescent_Reference4Ideal (hReference4Ideal := Cert.Reference4Ideal.Gen.facts) := fun m ρ _ =>
  (θ_run (Cert.Reference4Ideal.defs (F := Ideal)) _ _).mono (fun r h => ⟨fun c => (h c).2, Idealize.ShloMosaic.sem_eq_zero_of_no_sems (by decide) r.2⟩)
    (Cert.Reference4Ideal.Value.run (F := Ideal) m ρ)

theorem frame_kernel5 : Cert.quiescent_Kernel5 (hKernel5 := Cert.Kernel5.Gen.facts) := fun m ρ _ => Cert.Kernel5.Gen.frame m ρ

theorem frame_ideal5 : Cert.quiescent_Kernel5Ideal (hKernel5Ideal := Cert.Kernel5Ideal.Gen.facts) := fun m ρ _ => Cert.Kernel5Ideal.Gen.frame m ρ

theorem frame_ref5 : Cert.quiescent_Reference5Ideal (hReference5Ideal := Cert.Reference5Ideal.Gen.facts) := fun m ρ _ =>
  (θ_run (Cert.Reference5Ideal.defs (F := Ideal)) _ _).mono (fun r h => ⟨fun c => (h c).2, Idealize.ShloMosaic.sem_eq_zero_of_no_sems (by decide) r.2⟩)
    (Cert.Reference5Ideal.Value.run (F := Ideal) m ρ)

theorem frame_kernel6 : Cert.quiescent_Kernel6 (hKernel6 := Cert.Kernel6.Gen.facts) := fun m ρ _ => Cert.Kernel6.Gen.frame m ρ

theorem frame_ideal6 : Cert.quiescent_Kernel6Ideal (hKernel6Ideal := Cert.Kernel6Ideal.Gen.facts) := fun m ρ _ => Cert.Kernel6Ideal.Gen.frame m ρ

theorem frame_ref6 : Cert.quiescent_Reference6Ideal (hReference6Ideal := Cert.Reference6Ideal.Gen.facts) := fun m ρ _ =>
  (θ_run (Cert.Reference6Ideal.defs (F := Ideal)) _ _).mono (fun r h => ⟨fun c => (h c).2, Idealize.ShloMosaic.sem_eq_zero_of_no_sems (by decide) r.2⟩)
    (Cert.Reference6Ideal.Value.run (F := Ideal) m ρ)

theorem frame_kernel7 : Cert.quiescent_Kernel7 (hKernel7 := Cert.Kernel7.Gen.facts) := fun m ρ _ => Cert.Kernel7.Gen.frame m ρ

theorem frame_ideal7 : Cert.quiescent_Kernel7Ideal (hKernel7Ideal := Cert.Kernel7Ideal.Gen.facts) := fun m ρ _ => Cert.Kernel7Ideal.Gen.frame m ρ

theorem frame_ref7 : Cert.quiescent_Reference7Ideal (hReference7Ideal := Cert.Reference7Ideal.Gen.facts) := fun m ρ _ =>
  (θ_run (Cert.Reference7Ideal.defs (F := Ideal)) _ _).mono (fun r h => ⟨fun c => (h c).2, Idealize.ShloMosaic.sem_eq_zero_of_no_sems (by decide) r.2⟩)
    (Cert.Reference7Ideal.Value.run (F := Ideal) m ρ)

theorem frame_kernel8 : Cert.quiescent_Kernel8 (hKernel8 := Cert.Kernel8.Gen.facts) := fun m ρ _ => Cert.Kernel8.Gen.frame m ρ

theorem frame_ideal8 : Cert.quiescent_Kernel8Ideal (hKernel8Ideal := Cert.Kernel8Ideal.Gen.facts) := fun m ρ _ => Cert.Kernel8Ideal.Gen.frame m ρ

theorem frame_ref8 : Cert.quiescent_Reference8Ideal (hReference8Ideal := Cert.Reference8Ideal.Gen.facts) := fun m ρ _ =>
  (θ_run (Cert.Reference8Ideal.defs (F := Ideal)) _ _).mono (fun r h => ⟨fun c => (h c).2, Idealize.ShloMosaic.sem_eq_zero_of_no_sems (by decide) r.2⟩)
    (Cert.Reference8Ideal.Value.run (F := Ideal) m ρ)

theorem frame_kernel9 : Cert.quiescent_Kernel9 (hKernel9 := Cert.Kernel9.Gen.facts) := fun m ρ _ => Cert.Kernel9.Gen.frame m ρ

theorem frame_ideal9 : Cert.quiescent_Kernel9Ideal (hKernel9Ideal := Cert.Kernel9Ideal.Gen.facts) := fun m ρ _ => Cert.Kernel9Ideal.Gen.frame m ρ

theorem frame_ref9 : Cert.quiescent_Reference9Ideal (hReference9Ideal := Cert.Reference9Ideal.Gen.facts) := fun m ρ _ =>
  (θ_run (Cert.Reference9Ideal.defs (F := Ideal)) _ _).mono (fun r h => ⟨fun c => (h c).2, Idealize.ShloMosaic.sem_eq_zero_of_no_sems (by decide) r.2⟩)
    (Cert.Reference9Ideal.Value.run (F := Ideal) m ρ)

theorem frame_kernel10 : Cert.quiescent_Kernel10 (hKernel10 := Cert.Kernel10.Gen.facts) := fun m ρ _ => Cert.Kernel10.Gen.frame m ρ

theorem frame_ideal10 : Cert.quiescent_Kernel10Ideal (hKernel10Ideal := Cert.Kernel10Ideal.Gen.facts) := fun m ρ _ => Cert.Kernel10Ideal.Gen.frame m ρ

theorem frame_ref10 : Cert.quiescent_Reference10Ideal (hReference10Ideal := Cert.Reference10Ideal.Gen.facts) := fun m ρ _ =>
  (θ_run (Cert.Reference10Ideal.defs (F := Ideal)) _ _).mono (fun r h => ⟨fun c => (h c).2.2, Idealize.ShloMosaic.sem_eq_zero_of_no_sems (by decide) r.2⟩)
    (Cert.Reference10Ideal.Value.run (F := Ideal) m ρ)

theorem frame_kernel11 : Cert.quiescent_Kernel11 (hKernel11 := Cert.Kernel11.Gen.facts) := fun m ρ _ => Cert.Kernel11.Gen.frame m ρ

theorem frame_ideal11 : Cert.quiescent_Kernel11Ideal (hKernel11Ideal := Cert.Kernel11Ideal.Gen.facts) := fun m ρ _ => Cert.Kernel11Ideal.Gen.frame m ρ

theorem frame_ref11 : Cert.quiescent_Reference11Ideal (hReference11Ideal := Cert.Reference11Ideal.Gen.facts) := fun m ρ _ =>
  (θ_run (Cert.Reference11Ideal.defs (F := Ideal)) _ _).mono (fun r h => ⟨fun c => (h c).2, Idealize.ShloMosaic.sem_eq_zero_of_no_sems (by decide) r.2⟩)
    (Cert.Reference11Ideal.Value.run (F := Ideal) m ρ)

end Cert.Proof

end
-- ==== Proof.Dense.lean ====
/- The dense feed-forward network: the kernel's result is the sum over the hidden axis, element by element, and so is the reference's. -/
module

public import proofs.«01_k».proof.Defs
public import proofs.«01_k».proof.Proof.Gen.Kernel2Ideal.Value
public import proofs.«01_k».proof.Proof.Gen.Reference2Ideal.Read
public import proofs.«01_k».proof.Proof.Sigmoid
public import Idealize.ShloMosaic.Lib.Pointwise
public import Idealize.ShloMosaic.Lib.Pipeline.ValueKit.Geometry

@[expose] public section

set_option maxRecDepth 16384

noncomputable section

namespace Cert.Kernel2Ideal.Ffn

open Cert.Kernel2Ideal Cert.Kernel2Ideal.Gen Cert.Kernel2Ideal.Value
open Idealize.ShloMosaic Idealize.ShloMosaic.TcCoe Idealize.SL.Sem
open Idealize.ShloMosaic.Pipeline (Dat)

variable (m : (ℓ : Loc nD τ sig) → Buf (Elt Ideal) ℓ)

abbrev aX (c : Dev nD) : Vec Ideal S8320x2048 .bf16 := m ((c.tc : Thread nD τ).loc main_arg0)
abbrev aW1 (c : Dev nD) : Vec Ideal S1x2048x7168 .f32 := m ((c.tc : Thread nD τ).loc main_arg1)
abbrev aW3 (c : Dev nD) : Vec Ideal S1x2048x7168 .f32 := m ((c.tc : Thread nD τ).loc main_arg2)
abbrev aW2 (c : Dev nD) : Vec Ideal S1x7168x2048 .f32 := m ((c.tc : Thread nD τ).loc main_arg3)

/-- The gate as the kernel computes it. -/
def gt (h : EReal) : EReal :=
  h * (Ideal.ofBits .f32 0x3F000000#32 * Ideal.tanh (Ideal.ofBits .f32 0x3F000000#32 * h) + Ideal.ofBits .f32 0x3F000000#32)

/-- One hidden unit's share of an element of the result. -/
def hu (c : Dev nD) (p : Fin 8320) (d : Fin 2048) (g : Fin 7168) : EReal :=
  gt (∑ k : Fin 2048, aX m c (ix2 p k) * aW1 m c (ix3 0 k g)) * (∑ k : Fin 2048, aX m c (ix2 p k) * aW3 m c (ix3 0 k g)) * aW2 m c (ix3 0 g d)

/-- An element of the result. -/
def el (c : Dev nD) (p : Fin 8320) (d : Fin 2048) : EReal := ∑ g : Fin 7168, hu m c p d g

/-- The result array. -/
def G (c : Dev nD) : Buf (Elt Ideal) ((c : Thread nD τ).loc main_v0) := fun i =>
  el m c ⟨(i (0 : Fin 2)).val, (i (0 : Fin 2)).isLt⟩ ⟨(i (1 : Fin 2)).val, (i (1 : Fin 2)).isLt⟩

/-- What one block of the hidden axis adds to an element. -/
def share (x0 : Vec Ideal S1040x2048 .bf16) (x1 x2 : Vec Ideal S1x2048x256 .f32) (x3 : Vec Ideal S1x256x2048 .f32) (r : Fin 1040) (d : Fin 2048) : EReal :=
  ∑ f : Fin 256, gt (∑ k : Fin 2048, x0 (ix2 r k) * x1 (ix3 0 k f)) * (∑ k : Fin 2048, x0 (ix2 r k) * x2 (ix3 0 k f)) * x3 (ix3 0 f d)

theorem pay_ap (x0 : Vec Ideal S1040x2048 .bf16) (x1 x2 : Vec Ideal S1x2048x256 .f32) (x3 : Vec Ideal S1x256x2048 .f32)
    (y : Vec Ideal S1040x2048 .f32) (r : Fin 1040) (d : Fin 2048) :
    k0_pay2 x0 x1 x2 y x3 (ix2 r d) = y (ix2 r d) + share x0 x1 x2 x3 r d := by
  unfold share gt
  pointwise [k0_pay2]

theorem zero_ap (r : Fin 1040) (d : Fin 2048) : k0_pay1 (F := Ideal) (ix2 r d) = 0 := by
  pointwise [k0_pay1]

/-- Each window's block index, decided over the points. -/
theorem idx_facts : ∀ t : Fin cfg0.N, win0_0.index t (0 : Fin 2) = t.val / 28 ∧ win0_0.index t (1 : Fin 2) = 0
    ∧ win0_1.index t (0 : Fin 3) = 0 ∧ win0_1.index t (1 : Fin 3) = 0 ∧ win0_1.index t (2 : Fin 3) = t.val % 28
    ∧ win0_2.index t (0 : Fin 3) = 0 ∧ win0_2.index t (1 : Fin 3) = 0 ∧ win0_2.index t (2 : Fin 3) = t.val % 28
    ∧ win0_3.index t (0 : Fin 3) = 0 ∧ win0_3.index t (1 : Fin 3) = t.val % 28 ∧ win0_3.index t (2 : Fin 3) = 0 :=
  (by decide +kernel : ∀ t : Fin grid0.N, _)

theorem ib0 (c : Dev nD) (t : Fin cfg0.N) (r : Fin 1040) (k : Fin 2048) (p : Fin 8320)
    (hp : p.val = t.val / 28 * 1040 + r.val) : iblk m c 0 t (ix2 r k) = aX m c (ix2 p k) := by
  obtain ⟨e0, e1, -⟩ := idx_facts t
  refine congrArg (aX m c) (funext fun (a : Fin 2) => ?_)
  match a with
  | ⟨0, _⟩ => exact Fin.ext (by show win0_0.index t (0 : Fin 2) * 1040 + 1 * r.val = p.val; omega)
  | ⟨1, _⟩ => exact Fin.ext (by show win0_0.index t (1 : Fin 2) * 2048 + 1 * k.val = k.val; omega)

theorem ib1 (c : Dev nD) (t : Fin cfg0.N) (k : Fin 2048) (f : Fin 256) (g : Fin 7168)
    (hg : g.val = t.val % 28 * 256 + f.val) : iblk m c 1 t (ix3 0 k f) = aW1 m c (ix3 0 k g) := by
  obtain ⟨-, -, e2, e3, e4, -⟩ := idx_facts t
  refine congrArg (aW1 m c) (funext fun (a : Fin 3) => ?_)
  match a with
  | ⟨0, _⟩ => exact Fin.ext (by show win0_1.index t (0 : Fin 3) * 1 + 1 * 0 = 0; omega)
  | ⟨1, _⟩ => exact Fin.ext (by show win0_1.index t (1 : Fin 3) * 2048 + 1 * k.val = k.val; omega)
  | ⟨2, _⟩ => exact Fin.ext (by show win0_1.index t (2 : Fin 3) * 256 + 1 * f.val = g.val; omega)

theorem ib2 (c : Dev nD) (t : Fin cfg0.N) (k : Fin 2048) (f : Fin 256) (g : Fin 7168)
    (hg : g.val = t.val % 28 * 256 + f.val) : iblk m c 2 t (ix3 0 k f) = aW3 m c (ix3 0 k g) := by
  obtain ⟨-, -, -, -, -, e2, e3, e4, -⟩ := idx_facts t
  refine congrArg (aW3 m c) (funext fun (a : Fin 3) => ?_)
  match a with
  | ⟨0, _⟩ => exact Fin.ext (by show win0_2.index t (0 : Fin 3) * 1 + 1 * 0 = 0; omega)
  | ⟨1, _⟩ => exact Fin.ext (by show win0_2.index t (1 : Fin 3) * 2048 + 1 * k.val = k.val; omega)
  | ⟨2, _⟩ => exact Fin.ext (by show win0_2.index t (2 : Fin 3) * 256 + 1 * f.val = g.val; omega)

theorem ib3 (c : Dev nD) (t : Fin cfg0.N) (f : Fin 256) (d : Fin 2048) (g : Fin 7168)
    (hg : g.val = t.val % 28 * 256 + f.val) : iblk m c 3 t (ix3 0 f d) = aW2 m c (ix3 0 g d) := by
  obtain ⟨-, -, -, -, -, -, -, -, e2, e3, e4⟩ := idx_facts t
  refine congrArg (aW2 m c) (funext fun (a : Fin 3) => ?_)
  match a with
  | ⟨0, _⟩ => exact Fin.ext (by show win0_3.index t (0 : Fin 3) * 1 + 1 * 0 = 0; omega)
  | ⟨1, _⟩ => exact Fin.ext (by show win0_3.index t (1 : Fin 3) * 256 + 1 * f.val = g.val; omega)
  | ⟨2, _⟩ => exact Fin.ext (by show win0_3.index t (2 : Fin 3) * 2048 + 1 * d.val = d.val; omega)

/-- The input blocks at a point, as plain arrays. -/
abbrev b0 (c : Dev nD) (t : Fin cfg0.N) : Vec Ideal S1040x2048 .bf16 := iblk m c 0 t
abbrev b1 (c : Dev nD) (t : Fin cfg0.N) : Vec Ideal S1x2048x256 .f32 := iblk m c 1 t
abbrev b2 (c : Dev nD) (t : Fin cfg0.N) : Vec Ideal S1x2048x256 .f32 := iblk m c 2 t

/-- A point's share, in the argument arrays. -/
theorem share_ap (c : Dev nD) (t : Fin cfg0.N) (r : Fin 1040) (d : Fin 2048) (p : Fin 8320) (j : ℕ) (hj : j < 28)
    (hp : p.val = t.val / 28 * 1040 + r.val) (ht : t.val % 28 = j) :
    share (iblk m c 0 t) (iblk m c 1 t) (iblk m c 2 t) (iblk m c 3 t) r d
      = ∑ f : Fin 256, hu m c p d ⟨j * 256 + f.val, by have := f.isLt; omega⟩ := by
  unfold share hu
  refine Finset.sum_congr rfl fun f _ => ?_
  have hg : j * 256 + f.val = t.val % 28 * 256 + f.val := by rw [ht]
  have a1 : (∑ k : Fin 2048, b0 m c t (ix2 r k) * b1 m c t (ix3 0 k f))
      = ∑ k : Fin 2048, aX m c (ix2 p k) * aW1 m c (ix3 0 k ⟨j * 256 + f.val, by have := f.isLt; omega⟩) :=
    Finset.sum_congr rfl fun k _ => congrArg₂ (fun a b : EReal => a * b) (ib0 m c t r k p hp) (ib1 m c t k f ⟨j * 256 + f.val, by have := f.isLt; omega⟩ hg)
  have a2 : (∑ k : Fin 2048, b0 m c t (ix2 r k) * b2 m c t (ix3 0 k f))
      = ∑ k : Fin 2048, aX m c (ix2 p k) * aW3 m c (ix3 0 k ⟨j * 256 + f.val, by have := f.isLt; omega⟩) :=
    Finset.sum_congr rfl fun k _ => congrArg₂ (fun a b : EReal => a * b) (ib0 m c t r k p hp) (ib2 m c t k f ⟨j * 256 + f.val, by have := f.isLt; omega⟩ hg)
  exact congrArg₂ (fun a b : EReal => a * b) (congrArg₂ (fun a b : EReal => gt a * b) a1 a2) (ib3 m c t f d ⟨j * 256 + f.val, by have := f.isLt; omega⟩ hg)

/-- After block `j` of the hidden axis the staging block holds the sum of the first `j + 1` blocks. -/
theorem acc_sum (c : Dev nD) (s : ℕ) (r : Fin 1040) (d : Fin 2048) (p : Fin 8320) (hp : p.val = s * 1040 + r.val) :
    ∀ (j : ℕ) (hj : j < 28) (h : 28 * s + j < cfg0.N), Pipeline.accAt (reset4 m c) (step4 m c) (28 * s) j h (ix2 r d)
      = ∑ b : Fin (j + 1), ∑ f : Fin 256, hu m c p d ⟨b.val * 256 + f.val, by have := b.isLt; have := f.isLt; omega⟩ := by
  intro j
  induction j with
  | zero =>
    intro hj h
    refine (pay_ap _ _ _ _ _ r d).trans ?_
    rw [zero_ap, zero_add]
    refine (share_ap m c ⟨28 * s, h⟩ r d p 0 (by decide) (by show p.val = 28 * s / 28 * 1040 + r.val; omega) (by show 28 * s % 28 = 0; omega)).trans ?_
    exact (Fin.sum_univ_one (fun b : Fin 1 => ∑ f : Fin 256, hu m c p d ⟨b.val * 256 + f.val, by have := b.isLt; have := f.isLt; omega⟩)).symm
  | succ j ih =>
    intro hj h
    have ih' := ih (by omega) (Nat.lt_of_succ_lt h)
    rw [Fin.sum_univ_castSucc]
    refine (pay_ap _ _ _ _ (Pipeline.accAt (reset4 m c) (step4 m c) (28 * s) j (Nat.lt_of_succ_lt h)) r d).trans ?_
    exact congrArg₂ (fun a b : EReal => a + b) ih'
      (share_ap m c ⟨28 * s + (j + 1), h⟩ r d p (j + 1) hj (by show p.val = (28 * s + (j + 1)) / 28 * 1040 + r.val; omega) (by show (28 * s + (j + 1)) % 28 = j + 1; omega))

/-- The generated result is the element-by-element one. -/
theorem G4_eq (c : Dev nD) : G4 m c = G m c := by
  funext (i : S8320x2048.Idx)
  have h0 : (i (0 : Fin 2)).val < 8320 := (i (0 : Fin 2)).isLt
  have h1 : (i (1 : Fin 2)).val < 2048 := (i (1 : Fin 2)).isLt
  have hr : run4Of i = (i (0 : Fin 2)).val / 1040 := by
    show 1 * ((i (0 : Fin 2)).val / 1040 - 0) + 1 * ((i (1 : Fin 2)).val / 2048 - 0) = _
    omega
  have hN : 28 * ((i (0 : Fin 2)).val / 1040) + 27 < cfg0.N := lt_of_lt_of_eq (by omega : _ < 224) (N_0).symm
  have hl : loc4Of i = ix2 ⟨(i (0 : Fin 2)).val % 1040, Nat.mod_lt _ (by decide)⟩ ⟨(i (1 : Fin 2)).val, h1⟩ := by
    funext (a : Fin 2)
    match a with
    | ⟨0, _⟩ => rfl
    | ⟨1, _⟩ => exact Fin.ext (by show (i (1 : Fin 2)).val % 2048 = (i (1 : Fin 2)).val; omega)
  have hrun : ∀ (q : ℕ) (hq : q = (i (0 : Fin 2)).val / 1040) (h : 28 * q + 27 < cfg0.N),
      Pipeline.accAt (reset4 m c) (step4 m c) (28 * q) 27 h (loc4Of i) = el m c ⟨(i (0 : Fin 2)).val, h0⟩ ⟨(i (1 : Fin 2)).val, h1⟩ := by
    intro q hq h
    rw [hl]
    refine (acc_sum m c q _ _ ⟨(i (0 : Fin 2)).val, h0⟩ (by show (i (0 : Fin 2)).val = q * 1040 + (i (0 : Fin 2)).val % 1040; omega) 27 (by decide) h).trans ?_
    exact (Fin.sum_univ_tiles 28 256 rfl _).symm
  unfold G4
  rw [dif_pos (hr ▸ hN)]
  exact hrun _ hr _

end Cert.Kernel2Ideal.Ffn

namespace Cert.Reference2Ideal.Ffn

open Cert.Reference2Ideal Cert.Reference2Ideal.Gen Cert.Reference2Ideal.Read Idealize.ShloMosaic

variable (x0 : FVec Ideal S8320x2048 .bf16) (x1 x2 : FVec Ideal S1x2048x7168 .f32) (x3 : FVec Ideal S1x7168x2048 .f32)

/-- The gate as the reference computes it. -/
def gtR (h : EReal) : EReal := h * Ideal.div 1 (1 + Ideal.exp (-h))

theorem h1_ap (p : Fin 8320) (g : Fin 7168) :
    val_main_v2 (F := Ideal) x0 x1 (ix2 p g) = ∑ k : Fin 2048, x0 (ix2 p k) * x1 (ix3 0 k g) := by
  pointwise [val_main_v2, val_main_v1, val_main_v0]

theorem h3_ap (p : Fin 8320) (g : Fin 7168) :
    val_main_v5 (F := Ideal) x0 x2 (ix2 p g) = ∑ k : Fin 2048, x0 (ix2 p k) * x2 (ix3 0 k g) := by
  pointwise [val_main_v5, val_main_v4, val_main_v0]

theorem gate_ap (i : S8320x7168.Idx) :
    val_main_v3 (F := Ideal) x0 x1 i = gtR (val_main_v2 (F := Ideal) x0 x1 i) := by
  unfold gtR
  pointwise [val_main_v3, val_main_call0_v5, val_main_call0_v4, val_main_call0_v3, val_main_call0_v2, val_main_call0_v1, val_main_call0_v0, val_main_call0_cst, val_main_call0_cst_0]

/-- An element of the reference's result. -/
theorem ref_ap (p : Fin 8320) (d : Fin 2048) :
    val_main_v8 (F := Ideal) x0 x1 x2 x3 (ix2 p d)
      = ∑ g : Fin 7168, gtR (∑ k : Fin 2048, x0 (ix2 p k) * x1 (ix3 0 k g)) * (∑ k : Fin 2048, x0 (ix2 p k) * x2 (ix3 0 k g)) * x3 (ix3 0 g d) := by
  pointwise [val_main_v8, val_main_v7, val_main_v6]
  simp only [gate_ap, h1_ap, h3_ap]

end Cert.Reference2Ideal.Ffn

namespace Cert.Proof

open Idealize.ShloMosaic Idealize.ShloMosaic.TcCoe Idealize.SL.Sem

theorem algebraic2 : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Kernel2Ideal.Ffn.G m c, ?_, ?_⟩
  · exact (θ_run (Cert.Kernel2Ideal.defs (F := Ideal)) _ _).mono (fun r h c => ⟨(h c).1.trans (Cert.Kernel2Ideal.Ffn.G4_eq m c), (h c).2⟩)
      (Cert.Kernel2Ideal.Value.run (F := Ideal) m g)
  · refine (θ_run (Cert.Reference2Ideal.defs (F := Ideal)) _ _).mono (fun r h c => ⟨?_, (h c).2⟩) (Cert.Reference2Ideal.Value.run (F := Ideal) m' g')
    obtain ⟨a0, a1, a2, a3⟩ := hargs c
    refine (h c).1.trans ?_
    rw [a0, a1, a2, a3]
    funext (i : Cert.Reference2Ideal.S8320x2048.Idx)
    have hi : (ix2 ⟨(i (0 : Fin 2)).val, (i (0 : Fin 2)).isLt⟩ ⟨(i (1 : Fin 2)).val, (i (1 : Fin 2)).isLt⟩ : Cert.Reference2Ideal.S8320x2048.Idx) = i := by
      funext a
      match a with
      | ⟨0, _⟩ => rfl
      | ⟨1, _⟩ => rfl
    refine (congrFun (Cert.Reference2Ideal.Read.val_main_v8_eq (F := Ideal) _ _ _ _) i).trans ?_
    refine (congrArg _ hi.symm).trans ?_
    refine (Cert.Reference2Ideal.Ffn.ref_ap _ _ _ _ _ _).trans ?_
    refine Finset.sum_congr rfl fun f _ => ?_
    exact congrArg (fun a : EReal => a * _ * _) (congrArg (fun a : EReal => _ * a) (Cert.Sigmoid.sigmoid_eq _).symm)

end Cert.Proof

end
-- ==== Proof.InQkvz.lean ====
/- The first part of the input projection: the kernel's result is the product, element by element, and so is the reference's. -/
module

public import proofs.«01_k».proof.Defs
public import proofs.«01_k».proof.Proof.Gen.Kernel3Ideal.Value
public import proofs.«01_k».proof.Proof.Gen.Reference3Ideal.Read
public import Idealize.ShloMosaic.Lib.Pointwise
public import Idealize.ShloMosaic.Lib.Pipeline.ValueKit.Geometry

@[expose] public section

set_option maxRecDepth 16384

noncomputable section

namespace Cert.Kernel3Ideal.Mul

open Cert.Kernel3Ideal Cert.Kernel3Ideal.Gen Cert.Kernel3Ideal.Value
open Idealize.ShloMosaic Idealize.ShloMosaic.TcCoe Idealize.SL.Sem
open Idealize.ShloMosaic.Pipeline (Dat)

variable (m : (ℓ : Loc nD τ sig) → Buf (Elt Ideal) ℓ)

abbrev aX (c : Dev nD) : Vec Ideal S8320x2048 .bf16 := m ((c.tc : Thread nD τ).loc main_arg0)
abbrev aW (c : Dev nD) : Vec Ideal S2x2048x16416 .f32 := m ((c.tc : Thread nD τ).loc main_arg1)

/-- An element of the result. -/
def el (c : Dev nD) (p : Fin 8320) (d : Fin 8192) : EReal :=
  ∑ k : Fin 2048, aX m c (ix2 p k) * aW m c (ix3 0 k ⟨d.val, by have := d.isLt; omega⟩)

/-- The result array. -/
def G (c : Dev nD) : Buf (Elt Ideal) ((c : Thread nD τ).loc main_v1) := fun i =>
  el m c ⟨(i (0 : Fin 2)).val, (i (0 : Fin 2)).isLt⟩ ⟨(i (1 : Fin 2)).val, (i (1 : Fin 2)).isLt⟩

/-- One block of the result, at an element, in the input blocks. -/
theorem pay_ap (x0 : Vec Ideal S2080x2048 .bf16) (x1 : Vec Ideal S1x512x2048 .f32) (r : Fin 2080) (d : Fin 512) :
    out0_2 x0 x1 (ix2 r d) = ∑ k : Fin 2048, x0 (ix2 r k) * x1 (ix3 0 d k) := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_2
  rw [View.canon_unit_zero hz2]
  simp only [View.ld_unit_zero (S := S2080x2048) hz2, View.ld_unit_zero (S := S1x512x2048) hz3]
  pointwise [k0_pay1]

/-- The weights as the region finds them: the argument transposed. -/
theorem V_v0 (c : Dev nD) : V m c main_v0 = transpose S2x16416x2048 [0, 2, 1] (aW m c) transposes_S2x2048x16416_S2x16416x2048_0_2_1 := by
  show StableHlo.after hostOps0 (fun b => m (c, b)) (Proc.devRef .tc main_v0) = _
  after_results <;> rfl

theorem transpose_ap (w : Vec Ideal S2x2048x16416 .f32) (e : Fin 2) (g : Fin 16416) (k : Fin 2048) :
    transpose S2x16416x2048 [0, 2, 1] w transposes_S2x2048x16416_S2x16416x2048_0_2_1 (ix3 e g k) = w (ix3 e k g) := by
  pointwise

/-- Each window's block index or offset, decided over the points. -/
theorem idx_facts : ∀ t : Fin cfg0.N, win0_0.index t (0 : Fin 2) = win0_2.index t (0 : Fin 2) ∧ win0_0.index t (1 : Fin 2) = 0
    ∧ win0_1.index t (0 : Fin 3) = 0 ∧ win0_1.index t (1 : Fin 3) = 0 + win0_2.index t (1 : Fin 2) * 512 ∧ win0_1.index t (2 : Fin 3) = 0 :=
  (by decide +kernel : ∀ t : Fin grid0.N, _)

theorem idx_onto : ∀ (q0 : Fin 4) (q1 : Fin 16), ∃ t : Fin cfg0.N, (cfg0.win 2).flush t = true ∧ win0_2.index t = ![q0.val, q1.val] :=
  (by decide +kernel : ∀ (q0 : Fin 4) (q1 : Fin 16), ∃ t : Fin grid0.N, win0_2.flush t = true ∧ win0_2.index t = ![q0.val, q1.val])

theorem ib0 (c : Dev nD) (t : Fin cfg0.N) (r : Fin 2080) (k : Fin 2048) (p : Fin 8320)
    (hp : p.val = win0_2.index t (0 : Fin 2) * 2080 + r.val) : iblk m c 0 t (ix2 r k) = aX m c (ix2 p k) := by
  obtain ⟨e0, e1, -⟩ := idx_facts t
  refine (congrArg (V m c main_arg0) (?_ : ((cfg0.win 0).blk t).view.emb (ix2 r k) = ix2 p k)).trans (congrFun (V_main_arg0 m c) (ix2 p k))
  funext (a : Fin 2)
  match a with
  | ⟨0, _⟩ => exact Fin.ext (by show win0_0.index t (0 : Fin 2) * 2080 + 1 * r.val = p.val; omega)
  | ⟨1, _⟩ => exact Fin.ext (by show win0_0.index t (1 : Fin 2) * 2048 + 1 * k.val = k.val; omega)

theorem ib1 (c : Dev nD) (t : Fin cfg0.N) (k : Fin 2048) (q : Fin 512) (g : Fin 16416)
    (hg : g.val = 0 + (win0_2.index t (1 : Fin 2) * 512 + q.val)) : iblk m c 1 t (ix3 0 q k) = aW m c (ix3 0 k g) := by
  obtain ⟨-, -, e2, e3, e4⟩ := idx_facts t
  refine (congrArg (V m c main_v0) (?_ : ((cfg0.win 1).blk t).view.emb (ix3 0 q k) = ix3 0 g k)).trans ((congrFun (V_v0 m c) (ix3 0 g k)).trans (transpose_ap (aW m c) 0 g k))
  funext (a : Fin 3)
  match a with
  | ⟨0, _⟩ => exact Fin.ext (by show win0_1.index t (0 : Fin 3) + 1 * 0 = 0; omega)
  | ⟨1, _⟩ => exact Fin.ext (by show win0_1.index t (1 : Fin 3) + 1 * q.val = g.val; omega)
  | ⟨2, _⟩ => exact Fin.ext (by show win0_1.index t (2 : Fin 3) + 1 * k.val = k.val; omega)

theorem block_el (c : Dev nD) (t : Fin cfg0.N) (r : Fin 2080) (q : Fin 512) (p : Fin 8320) (d : Fin 8192)
    (hp : p.val = win0_2.index t (0 : Fin 2) * 2080 + r.val) (hd : d.val = win0_2.index t (1 : Fin 2) * 512 + q.val) :
    out0_2 (iblk m c 0 t) (iblk m c 1 t) (ix2 r q) = el m c p d := by
  refine (pay_ap _ _ r q).trans ?_
  unfold el
  refine Finset.sum_congr rfl fun k _ => ?_
  exact congrArg₂ (fun a b : EReal => a * b) (ib0 m c t r k p hp) (ib1 m c t k q ⟨d.val, by have := d.isLt; omega⟩ (by show d.val = 0 + (win0_2.index t (1 : Fin 2) * 512 + q.val); omega))

theorem flushed_eq (c : Dev nD) (t : Fin cfg0.N) : (dats m 0 c).flushed 2 t = ((cfg0.win 2).blk t).view.read (Elt Ideal) (G m c) := by
  rw [flushed2]
  funext (y : S2080x512.Idx)
  have hb0 : (((cfg0.win 2).blk t).view.emb y (0 : Fin 2)).val = win0_2.index t (0 : Fin 2) * 2080 + 1 * (y (0 : Fin 2)).val := rfl
  have hb1 : (((cfg0.win 2).blk t).view.emb y (1 : Fin 2)).val = win0_2.index t (1 : Fin 2) * 512 + 1 * (y (1 : Fin 2)).val := rfl
  have hy : (ix2 ⟨(y (0 : Fin 2)).val, (y (0 : Fin 2)).isLt⟩ ⟨(y (1 : Fin 2)).val, (y (1 : Fin 2)).isLt⟩ : S2080x512.Idx) = y := by
    funext a
    match a with
    | ⟨0, _⟩ => rfl
    | ⟨1, _⟩ => rfl
  refine (congrArg (out0_2 (iblk m c 0 t) (iblk m c 1 t)) hy.symm).trans ?_
  exact block_el m c t _ _ _ _ (by rw [hb0, Nat.one_mul]) (by rw [hb1, Nat.one_mul])

theorem cover (i : S8320x8192.Idx) : ∃ t : Fin cfg0.N, (cfg0.win 2).flush t = true ∧ i ∈ ((cfg0.win 2).blk t).view.set := by
  have h0 : (i (0 : Fin 2)).val < 8320 := (i (0 : Fin 2)).isLt
  have h1 : (i (1 : Fin 2)).val < 8192 := (i (1 : Fin 2)).isLt
  obtain ⟨t, hf, ht⟩ := idx_onto ⟨(i (0 : Fin 2)).val / 2080, by omega⟩ ⟨(i (1 : Fin 2)).val / 512, by omega⟩
  have q0 : win0_2.index t (0 : Fin 2) = (i (0 : Fin 2)).val / 2080 := congrFun ht 0
  have q1 : win0_2.index t (1 : Fin 2) = (i (1 : Fin 2)).val / 512 := congrFun ht 1
  refine ⟨t, hf, ?_⟩
  refine (ValueKit.mem_set_slice_whole_iff main_v1 (win0_2.rect t) i (Rect.mem_set_unit (s := S8320x8192))).2 ?_
  intro (a : Fin 2)
  match a with
  | ⟨0, _⟩ => show win0_2.index t (0 : Fin 2) * 2080 ≤ (i (0 : Fin 2)).val ∧ (i (0 : Fin 2)).val < win0_2.index t (0 : Fin 2) * 2080 + 2080; omega
  | ⟨1, _⟩ => show win0_2.index t (1 : Fin 2) * 512 ≤ (i (1 : Fin 2)).val ∧ (i (1 : Fin 2)).val < win0_2.index t (1 : Fin 2) * 512 + 512; omega

theorem final (c : Dev nD) : (dats m 0 c).arrAt 2 cfg0.N = G m c :=
  (dats m 0 c).arrAt_eq_of_cover 2 (G m c) (fun t _ => flushed_eq m c t) cover

end Cert.Kernel3Ideal.Mul

namespace Cert.Reference3Ideal.Mul

open Cert.Reference3Ideal Cert.Reference3Ideal.Gen Cert.Reference3Ideal.Read Idealize.ShloMosaic

/-- An element of the reference's result. -/
theorem ref_ap (x0 : FVec Ideal S8320x2048 .bf16) (x1 : FVec Ideal S2x2048x16416 .f32) (p : Fin 8320) (d : Fin 8192) :
    val_main_v4 (F := Ideal) x0 x1 (ix2 p d) = ∑ k : Fin 2048, x0 (ix2 p k) * x1 (ix3 0 k ⟨d.val, by have := d.isLt; omega⟩) := by
  pointwise [val_main_v4, val_main_v3, val_main_v2, val_main_v1, val_main_v0]

end Cert.Reference3Ideal.Mul

namespace Cert.Proof

open Idealize.ShloMosaic Idealize.ShloMosaic.TcCoe Idealize.SL.Sem

theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Mul.G m c, ?_, ?_⟩
  · exact (θ_run (Cert.Kernel3Ideal.defs (F := Ideal)) _ _).mono (fun r h c => ⟨(h c).1.trans (Cert.Kernel3Ideal.Mul.final m c), (h c).2⟩)
      (Cert.Kernel3Ideal.Value.run_blocks (F := Ideal) m g)
  · refine (θ_run (Cert.Reference3Ideal.defs (F := Ideal)) _ _).mono (fun r h c => ⟨?_, (h c).2⟩) (Cert.Reference3Ideal.Value.run (F := Ideal) m' g')
    obtain ⟨a0, a1⟩ := hargs c
    refine (h c).1.trans ?_
    rw [a0, a1]
    funext (i : Cert.Reference3Ideal.S8320x8192.Idx)
    refine Eq.trans ?_ (Cert.Reference3Ideal.Mul.ref_ap _ _ ⟨(i (0 : Fin 2)).val, (i (0 : Fin 2)).isLt⟩ ⟨(i (1 : Fin 2)).val, (i (1 : Fin 2)).isLt⟩)
    refine (congrFun (Cert.Reference3Ideal.Read.val_main_v4_eq (F := Ideal) _ _) i).trans (congrArg _ ?_)
    funext a
    match a with
    | ⟨0, _⟩ => rfl
    | ⟨1, _⟩ => rfl

end Cert.Proof

end
-- ==== Proof.InTail.lean ====
/- The second part of the input projection: the kernel's result is the product, element by element, and so is the reference's. -/
module

public import proofs.«01_k».proof.Defs
public import proofs.«01_k».proof.Proof.Gen.Kernel4Ideal.Value
public import proofs.«01_k».proof.Proof.Gen.Reference4Ideal.Read
public import Idealize.ShloMosaic.Lib.Pointwise
public import Idealize.ShloMosaic.Lib.Pipeline.ValueKit.Geometry

@[expose] public section

set_option maxRecDepth 16384

noncomputable section

namespace Cert.Kernel4Ideal.Mul

open Cert.Kernel4Ideal Cert.Kernel4Ideal.Gen Cert.Kernel4Ideal.Value
open Idealize.ShloMosaic Idealize.ShloMosaic.TcCoe Idealize.SL.Sem
open Idealize.ShloMosaic.Pipeline (Dat)

variable (m : (ℓ : Loc nD τ sig) → Buf (Elt Ideal) ℓ)

abbrev aX (c : Dev nD) : Vec Ideal S8320x2048 .bf16 := m ((c.tc : Thread nD τ).loc main_arg0)
abbrev aW (c : Dev nD) : Vec Ideal S2x2048x16416 .f32 := m ((c.tc : Thread nD τ).loc main_arg1)

/-- An element of the result. -/
def el (c : Dev nD) (p : Fin 8320) (d : Fin 8192) : EReal :=
  ∑ k : Fin 2048, aX m c (ix2 p k) * aW m c (ix3 0 k ⟨8224 + d.val, by have := d.isLt; omega⟩)

/-- The result array. -/
def G (c : Dev nD) : Buf (Elt Ideal) ((c : Thread nD τ).loc main_v1) := fun i =>
  el m c ⟨(i (0 : Fin 2)).val, (i (0 : Fin 2)).isLt⟩ ⟨(i (1 : Fin 2)).val, (i (1 : Fin 2)).isLt⟩

/-- One block of the result, at an element, in the input blocks. -/
theorem pay_ap (x0 : Vec Ideal S2080x2048 .bf16) (x1 : Vec Ideal S1x512x2048 .f32) (r : Fin 2080) (d : Fin 512) :
    out0_2 x0 x1 (ix2 r d) = ∑ k : Fin 2048, x0 (ix2 r k) * x1 (ix3 0 d k) := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_2
  rw [View.canon_unit_zero hz2]
  simp only [View.ld_unit_zero (S := S2080x2048) hz2, View.ld_unit_zero (S := S1x512x2048) hz3]
  pointwise [k0_pay1]

/-- The weights as the region finds them: the argument transposed. -/
theorem V_v0 (c : Dev nD) : V m c main_v0 = transpose S2x16416x2048 [0, 2, 1] (aW m c) transposes_S2x2048x16416_S2x16416x2048_0_2_1 := by
  show StableHlo.after hostOps0 (fun b => m (c, b)) (Proc.devRef .tc main_v0) = _
  after_results <;> rfl

theorem transpose_ap (w : Vec Ideal S2x2048x16416 .f32) (e : Fin 2) (g : Fin 16416) (k : Fin 2048) :
    transpose S2x16416x2048 [0, 2, 1] w transposes_S2x2048x16416_S2x16416x2048_0_2_1 (ix3 e g k) = w (ix3 e k g) := by
  pointwise

/-- Each window's block index or offset, decided over the points. -/
theorem idx_facts : ∀ t : Fin cfg0.N, win0_0.index t (0 : Fin 2) = win0_2.index t (0 : Fin 2) ∧ win0_0.index t (1 : Fin 2) = 0
    ∧ win0_1.index t (0 : Fin 3) = 0 ∧ win0_1.index t (1 : Fin 3) = 8224 + win0_2.index t (1 : Fin 2) * 512 ∧ win0_1.index t (2 : Fin 3) = 0 :=
  (by decide +kernel : ∀ t : Fin grid0.N, _)

theorem idx_onto : ∀ (q0 : Fin 4) (q1 : Fin 16), ∃ t : Fin cfg0.N, (cfg0.win 2).flush t = true ∧ win0_2.index t = ![q0.val, q1.val] :=
  (by decide +kernel : ∀ (q0 : Fin 4) (q1 : Fin 16), ∃ t : Fin grid0.N, win0_2.flush t = true ∧ win0_2.index t = ![q0.val, q1.val])

theorem ib0 (c : Dev nD) (t : Fin cfg0.N) (r : Fin 2080) (k : Fin 2048) (p : Fin 8320)
    (hp : p.val = win0_2.index t (0 : Fin 2) * 2080 + r.val) : iblk m c 0 t (ix2 r k) = aX m c (ix2 p k) := by
  obtain ⟨e0, e1, -⟩ := idx_facts t
  refine (congrArg (V m c main_arg0) (?_ : ((cfg0.win 0).blk t).view.emb (ix2 r k) = ix2 p k)).trans (congrFun (V_main_arg0 m c) (ix2 p k))
  funext (a : Fin 2)
  match a with
  | ⟨0, _⟩ => exact Fin.ext (by show win0_0.index t (0 : Fin 2) * 2080 + 1 * r.val = p.val; omega)
  | ⟨1, _⟩ => exact Fin.ext (by show win0_0.index t (1 : Fin 2) * 2048 + 1 * k.val = k.val; omega)

theorem ib1 (c : Dev nD) (t : Fin cfg0.N) (k : Fin 2048) (q : Fin 512) (g : Fin 16416)
    (hg : g.val = 8224 + (win0_2.index t (1 : Fin 2) * 512 + q.val)) : iblk m c 1 t (ix3 0 q k) = aW m c (ix3 0 k g) := by
  obtain ⟨-, -, e2, e3, e4⟩ := idx_facts t
  refine (congrArg (V m c main_v0) (?_ : ((cfg0.win 1).blk t).view.emb (ix3 0 q k) = ix3 0 g k)).trans ((congrFun (V_v0 m c) (ix3 0 g k)).trans (transpose_ap (aW m c) 0 g k))
  funext (a : Fin 3)
  match a with
  | ⟨0, _⟩ => exact Fin.ext (by show win0_1.index t (0 : Fin 3) + 1 * 0 = 0; omega)
  | ⟨1, _⟩ => exact Fin.ext (by show win0_1.index t (1 : Fin 3) + 1 * q.val = g.val; omega)
  | ⟨2, _⟩ => exact Fin.ext (by show win0_1.index t (2 : Fin 3) + 1 * k.val = k.val; omega)

theorem block_el (c : Dev nD) (t : Fin cfg0.N) (r : Fin 2080) (q : Fin 512) (p : Fin 8320) (d : Fin 8192)
    (hp : p.val = win0_2.index t (0 : Fin 2) * 2080 + r.val) (hd : d.val = win0_2.index t (1 : Fin 2) * 512 + q.val) :
    out0_2 (iblk m c 0 t) (iblk m c 1 t) (ix2 r q) = el m c p d := by
  refine (pay_ap _ _ r q).trans ?_
  unfold el
  refine Finset.sum_congr rfl fun k _ => ?_
  exact congrArg₂ (fun a b : EReal => a * b) (ib0 m c t r k p hp) (ib1 m c t k q ⟨8224 + d.val, by have := d.isLt; omega⟩ (by show 8224 + d.val = 8224 + (win0_2.index t (1 : Fin 2) * 512 + q.val); omega))

theorem flushed_eq (c : Dev nD) (t : Fin cfg0.N) : (dats m 0 c).flushed 2 t = ((cfg0.win 2).blk t).view.read (Elt Ideal) (G m c) := by
  rw [flushed2]
  funext (y : S2080x512.Idx)
  have hb0 : (((cfg0.win 2).blk t).view.emb y (0 : Fin 2)).val = win0_2.index t (0 : Fin 2) * 2080 + 1 * (y (0 : Fin 2)).val := rfl
  have hb1 : (((cfg0.win 2).blk t).view.emb y (1 : Fin 2)).val = win0_2.index t (1 : Fin 2) * 512 + 1 * (y (1 : Fin 2)).val := rfl
  have hy : (ix2 ⟨(y (0 : Fin 2)).val, (y (0 : Fin 2)).isLt⟩ ⟨(y (1 : Fin 2)).val, (y (1 : Fin 2)).isLt⟩ : S2080x512.Idx) = y := by
    funext a
    match a with
    | ⟨0, _⟩ => rfl
    | ⟨1, _⟩ => rfl
  refine (congrArg (out0_2 (iblk m c 0 t) (iblk m c 1 t)) hy.symm).trans ?_
  exact block_el m c t _ _ _ _ (by rw [hb0, Nat.one_mul]) (by rw [hb1, Nat.one_mul])

theorem cover (i : S8320x8192.Idx) : ∃ t : Fin cfg0.N, (cfg0.win 2).flush t = true ∧ i ∈ ((cfg0.win 2).blk t).view.set := by
  have h0 : (i (0 : Fin 2)).val < 8320 := (i (0 : Fin 2)).isLt
  have h1 : (i (1 : Fin 2)).val < 8192 := (i (1 : Fin 2)).isLt
  obtain ⟨t, hf, ht⟩ := idx_onto ⟨(i (0 : Fin 2)).val / 2080, by omega⟩ ⟨(i (1 : Fin 2)).val / 512, by omega⟩
  have q0 : win0_2.index t (0 : Fin 2) = (i (0 : Fin 2)).val / 2080 := congrFun ht 0
  have q1 : win0_2.index t (1 : Fin 2) = (i (1 : Fin 2)).val / 512 := congrFun ht 1
  refine ⟨t, hf, ?_⟩
  refine (ValueKit.mem_set_slice_whole_iff main_v1 (win0_2.rect t) i (Rect.mem_set_unit (s := S8320x8192))).2 ?_
  intro (a : Fin 2)
  match a with
  | ⟨0, _⟩ => show win0_2.index t (0 : Fin 2) * 2080 ≤ (i (0 : Fin 2)).val ∧ (i (0 : Fin 2)).val < win0_2.index t (0 : Fin 2) * 2080 + 2080; omega
  | ⟨1, _⟩ => show win0_2.index t (1 : Fin 2) * 512 ≤ (i (1 : Fin 2)).val ∧ (i (1 : Fin 2)).val < win0_2.index t (1 : Fin 2) * 512 + 512; omega

theorem final (c : Dev nD) : (dats m 0 c).arrAt 2 cfg0.N = G m c :=
  (dats m 0 c).arrAt_eq_of_cover 2 (G m c) (fun t _ => flushed_eq m c t) cover

end Cert.Kernel4Ideal.Mul

namespace Cert.Reference4Ideal.Mul

open Cert.Reference4Ideal Cert.Reference4Ideal.Gen Cert.Reference4Ideal.Read Idealize.ShloMosaic

/-- An element of the reference's result. -/
theorem ref_ap (x0 : FVec Ideal S8320x2048 .bf16) (x1 : FVec Ideal S2x2048x16416 .f32) (p : Fin 8320) (d : Fin 8192) :
    val_main_v5 (F := Ideal) x0 x1 (ix2 p d) = ∑ k : Fin 2048, x0 (ix2 p k) * x1 (ix3 0 k ⟨8224 + d.val, by have := d.isLt; omega⟩) := by
  pointwise [val_main_v5, val_main_v4, val_main_v3, val_main_v2, val_main_v1, val_main_v0]

end Cert.Reference4Ideal.Mul

namespace Cert.Proof

open Idealize.ShloMosaic Idealize.ShloMosaic.TcCoe Idealize.SL.Sem

theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.Kernel4Ideal.Mul.G m c, ?_, ?_⟩
  · exact (θ_run (Cert.Kernel4Ideal.defs (F := Ideal)) _ _).mono (fun r h c => ⟨(h c).1.trans (Cert.Kernel4Ideal.Mul.final m c), (h c).2⟩)
      (Cert.Kernel4Ideal.Value.run_blocks (F := Ideal) m g)
  · refine (θ_run (Cert.Reference4Ideal.defs (F := Ideal)) _ _).mono (fun r h c => ⟨?_, (h c).2⟩) (Cert.Reference4Ideal.Value.run (F := Ideal) m' g')
    obtain ⟨a0, a1⟩ := hargs c
    refine (h c).1.trans ?_
    rw [a0, a1]
    funext (i : Cert.Reference4Ideal.S8320x8192.Idx)
    refine Eq.trans ?_ (Cert.Reference4Ideal.Mul.ref_ap _ _ ⟨(i (0 : Fin 2)).val, (i (0 : Fin 2)).isLt⟩ ⟨(i (1 : Fin 2)).val, (i (1 : Fin 2)).isLt⟩)
    refine (congrFun (Cert.Reference4Ideal.Read.val_main_v5_eq (F := Ideal) _ _) i).trans (congrArg _ ?_)
    funext a
    match a with
    | ⟨0, _⟩ => rfl
    | ⟨1, _⟩ => rfl

end Cert.Proof

end
-- ==== Proof.FinalNorm.lean ====
/- The final normalisation: the kernel's result is the normalised sum of the two streams, element by element, and so is the reference's. -/
module

public import proofs.«01_k».proof.Defs
public import proofs.«01_k».proof.Proof.Gen.Kernel5Ideal.Value
public import proofs.«01_k».proof.Proof.Gen.Reference5Ideal.Read
public import Idealize.ShloMosaic.Lib.Pointwise
public import Idealize.ShloMosaic.Lib.Pipeline.ValueKit.Geometry

@[expose] public section

set_option maxRecDepth 16384

noncomputable section

namespace Cert.Kernel5Ideal.Norm

open Cert.Kernel5Ideal Cert.Kernel5Ideal.Gen Cert.Kernel5Ideal.Value
open Idealize.ShloMosaic Idealize.ShloMosaic.TcCoe Idealize.SL.Sem
open Idealize.ShloMosaic.Pipeline (Dat)

variable (m : (ℓ : Loc nD τ sig) → Buf (Elt Ideal) ℓ)

abbrev aX (c : Dev nD) : Vec Ideal S2x4160x2048 .f32 := m ((c.tc : Thread nD τ).loc main_arg0)
abbrev aY (c : Dev nD) : Vec Ideal S2x4160x2048 .f32 := m ((c.tc : Thread nD τ).loc main_arg1)
abbrev aW (c : Dev nD) : Vec Ideal S2048 .f32 := m ((c.tc : Thread nD τ).loc main_arg2)

/-- A row normalised by its root mean square and scaled, at an element. -/
def rms (h : Fin 2048 → EReal) (w : EReal) (d : Fin 2048) : EReal :=
  h d * Ideal.rsqrt (Ideal.div (∑ k : Fin 2048, h k * h k) (Ideal.ofBits .f32 0x45000000#32) + Ideal.ofBits .f32 0x358637BD#32) * w

/-- An element of the result. -/
def el (c : Dev nD) (b : Fin 2) (p : Fin 4096) (d : Fin 2048) : EReal :=
  rms (fun k => aX m c (ix3 b ⟨64 + p.val, by have := p.isLt; omega⟩ k) + aY m c (ix3 b ⟨64 + p.val, by have := p.isLt; omega⟩ k)) (aW m c (ix1 d)) d

/-- The result array. -/
def G (c : Dev nD) : Buf (Elt Ideal) ((c : Thread nD τ).loc main_v1) := fun i =>
  el m c ⟨(i (0 : Fin 3)).val, (i (0 : Fin 3)).isLt⟩ ⟨(i (1 : Fin 3)).val, (i (1 : Fin 3)).isLt⟩ ⟨(i (2 : Fin 3)).val, (i (2 : Fin 3)).isLt⟩

/-- One block of the result, at an element, in the input blocks. -/
theorem pay_ap (x0 x1 : Vec Ideal S1x512x2048 .f32) (x2 : Vec Ideal S1x2048 .f32) (r : Fin 512) (d : Fin 2048) :
    out0_3 x0 x1 x2 (ix3 0 r d) = rms (fun k => x0 (ix3 0 r k) + x1 (ix3 0 r k)) (x2 (ix2 0 d)) d := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_3 rms
  rw [View.canon_unit_zero hz3]
  simp only [View.ld_unit_zero (S := S1x512x2048) hz3, View.ld_unit_zero (S := S1x2048) hz2]
  pointwise [k0_pay1]

/-- The scale as the region finds it: the argument with a unit axis. -/
theorem V_v0 (c : Dev nD) : V m c main_v0 = shapeCast S1x2048 (aW m c) shapeCasts_S2048_S1x2048 := by
  show StableHlo.after hostOps0 (fun b => m (c, b)) (Proc.devRef .tc main_v0) = _
  after_results <;> rfl

theorem cast_ap (w : Vec Ideal S2048 .f32) (d : Fin 2048) : shapeCast S1x2048 w shapeCasts_S2048_S1x2048 (ix2 0 d) = w (ix1 d) := by
  pointwise

/-- Each window's block index or offset, decided over the points. -/
theorem idx_facts : ∀ t : Fin cfg0.N, win0_0.index t (0 : Fin 3) = win0_3.index t (0 : Fin 3) ∧ win0_0.index t (1 : Fin 3) = 64 + win0_3.index t (1 : Fin 3) * 512 ∧ win0_0.index t (2 : Fin 3) = 0
    ∧ win0_1.index t (0 : Fin 3) = win0_3.index t (0 : Fin 3) ∧ win0_1.index t (1 : Fin 3) = 64 + win0_3.index t (1 : Fin 3) * 512 ∧ win0_1.index t (2 : Fin 3) = 0
    ∧ win0_2.index t (0 : Fin 2) = 0 ∧ win0_2.index t (1 : Fin 2) = 0 ∧ win0_3.index t (2 : Fin 3) = 0 :=
  (by decide +kernel : ∀ t : Fin grid0.N, _)

theorem idx_onto : ∀ (q0 : Fin 2) (q1 : Fin 8), ∃ t : Fin cfg0.N, (cfg0.win 3).flush t = true ∧ win0_3.index t = ![q0.val, q1.val, 0] :=
  (by decide +kernel : ∀ (q0 : Fin 2) (q1 : Fin 8), ∃ t : Fin grid0.N, win0_3.flush t = true ∧ win0_3.index t = ![q0.val, q1.val, 0])

theorem ib0 (c : Dev nD) (t : Fin cfg0.N) (r : Fin 512) (k : Fin 2048) (b : Fin 2) (p : Fin 4160)
    (hb : b.val = win0_3.index t (0 : Fin 3)) (hp : p.val = 64 + (win0_3.index t (1 : Fin 3) * 512 + r.val)) :
    iblk m c 0 t (ix3 0 r k) = aX m c (ix3 b p k) := by
  obtain ⟨e0, e1, e2, -⟩ := idx_facts t
  refine (congrArg (V m c main_arg0) (?_ : ((cfg0.win 0).blk t).view.emb (ix3 0 r k) = ix3 b p k)).trans (congrFun (V_main_arg0 m c) (ix3 b p k))
  funext (a : Fin 3)
  match a with
  | ⟨0, _⟩ => exact Fin.ext (by show win0_0.index t (0 : Fin 3) + 1 * 0 = b.val; omega)
  | ⟨1, _⟩ => exact Fin.ext (by show win0_0.index t (1 : Fin 3) + 1 * r.val = p.val; omega)
  | ⟨2, _⟩ => exact Fin.ext (by show win0_0.index t (2 : Fin 3) + 1 * k.val = k.val; omega)

theorem ib1 (c : Dev nD) (t : Fin cfg0.N) (r : Fin 512) (k : Fin 2048) (b : Fin 2) (p : Fin 4160)
    (hb : b.val = win0_3.index t (0 : Fin 3)) (hp : p.val = 64 + (win0_3.index t (1 : Fin 3) * 512 + r.val)) :
    iblk m c 1 t (ix3 0 r k) = aY m c (ix3 b p k) := by
  obtain ⟨-, -, -, e0, e1, e2, -⟩ := idx_facts t
  refine (congrArg (V m c main_arg1) (?_ : ((cfg0.win 1).blk t).view.emb (ix3 0 r k) = ix3 b p k)).trans (congrFun (V_main_arg1 m c) (ix3 b p k))
  funext (a : Fin 3)
  match a with
  | ⟨0, _⟩ => exact Fin.ext (by show win0_1.index t (0 : Fin 3) + 1 * 0 = b.val; omega)
  | ⟨1, _⟩ => exact Fin.ext (by show win0_1.index t (1 : Fin 3) + 1 * r.val = p.val; omega)
  | ⟨2, _⟩ => exact Fin.ext (by show win0_1.index t (2 : Fin 3) + 1 * k.val = k.val; omega)

theorem ib2 (c : Dev nD) (t : Fin cfg0.N) (d : Fin 2048) : iblk m c 2 t (ix2 0 d) = aW m c (ix1 d) := by
  obtain ⟨-, -, -, -, -, -, e0, e1, -⟩ := idx_facts t
  refine (congrArg (V m c main_v0) (?_ : ((cfg0.win 2).blk t).view.emb (ix2 0 d) = ix2 0 d)).trans ((congrFun (V_v0 m c) (ix2 0 d)).trans (cast_ap (aW m c) d))
  funext (a : Fin 2)
  match a with
  | ⟨0, _⟩ => exact Fin.ext (by show win0_2.index t (0 : Fin 2) * 1 + 1 * 0 = 0; omega)
  | ⟨1, _⟩ => exact Fin.ext (by show win0_2.index t (1 : Fin 2) * 2048 + 1 * d.val = d.val; omega)

theorem block_el (c : Dev nD) (t : Fin cfg0.N) (r : Fin 512) (q : Fin 2048) (b : Fin 2) (p : Fin 4096) (d : Fin 2048)
    (hb : b.val = win0_3.index t (0 : Fin 3)) (hp : p.val = win0_3.index t (1 : Fin 3) * 512 + r.val) (hd : d = q) :
    out0_3 (iblk m c 0 t) (iblk m c 1 t) (iblk m c 2 t) (ix3 0 r q) = el m c b p d := by
  subst hd
  refine (pay_ap _ _ _ r d).trans ?_
  unfold el
  refine congrArg₂ (fun h w => rms h w d) (funext fun k => ?_) (ib2 m c t d)
  exact congrArg₂ (fun a b : EReal => a + b) (ib0 m c t r k b ⟨64 + p.val, by have := p.isLt; omega⟩ hb (by show 64 + p.val = _; rw [hp])) (ib1 m c t r k b ⟨64 + p.val, by have := p.isLt; omega⟩ hb (by show 64 + p.val = _; rw [hp]))

theorem flushed_eq (c : Dev nD) (t : Fin cfg0.N) : (dats m 0 c).flushed 3 t = ((cfg0.win 3).blk t).view.read (Elt Ideal) (G m c) := by
  rw [flushed3]
  funext (y : S1x512x2048.Idx)
  have hy0 : (y (0 : Fin 3)).val < 1 := (y (0 : Fin 3)).isLt
  obtain ⟨-, -, -, -, -, -, -, -, e2⟩ := idx_facts t
  have hb0 : (((cfg0.win 3).blk t).view.emb y (0 : Fin 3)).val = win0_3.index t (0 : Fin 3) * 1 + 1 * (y (0 : Fin 3)).val := rfl
  have hb1 : (((cfg0.win 3).blk t).view.emb y (1 : Fin 3)).val = win0_3.index t (1 : Fin 3) * 512 + 1 * (y (1 : Fin 3)).val := rfl
  have hb2 : (((cfg0.win 3).blk t).view.emb y (2 : Fin 3)).val = win0_3.index t (2 : Fin 3) * 2048 + 1 * (y (2 : Fin 3)).val := rfl
  have hy : (ix3 0 ⟨(y (1 : Fin 3)).val, (y (1 : Fin 3)).isLt⟩ ⟨(y (2 : Fin 3)).val, (y (2 : Fin 3)).isLt⟩ : S1x512x2048.Idx) = y := by
    funext a
    match a with
    | ⟨0, _⟩ => exact Fin.ext (by show 0 = (y (0 : Fin 3)).val; omega)
    | ⟨1, _⟩ => rfl
    | ⟨2, _⟩ => rfl
  refine (congrArg (out0_3 (iblk m c 0 t) (iblk m c 1 t) (iblk m c 2 t)) hy.symm).trans ?_
  exact block_el m c t _ _ _ _ _ (by rw [hb0]; omega) (by rw [hb1, Nat.one_mul]) (Fin.ext (by rw [hb2]; show _ = (y (2 : Fin 3)).val; omega))

theorem cover (i : S2x4096x2048.Idx) : ∃ t : Fin cfg0.N, (cfg0.win 3).flush t = true ∧ i ∈ ((cfg0.win 3).blk t).view.set := by
  have h0 : (i (0 : Fin 3)).val < 2 := (i (0 : Fin 3)).isLt
  have h1 : (i (1 : Fin 3)).val < 4096 := (i (1 : Fin 3)).isLt
  have h2 : (i (2 : Fin 3)).val < 2048 := (i (2 : Fin 3)).isLt
  obtain ⟨t, hf, ht⟩ := idx_onto ⟨(i (0 : Fin 3)).val, by omega⟩ ⟨(i (1 : Fin 3)).val / 512, by omega⟩
  have q0 : win0_3.index t (0 : Fin 3) = (i (0 : Fin 3)).val := congrFun ht 0
  have q1 : win0_3.index t (1 : Fin 3) = (i (1 : Fin 3)).val / 512 := congrFun ht 1
  have q2 : win0_3.index t (2 : Fin 3) = 0 := congrFun ht 2
  refine ⟨t, hf, ?_⟩
  refine (ValueKit.mem_set_slice_whole_iff main_v1 (win0_3.rect t) i (Rect.mem_set_unit (s := S2x4096x2048))).2 ?_
  intro (a : Fin 3)
  match a with
  | ⟨0, _⟩ => show win0_3.index t (0 : Fin 3) * 1 ≤ (i (0 : Fin 3)).val ∧ (i (0 : Fin 3)).val < win0_3.index t (0 : Fin 3) * 1 + 1; omega
  | ⟨1, _⟩ => show win0_3.index t (1 : Fin 3) * 512 ≤ (i (1 : Fin 3)).val ∧ (i (1 : Fin 3)).val < win0_3.index t (1 : Fin 3) * 512 + 512; omega
  | ⟨2, _⟩ => show win0_3.index t (2 : Fin 3) * 2048 ≤ (i (2 : Fin 3)).val ∧ (i (2 : Fin 3)).val < win0_3.index t (2 : Fin 3) * 2048 + 2048; omega

theorem final (c : Dev nD) : (dats m 0 c).arrAt 3 cfg0.N = G m c :=
  (dats m 0 c).arrAt_eq_of_cover 3 (G m c) (fun t _ => flushed_eq m c t) cover

end Cert.Kernel5Ideal.Norm

namespace Cert.Reference5Ideal.Norm

open Cert.Reference5Ideal Cert.Reference5Ideal.Gen Cert.Reference5Ideal.Read Idealize.ShloMosaic

variable (x0 x1 : FVec Ideal S2x4160x2048 .f32) (x2 : FVec Ideal S2048 .f32)

/-- A row normalised by its root mean square and scaled, at an element. -/
def rms (h : Fin 2048 → EReal) (w : EReal) (d : Fin 2048) : EReal :=
  h d * Ideal.rsqrt (Ideal.div (∑ k : Fin 2048, h k * h k) (Ideal.ofBits .f32 0x45000000#32) + Ideal.ofBits .f32 0x358637BD#32) * w

/-- An element of the reference's result. -/
theorem ref_ap (b : Fin 2) (p : Fin 4096) (d : Fin 2048) :
    val_main_v14 (F := Ideal) x0 x1 x2 (ix3 b p d)
      = rms (fun k => x0 (ix3 b ⟨64 + p.val, by have := p.isLt; omega⟩ k) + x1 (ix3 b ⟨64 + p.val, by have := p.isLt; omega⟩ k)) (x2 (ix1 d)) d := by
  unfold rms
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

end Cert.Reference5Ideal.Norm

namespace Cert.Proof

open Idealize.ShloMosaic Idealize.ShloMosaic.TcCoe Idealize.SL.Sem

theorem algebraic5 : Cert.algebraic_Kernel5Ideal_Reference5Ideal (hKernel5Ideal := Cert.Kernel5Ideal.Gen.facts)
    (hReference5Ideal := Cert.Reference5Ideal.Gen.facts) := by
  intro m g m' g' _ hargs
  refine ⟨fun c => Cert.Kernel5Ideal.Norm.G m c, ?_, ?_⟩
  · exact (θ_run (Cert.Kernel5Ideal.defs (F := Ideal)) _ _).mono (fun r h c => ⟨(h c).1.trans (Cert.Kernel5Ideal.Norm.final m c), (h c).2⟩)
      (Cert.Kernel5Ideal.Value.run_blocks (F := Ideal) m g)
  · refine (θ_run (Cert.Reference5Ideal.defs (F := Ideal)) _ _).mono (fun r h c => ⟨?_, (h c).2⟩) (Cert.Reference5Ideal.Value.run (F := Ideal) m' g')
    obtain ⟨a0, a1, a2⟩ := hargs c
    refine (h c).1.trans ?_
    rw [a0, a1, a2]
    funext (i : Cert.Reference5Ideal.S2x4096x2048.Idx)
    refine Eq.trans ?_ (Cert.Reference5Ideal.Norm.ref_ap _ _ _ ⟨(i (0 : Fin 3)).val, (i (0 : Fin 3)).isLt⟩ ⟨(i (1 : Fin 3)).val, (i (1 : Fin 3)).isLt⟩ ⟨(i (2 : Fin 3)).val, (i (2 : Fin 3)).isLt⟩)
    refine (congrFun (Cert.Reference5Ideal.Read.val_main_v14_eq (F := Ideal) _ _ _) i).trans (congrArg _ ?_)
    funext a
    match a with
    | ⟨0, _⟩ => rfl
    | ⟨1, _⟩ => rfl
    | ⟨2, _⟩ => rfl

end Cert.Proof

end
-- ==== Proof.Branches.lean ====
/- The branches: the kernel's result is the two gated products' sum, element by element, and so is the reference's. -/
module

public import proofs.«01_k».proof.Defs
public import proofs.«01_k».proof.Proof.Gen.Kernel6Ideal.Value
public import proofs.«01_k».proof.Proof.Gen.Reference6Ideal.Read
public import proofs.«01_k».proof.Proof.Sigmoid
public import Idealize.ShloMosaic.Lib.Pointwise
public import Idealize.ShloMosaic.Lib.Pipeline.ValueKit.Geometry

@[expose] public section

set_option maxRecDepth 16384

noncomputable section

namespace Cert.Kernel6Ideal.Mul

open Cert.Kernel6Ideal Cert.Kernel6Ideal.Gen Cert.Kernel6Ideal.Value
open Idealize.ShloMosaic Idealize.ShloMosaic.TcCoe Idealize.SL.Sem
open Idealize.ShloMosaic.Pipeline (Dat)

variable (m : (ℓ : Loc nD τ sig) → Buf (Elt Ideal) ℓ)

abbrev aD (c : Dev nD) : Vec Ideal S8320x2048 .bf16 := m ((c.tc : Thread nD τ).loc main_arg0)
abbrev aC (c : Dev nD) : Vec Ideal S8320x2048 .bf16 := m ((c.tc : Thread nD τ).loc main_arg1)
abbrev aWd (c : Dev nD) : Vec Ideal S2x2048x2048 .f32 := m ((c.tc : Thread nD τ).loc main_arg2)
abbrev aWc (c : Dev nD) : Vec Ideal S2x2048x2048 .f32 := m ((c.tc : Thread nD τ).loc main_arg3)
abbrev aT (c : Dev nD) : Vec Ideal S8320x8192 .bf16 := m ((c.tc : Thread nD τ).loc main_arg4)

/-- The logistic function as the kernel computes it. -/
def sg (h : EReal) : EReal :=
  Ideal.ofBits .f32 0x3F000000#32 * Ideal.tanh (Ideal.ofBits .f32 0x3F000000#32 * h) + Ideal.ofBits .f32 0x3F000000#32

/-- An element of the result. -/
def el (c : Dev nD) (p : Fin 8320) (d : Fin 2048) : EReal :=
  sg (aT m c (ix2 p ⟨4096 + d.val, by have := d.isLt; omega⟩)) * (∑ k : Fin 2048, aD m c (ix2 p k) * aWd m c (ix3 0 k d))
    + sg (aT m c (ix2 p ⟨6144 + d.val, by have := d.isLt; omega⟩)) * (∑ k : Fin 2048, aC m c (ix2 p k) * aWc m c (ix3 0 k d))

/-- The result array. -/
def G (c : Dev nD) : Buf (Elt Ideal) ((c : Thread nD τ).loc main_v0) := fun i =>
  el m c ⟨(i (0 : Fin 2)).val, (i (0 : Fin 2)).isLt⟩ ⟨(i (1 : Fin 2)).val, (i (1 : Fin 2)).isLt⟩

/-- One block of the result, at an element, in the input blocks. -/
theorem pay_ap (x0 x1 : Vec Ideal S1040x2048 .bf16) (x2 x3 : Vec Ideal S1x2048x512 .f32) (x4 x5 : Vec Ideal S1040x512 .bf16) (r : Fin 1040) (d : Fin 512) :
    out0_6 x0 x1 x2 x3 x4 x5 (ix2 r d) = sg (x4 (ix2 r d)) * (∑ k : Fin 2048, x0 (ix2 r k) * x2 (ix3 0 k d))
      + sg (x5 (ix2 r d)) * (∑ k : Fin 2048, x1 (ix2 r k) * x3 (ix3 0 k d)) := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_6 sg
  rw [View.canon_unit_zero hz2]
  simp only [View.ld_unit_zero (S := S1040x2048) hz2, View.ld_unit_zero (S := S1x2048x512) hz3, View.ld_unit_zero (S := S1040x512) hz2]
  pointwise [k0_pay1]

/-- Each window's block index, decided over the points. -/
theorem idx_facts : ∀ t : Fin cfg0.N, win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 3) = 0 ∧ win0_2.index t (1 : Fin 3) = 0 ∧ win0_2.index t (2 : Fin 3) = win0_6.index t (1 : Fin 2)
    ∧ win0_3.index t (0 : Fin 3) = 0 ∧ win0_3.index t (1 : Fin 3) = 0 ∧ win0_3.index t (2 : Fin 3) = win0_6.index t (1 : Fin 2)
    ∧ win0_4.index t (0 : Fin 2) = win0_6.index t (0 : Fin 2) ∧ win0_4.index t (1 : Fin 2) = 8 + win0_6.index t (1 : Fin 2)
    ∧ win0_5.index t (0 : Fin 2) = win0_6.index t (0 : Fin 2) ∧ win0_5.index t (1 : Fin 2) = 12 + win0_6.index t (1 : Fin 2) :=
  (by decide +kernel : ∀ t : Fin grid0.N, _)

theorem idx_onto : ∀ (q0 : Fin 8) (q1 : Fin 4), ∃ t : Fin cfg0.N, (cfg0.win 6).flush t = true ∧ win0_6.index t = ![q0.val, q1.val] :=
  (by decide +kernel : ∀ (q0 : Fin 8) (q1 : Fin 4), ∃ t : Fin grid0.N, win0_6.flush t = true ∧ win0_6.index t = ![q0.val, q1.val])

theorem ib0 (c : Dev nD) (t : Fin cfg0.N) (r : Fin 1040) (k : Fin 2048) (p : Fin 8320)
    (hp : p.val = win0_6.index t (0 : Fin 2) * 1040 + r.val) : iblk m c 0 t (ix2 r k) = aD m c (ix2 p k) := by
  obtain ⟨e0, e1, -⟩ := idx_facts t
  refine congrArg (aD m c) (funext fun (a : Fin 2) => ?_)
  match a with
  | ⟨0, _⟩ => exact Fin.ext (by show win0_0.index t (0 : Fin 2) * 1040 + 1 * r.val = p.val; omega)
  | ⟨1, _⟩ => exact Fin.ext (by show win0_0.index t (1 : Fin 2) * 2048 + 1 * k.val = k.val; omega)

theorem ib1 (c : Dev nD) (t : Fin cfg0.N) (r : Fin 1040) (k : Fin 2048) (p : Fin 8320)
    (hp : p.val = win0_6.index t (0 : Fin 2) * 1040 + r.val) : iblk m c 1 t (ix2 r k) = aC m c (ix2 p k) := by
  obtain ⟨-, -, e0, e1, -⟩ := idx_facts t
  refine congrArg (aC m c) (funext fun (a : Fin 2) => ?_)
  match a with
  | ⟨0, _⟩ => exact Fin.ext (by show win0_1.index t (0 : Fin 2) * 1040 + 1 * r.val = p.val; omega)
  | ⟨1, _⟩ => exact Fin.ext (by show win0_1.index t (1 : Fin 2) * 2048 + 1 * k.val = k.val; omega)

theorem ib2 (c : Dev nD) (t : Fin cfg0.N) (k : Fin 2048) (q : Fin 512) (d : Fin 2048)
    (hd : d.val = win0_6.index t (1 : Fin 2) * 512 + q.val) : iblk m c 2 t (ix3 0 k q) = aWd m c (ix3 0 k d) := by
  obtain ⟨-, -, -, -, e2, e3, e4, -⟩ := idx_facts t
  refine congrArg (aWd m c) (funext fun (a : Fin 3) => ?_)
  match a with
  | ⟨0, _⟩ => exact Fin.ext (by show win0_2.index t (0 : Fin 3) * 1 + 1 * 0 = 0; omega)
  | ⟨1, _⟩ => exact Fin.ext (by show win0_2.index t (1 : Fin 3) * 2048 + 1 * k.val = k.val; omega)
  | ⟨2, _⟩ => exact Fin.ext (by show win0_2.index t (2 : Fin 3) * 512 + 1 * q.val = d.val; omega)

theorem ib3 (c : Dev nD) (t : Fin cfg0.N) (k : Fin 2048) (q : Fin 512) (d : Fin 2048)
    (hd : d.val = win0_6.index t (1 : Fin 2) * 512 + q.val) : iblk m c 3 t (ix3 0 k q) = aWc m c (ix3 0 k d) := by
  obtain ⟨-, -, -, -, -, -, -, e2, e3, e4, -⟩ := idx_facts t
  refine congrArg (aWc m c) (funext fun (a : Fin 3) => ?_)
  match a with
  | ⟨0, _⟩ => exact Fin.ext (by show win0_3.index t (0 : Fin 3) * 1 + 1 * 0 = 0; omega)
  | ⟨1, _⟩ => exact Fin.ext (by show win0_3.index t (1 : Fin 3) * 2048 + 1 * k.val = k.val; omega)
  | ⟨2, _⟩ => exact Fin.ext (by show win0_3.index t (2 : Fin 3) * 512 + 1 * q.val = d.val; omega)

theorem ib4 (c : Dev nD) (t : Fin cfg0.N) (r : Fin 1040) (q : Fin 512) (p : Fin 8320) (d : Fin 8192)
    (hp : p.val = win0_6.index t (0 : Fin 2) * 1040 + r.val) (hd : d.val = 4096 + (win0_6.index t (1 : Fin 2) * 512 + q.val)) :
    iblk m c 4 t (ix2 r q) = aT m c (ix2 p d) := by
  obtain ⟨-, -, -, -, -, -, -, -, -, -, e5, e6, -⟩ := idx_facts t
  refine congrArg (aT m c) (funext fun (a : Fin 2) => ?_)
  match a with
  | ⟨0, _⟩ => exact Fin.ext (by show win0_4.index t (0 : Fin 2) * 1040 + 1 * r.val = p.val; omega)
  | ⟨1, _⟩ => exact Fin.ext (by show win0_4.index t (1 : Fin 2) * 512 + 1 * q.val = d.val; omega)

theorem ib5 (c : Dev nD) (t : Fin cfg0.N) (r : Fin 1040) (q : Fin 512) (p : Fin 8320) (d : Fin 8192)
    (hp : p.val = win0_6.index t (0 : Fin 2) * 1040 + r.val) (hd : d.val = 6144 + (win0_6.index t (1 : Fin 2) * 512 + q.val)) :
    iblk m c 5 t (ix2 r q) = aT m c (ix2 p d) := by
  obtain ⟨-, -, -, -, -, -, -, -, -, -, -, -, e5, e6⟩ := idx_facts t
  refine congrArg (aT m c) (funext fun (a : Fin 2) => ?_)
  match a with
  | ⟨0, _⟩ => exact Fin.ext (by show win0_5.index t (0 : Fin 2) * 1040 + 1 * r.val = p.val; omega)
  | ⟨1, _⟩ => exact Fin.ext (by show win0_5.index t (1 : Fin 2) * 512 + 1 * q.val = d.val; omega)

theorem block_el (c : Dev nD) (t : Fin cfg0.N) (r : Fin 1040) (q : Fin 512) (p : Fin 8320) (d : Fin 2048)
    (hp : p.val = win0_6.index t (0 : Fin 2) * 1040 + r.val) (hd : d.val = win0_6.index t (1 : Fin 2) * 512 + q.val) :
    out0_6 (iblk m c 0 t) (iblk m c 1 t) (iblk m c 2 t) (iblk m c 3 t) (iblk m c 4 t) (iblk m c 5 t) (ix2 r q) = el m c p d := by
  refine (pay_ap _ _ _ _ _ _ r q).trans ?_
  unfold el
  refine congrArg₂ (fun a b : EReal => a + b) (congrArg₂ (fun a b : EReal => sg a * b) (ib4 m c t r q p ⟨4096 + d.val, by have := d.isLt; omega⟩ hp (by show 4096 + d.val = _; rw [hd])) (Finset.sum_congr rfl fun k _ => ?_))
    (congrArg₂ (fun a b : EReal => sg a * b) (ib5 m c t r q p ⟨6144 + d.val, by have := d.isLt; omega⟩ hp (by show 6144 + d.val = _; rw [hd])) (Finset.sum_congr rfl fun k _ => ?_))
  · exact congrArg₂ (fun a b : EReal => a * b) (ib0 m c t r k p hp) (ib2 m c t k q d hd)
  · exact congrArg₂ (fun a b : EReal => a * b) (ib1 m c t r k p hp) (ib3 m c t k q d hd)

theorem flushed_eq (c : Dev nD) (t : Fin cfg0.N) : (dats m 0 c).flushed 6 t = ((cfg0.win 6).blk t).view.read (Elt Ideal) (G m c) := by
  rw [flushed6]
  funext (y : S1040x512.Idx)
  have hb0 : (((cfg0.win 6).blk t).view.emb y (0 : Fin 2)).val = win0_6.index t (0 : Fin 2) * 1040 + 1 * (y (0 : Fin 2)).val := rfl
  have hb1 : (((cfg0.win 6).blk t).view.emb y (1 : Fin 2)).val = win0_6.index t (1 : Fin 2) * 512 + 1 * (y (1 : Fin 2)).val := rfl
  have hy : (ix2 ⟨(y (0 : Fin 2)).val, (y (0 : Fin 2)).isLt⟩ ⟨(y (1 : Fin 2)).val, (y (1 : Fin 2)).isLt⟩ : S1040x512.Idx) = y := by
    funext a
    match a with
    | ⟨0, _⟩ => rfl
    | ⟨1, _⟩ => rfl
  refine (congrArg (out0_6 (iblk m c 0 t) (iblk m c 1 t) (iblk m c 2 t) (iblk m c 3 t) (iblk m c 4 t) (iblk m c 5 t)) hy.symm).trans ?_
  exact block_el m c t _ _ _ _ (by rw [hb0, Nat.one_mul]) (by rw [hb1, Nat.one_mul])

theorem cover (i : S8320x2048.Idx) : ∃ t : Fin cfg0.N, (cfg0.win 6).flush t = true ∧ i ∈ ((cfg0.win 6).blk t).view.set := by
  have h0 : (i (0 : Fin 2)).val < 8320 := (i (0 : Fin 2)).isLt
  have h1 : (i (1 : Fin 2)).val < 2048 := (i (1 : Fin 2)).isLt
  obtain ⟨t, hf, ht⟩ := idx_onto ⟨(i (0 : Fin 2)).val / 1040, by omega⟩ ⟨(i (1 : Fin 2)).val / 512, by omega⟩
  have q0 : win0_6.index t (0 : Fin 2) = (i (0 : Fin 2)).val / 1040 := congrFun ht 0
  have q1 : win0_6.index t (1 : Fin 2) = (i (1 : Fin 2)).val / 512 := congrFun ht 1
  refine ⟨t, hf, ?_⟩
  refine (ValueKit.mem_set_slice_whole_iff main_v0 (win0_6.rect t) i (Rect.mem_set_unit (s := S8320x2048))).2 ?_
  intro (a : Fin 2)
  match a with
  | ⟨0, _⟩ => show win0_6.index t (0 : Fin 2) * 1040 ≤ (i (0 : Fin 2)).val ∧ (i (0 : Fin 2)).val < win0_6.index t (0 : Fin 2) * 1040 + 1040; omega
  | ⟨1, _⟩ => show win0_6.index t (1 : Fin 2) * 512 ≤ (i (1 : Fin 2)).val ∧ (i (1 : Fin 2)).val < win0_6.index t (1 : Fin 2) * 512 + 512; omega

theorem final (c : Dev nD) : (dats m 0 c).arrAt 6 cfg0.N = G m c :=
  (dats m 0 c).arrAt_eq_of_cover 6 (G m c) (fun t _ => flushed_eq m c t) cover

end Cert.Kernel6Ideal.Mul

namespace Cert.Reference6Ideal.Mul

open Cert.Reference6Ideal Cert.Reference6Ideal.Gen Cert.Reference6Ideal.Read Idealize.ShloMosaic

/-- The logistic function as the reference computes it. -/
def sgR (h : EReal) : EReal := Ideal.div 1 (1 + Ideal.exp (-h))

/-- The reference's gates. -/
theorem gates_ap (x4 : FVec Ideal S8320x8192 .bf16) (i : S8320x4096.Idx) :
    val_main_v7 (F := Ideal) x4 i = sgR (val_main_v1 (F := Ideal) x4 i) := by
  unfold sgR
  pointwise [val_main_v7, val_main_v6, val_main_v5, val_main_v4, val_main_v3, val_main_v2, val_main_cst, val_main_cst_0]

/-- An element of the reference's result. -/
theorem ref_ap (x0 x1 : FVec Ideal S8320x2048 .bf16) (x2 x3 : FVec Ideal S2x2048x2048 .f32) (x4 : FVec Ideal S8320x8192 .bf16) (p : Fin 8320) (d : Fin 2048) :
    val_main_v21 (F := Ideal) x0 x1 x2 x3 x4 (ix2 p d)
      = sgR (x4 (ix2 p ⟨4096 + d.val, by have := d.isLt; omega⟩)) * (∑ k : Fin 2048, x0 (ix2 p k) * x2 (ix3 0 k d))
        + sgR (x4 (ix2 p ⟨6144 + d.val, by have := d.isLt; omega⟩)) * (∑ k : Fin 2048, x1 (ix2 p k) * x3 (ix3 0 k d)) := by
  have e0 : val_main_v1 (F := Ideal) x4 (ix2 p ⟨d.val, by have := d.isLt; omega⟩) = x4 (ix2 p ⟨4096 + d.val, by have := d.isLt; omega⟩) := by
    pointwise [val_main_v1, val_main_v0]
  have e1 : val_main_v1 (F := Ideal) x4 (ix2 p ⟨2048 + d.val, by have := d.isLt; omega⟩) = x4 (ix2 p ⟨6144 + d.val, by have := d.isLt; omega⟩) := by
    pointwise [val_main_v1, val_main_v0]
    exact congrArg (fun z : Fin 8192 => x4 (ix2 p z)) (Fin.ext (by show 4096 + (2048 + d.val) = 6144 + d.val; omega))
  have h0 : val_main_v8 (F := Ideal) x4 (ix2 p d) = sgR (x4 (ix2 p ⟨4096 + d.val, by have := d.isLt; omega⟩)) := by
    rw [← e0, ← gates_ap]
    pointwise [val_main_v8]
  have h1 : val_main_v14 (F := Ideal) x4 (ix2 p d) = sgR (x4 (ix2 p ⟨6144 + d.val, by have := d.isLt; omega⟩)) := by
    rw [← e1, ← gates_ap]
    pointwise [val_main_v14]
  rw [← h0, ← h1]
  pointwise [val_main_v21, val_main_v20, val_main_v19, val_main_v18, val_main_v17, val_main_v16, val_main_v15, val_main_v13, val_main_v12, val_main_v11, val_main_v10, val_main_v9]

end Cert.Reference6Ideal.Mul

namespace Cert.Proof

open Idealize.ShloMosaic Idealize.ShloMosaic.TcCoe Idealize.SL.Sem

theorem algebraic6 : Cert.algebraic_Kernel6Ideal_Reference6Ideal (hKernel6Ideal := Cert.Kernel6Ideal.Gen.facts)
    (hReference6Ideal := Cert.Reference6Ideal.Gen.facts) := by
  intro m g m' g' _ hargs
  refine ⟨fun c => Cert.Kernel6Ideal.Mul.G m c, ?_, ?_⟩
  · exact (θ_run (Cert.Kernel6Ideal.defs (F := Ideal)) _ _).mono (fun r h c => ⟨(h c).1.trans (Cert.Kernel6Ideal.Mul.final m c), (h c).2⟩)
      (Cert.Kernel6Ideal.Value.run_blocks (F := Ideal) m g)
  · refine (θ_run (Cert.Reference6Ideal.defs (F := Ideal)) _ _).mono (fun r h c => ⟨?_, (h c).2⟩) (Cert.Reference6Ideal.Value.run (F := Ideal) m' g')
    obtain ⟨a0, a1, a2, a3, a4⟩ := hargs c
    refine (h c).1.trans ?_
    rw [a0, a1, a2, a3, a4]
    funext (i : Cert.Reference6Ideal.S8320x2048.Idx)
    have hi : (ix2 ⟨(i (0 : Fin 2)).val, (i (0 : Fin 2)).isLt⟩ ⟨(i (1 : Fin 2)).val, (i (1 : Fin 2)).isLt⟩ : Cert.Reference6Ideal.S8320x2048.Idx) = i := by
      funext a
      match a with
      | ⟨0, _⟩ => rfl
      | ⟨1, _⟩ => rfl
    refine (congrFun (Cert.Reference6Ideal.Read.val_main_v21_eq (F := Ideal) _ _ _ _ _) i).trans ?_
    refine (congrArg _ hi.symm).trans ?_
    refine (Cert.Reference6Ideal.Mul.ref_ap _ _ _ _ _ _ _).trans ?_
    exact congrArg₂ (fun a b : EReal => a + b) (congrArg (fun a : EReal => a * _) (Cert.Sigmoid.sigmoid_eq _).symm) (congrArg (fun a : EReal => a * _) (Cert.Sigmoid.sigmoid_eq _).symm)

end Cert.Proof

end
-- ==== Proof.Merge.lean ====
/- The merge projection: the kernel's result is the stream plus the product, element by element, and so is the reference's. -/
module

public import proofs.«01_k».proof.Defs
public import proofs.«01_k».proof.Proof.Gen.Kernel7Ideal.Value
public import proofs.«01_k».proof.Proof.Gen.Reference7Ideal.Read
public import Idealize.ShloMosaic.Lib.Pointwise
public import Idealize.ShloMosaic.Lib.Pipeline.ValueKit.Geometry

@[expose] public section

set_option maxRecDepth 16384

noncomputable section

namespace Cert.Kernel7Ideal.Mul

open Cert.Kernel7Ideal Cert.Kernel7Ideal.Gen Cert.Kernel7Ideal.Value
open Idealize.ShloMosaic Idealize.ShloMosaic.TcCoe Idealize.SL.Sem
open Idealize.ShloMosaic.Pipeline (Dat)

variable (m : (ℓ : Loc nD τ sig) → Buf (Elt Ideal) ℓ)

abbrev aX (c : Dev nD) : Vec Ideal S8320x2048 .bf16 := m ((c.tc : Thread nD τ).loc main_arg0)
abbrev aW (c : Dev nD) : Vec Ideal S2x2048x2048 .f32 := m ((c.tc : Thread nD τ).loc main_arg1)
abbrev aH (c : Dev nD) : Vec Ideal S8320x2048 .f32 := m ((c.tc : Thread nD τ).loc main_arg2)

/-- An element of the result. -/
def el (c : Dev nD) (p : Fin 8320) (d : Fin 2048) : EReal :=
  aH m c (ix2 p d) + ∑ k : Fin 2048, aX m c (ix2 p k) * aW m c (ix3 0 k d)

/-- The result array. -/
def G (c : Dev nD) : Buf (Elt Ideal) ((c : Thread nD τ).loc main_v0) := fun i =>
  el m c ⟨(i (0 : Fin 2)).val, (i (0 : Fin 2)).isLt⟩ ⟨(i (1 : Fin 2)).val, (i (1 : Fin 2)).isLt⟩

/-- One block of the result, at an element, in the input blocks. -/
theorem pay_ap (x0 : Vec Ideal S2080x2048 .bf16) (x1 : Vec Ideal S1x2048x512 .f32) (x2 : Vec Ideal S2080x512 .f32) (r : Fin 2080) (d : Fin 512) :
    out0_3 x0 x1 x2 (ix2 r d) = x2 (ix2 r d) + ∑ k : Fin 2048, x0 (ix2 r k) * x1 (ix3 0 k d) := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_3
  rw [View.canon_unit_zero hz2]
  simp only [View.ld_unit_zero (S := S2080x2048) hz2, View.ld_unit_zero (S := S1x2048x512) hz3, View.ld_unit_zero (S := S2080x512) hz2]
  pointwise [k0_pay1]

/-- Each window's block index, decided over the points. -/
theorem idx_facts : ∀ t : Fin cfg0.N, win0_0.index t (0 : Fin 2) = win0_3.index t (0 : Fin 2) ∧ win0_0.index t (1 : Fin 2) = 0
    ∧ win0_1.index t (0 : Fin 3) = 0 ∧ win0_1.index t (1 : Fin 3) = 0 ∧ win0_1.index t (2 : Fin 3) = win0_3.index t (1 : Fin 2)
    ∧ win0_2.index t (0 : Fin 2) = win0_3.index t (0 : Fin 2) ∧ win0_2.index t (1 : Fin 2) = win0_3.index t (1 : Fin 2) :=
  (by decide +kernel : ∀ t : Fin grid0.N, _)

theorem idx_onto : ∀ (q0 : Fin 4) (q1 : Fin 4), ∃ t : Fin cfg0.N, (cfg0.win 3).flush t = true ∧ win0_3.index t = ![q0.val, q1.val] :=
  (by decide +kernel : ∀ (q0 : Fin 4) (q1 : Fin 4), ∃ t : Fin grid0.N, win0_3.flush t = true ∧ win0_3.index t = ![q0.val, q1.val])

theorem ib0 (c : Dev nD) (t : Fin cfg0.N) (r : Fin 2080) (k : Fin 2048) (p : Fin 8320)
    (hp : p.val = win0_3.index t (0 : Fin 2) * 2080 + r.val) : iblk m c 0 t (ix2 r k) = aX m c (ix2 p k) := by
  obtain ⟨e0, e1, -⟩ := idx_facts t
  refine congrArg (aX m c) (funext fun (a : Fin 2) => ?_)
  match a with
  | ⟨0, _⟩ => exact Fin.ext (by show win0_0.index t (0 : Fin 2) * 2080 + 1 * r.val = p.val; omega)
  | ⟨1, _⟩ => exact Fin.ext (by show win0_0.index t (1 : Fin 2) * 2048 + 1 * k.val = k.val; omega)

theorem ib1 (c : Dev nD) (t : Fin cfg0.N) (k : Fin 2048) (q : Fin 512) (d : Fin 2048)
    (hd : d.val = win0_3.index t (1 : Fin 2) * 512 + q.val) : iblk m c 1 t (ix3 0 k q) = aW m c (ix3 0 k d) := by
  obtain ⟨-, -, e2, e3, e4, -⟩ := idx_facts t
  refine congrArg (aW m c) (funext fun (a : Fin 3) => ?_)
  match a with
  | ⟨0, _⟩ => exact Fin.ext (by show win0_1.index t (0 : Fin 3) * 1 + 1 * 0 = 0; omega)
  | ⟨1, _⟩ => exact Fin.ext (by show win0_1.index t (1 : Fin 3) * 2048 + 1 * k.val = k.val; omega)
  | ⟨2, _⟩ => exact Fin.ext (by show win0_1.index t (2 : Fin 3) * 512 + 1 * q.val = d.val; omega)

theorem ib2 (c : Dev nD) (t : Fin cfg0.N) (r : Fin 2080) (q : Fin 512) (p : Fin 8320) (d : Fin 2048)
    (hp : p.val = win0_3.index t (0 : Fin 2) * 2080 + r.val) (hd : d.val = win0_3.index t (1 : Fin 2) * 512 + q.val) :
    iblk m c 2 t (ix2 r q) = aH m c (ix2 p d) := by
  obtain ⟨-, -, -, -, -, e5, e6⟩ := idx_facts t
  refine congrArg (aH m c) (funext fun (a : Fin 2) => ?_)
  match a with
  | ⟨0, _⟩ => exact Fin.ext (by show win0_2.index t (0 : Fin 2) * 2080 + 1 * r.val = p.val; omega)
  | ⟨1, _⟩ => exact Fin.ext (by show win0_2.index t (1 : Fin 2) * 512 + 1 * q.val = d.val; omega)

theorem block_el (c : Dev nD) (t : Fin cfg0.N) (r : Fin 2080) (q : Fin 512) (p : Fin 8320) (d : Fin 2048)
    (hp : p.val = win0_3.index t (0 : Fin 2) * 2080 + r.val) (hd : d.val = win0_3.index t (1 : Fin 2) * 512 + q.val) :
    out0_3 (iblk m c 0 t) (iblk m c 1 t) (iblk m c 2 t) (ix2 r q) = el m c p d := by
  refine (pay_ap _ _ _ r q).trans ?_
  unfold el
  refine congrArg₂ (fun a b : EReal => a + b) (ib2 m c t r q p d hp hd) (Finset.sum_congr rfl fun k _ => ?_)
  exact congrArg₂ (fun a b : EReal => a * b) (ib0 m c t r k p hp) (ib1 m c t k q d hd)

theorem flushed_eq (c : Dev nD) (t : Fin cfg0.N) : (dats m 0 c).flushed 3 t = ((cfg0.win 3).blk t).view.read (Elt Ideal) (G m c) := by
  rw [flushed3]
  funext (y : S2080x512.Idx)
  have hb0 : (((cfg0.win 3).blk t).view.emb y (0 : Fin 2)).val = win0_3.index t (0 : Fin 2) * 2080 + 1 * (y (0 : Fin 2)).val := rfl
  have hb1 : (((cfg0.win 3).blk t).view.emb y (1 : Fin 2)).val = win0_3.index t (1 : Fin 2) * 512 + 1 * (y (1 : Fin 2)).val := rfl
  have hy : (ix2 ⟨(y (0 : Fin 2)).val, (y (0 : Fin 2)).isLt⟩ ⟨(y (1 : Fin 2)).val, (y (1 : Fin 2)).isLt⟩ : S2080x512.Idx) = y := by
    funext a
    match a with
    | ⟨0, _⟩ => rfl
    | ⟨1, _⟩ => rfl
  refine (congrArg (out0_3 (iblk m c 0 t) (iblk m c 1 t) (iblk m c 2 t)) hy.symm).trans ?_
  exact block_el m c t _ _ _ _ (by rw [hb0, Nat.one_mul]) (by rw [hb1, Nat.one_mul])

theorem cover (i : S8320x2048.Idx) : ∃ t : Fin cfg0.N, (cfg0.win 3).flush t = true ∧ i ∈ ((cfg0.win 3).blk t).view.set := by
  have h0 : (i (0 : Fin 2)).val < 8320 := (i (0 : Fin 2)).isLt
  have h1 : (i (1 : Fin 2)).val < 2048 := (i (1 : Fin 2)).isLt
  obtain ⟨t, hf, ht⟩ := idx_onto ⟨(i (0 : Fin 2)).val / 2080, by omega⟩ ⟨(i (1 : Fin 2)).val / 512, by omega⟩
  have q0 : win0_3.index t (0 : Fin 2) = (i (0 : Fin 2)).val / 2080 := congrFun ht 0
  have q1 : win0_3.index t (1 : Fin 2) = (i (1 : Fin 2)).val / 512 := congrFun ht 1
  refine ⟨t, hf, ?_⟩
  refine (ValueKit.mem_set_slice_whole_iff main_v0 (win0_3.rect t) i (Rect.mem_set_unit (s := S8320x2048))).2 ?_
  intro (a : Fin 2)
  match a with
  | ⟨0, _⟩ => show win0_3.index t (0 : Fin 2) * 2080 ≤ (i (0 : Fin 2)).val ∧ (i (0 : Fin 2)).val < win0_3.index t (0 : Fin 2) * 2080 + 2080; omega
  | ⟨1, _⟩ => show win0_3.index t (1 : Fin 2) * 512 ≤ (i (1 : Fin 2)).val ∧ (i (1 : Fin 2)).val < win0_3.index t (1 : Fin 2) * 512 + 512; omega

theorem final (c : Dev nD) : (dats m 0 c).arrAt 3 cfg0.N = G m c :=
  (dats m 0 c).arrAt_eq_of_cover 3 (G m c) (fun t _ => flushed_eq m c t) cover

end Cert.Kernel7Ideal.Mul

namespace Cert.Reference7Ideal.Mul

open Cert.Reference7Ideal Cert.Reference7Ideal.Gen Cert.Reference7Ideal.Read Idealize.ShloMosaic

/-- An element of the reference's result. -/
theorem ref_ap (x0 : FVec Ideal S8320x2048 .bf16) (x1 : FVec Ideal S2x2048x2048 .f32) (x2 : FVec Ideal S8320x2048 .f32) (p : Fin 8320) (d : Fin 2048) :
    val_main_v4 (F := Ideal) x0 x1 x2 (ix2 p d) = x2 (ix2 p d) + ∑ k : Fin 2048, x0 (ix2 p k) * x1 (ix3 0 k d) := by
  pointwise [val_main_v4, val_main_v3, val_main_v2, val_main_v1, val_main_v0]

end Cert.Reference7Ideal.Mul

namespace Cert.Proof

open Idealize.ShloMosaic Idealize.ShloMosaic.TcCoe Idealize.SL.Sem

theorem algebraic7 : Cert.algebraic_Kernel7Ideal_Reference7Ideal (hKernel7Ideal := Cert.Kernel7Ideal.Gen.facts)
    (hReference7Ideal := Cert.Reference7Ideal.Gen.facts) := by
  intro m g m' g' _ hargs
  refine ⟨fun c => Cert.Kernel7Ideal.Mul.G m c, ?_, ?_⟩
  · exact (θ_run (Cert.Kernel7Ideal.defs (F := Ideal)) _ _).mono (fun r h c => ⟨(h c).1.trans (Cert.Kernel7Ideal.Mul.final m c), (h c).2⟩)
      (Cert.Kernel7Ideal.Value.run_blocks (F := Ideal) m g)
  · refine (θ_run (Cert.Reference7Ideal.defs (F := Ideal)) _ _).mono (fun r h c => ⟨?_, (h c).2⟩) (Cert.Reference7Ideal.Value.run (F := Ideal) m' g')
    obtain ⟨a0, a1, a2⟩ := hargs c
    refine (h c).1.trans ?_
    rw [a0, a1, a2]
    funext (i : Cert.Reference7Ideal.S8320x2048.Idx)
    refine Eq.trans ?_ (Cert.Reference7Ideal.Mul.ref_ap _ _ _ ⟨(i (0 : Fin 2)).val, (i (0 : Fin 2)).isLt⟩ ⟨(i (1 : Fin 2)).val, (i (1 : Fin 2)).isLt⟩)
    refine (congrFun (Cert.Reference7Ideal.Read.val_main_v4_eq (F := Ideal) _ _ _) i).trans (congrArg _ ?_)
    funext a
    match a with
    | ⟨0, _⟩ => rfl
    | ⟨1, _⟩ => rfl

end Cert.Proof

end
-- ==== Proof.InBa.lean ====
/- The input projection's columns of beta and alpha: the kernel's result is the product, element by element, and so is the reference's. -/
module

public import proofs.«01_k».proof.Defs
public import proofs.«01_k».proof.Proof.Gen.Kernel8Ideal.Value
public import proofs.«01_k».proof.Proof.Gen.Reference8Ideal.Read
public import Idealize.ShloMosaic.Lib.Pointwise
public import Idealize.ShloMosaic.Lib.Pipeline.ValueKit.Geometry

@[expose] public section

set_option maxRecDepth 16384

noncomputable section

namespace Cert.Kernel8Ideal.Mul

open Cert.Kernel8Ideal Cert.Kernel8Ideal.Gen Cert.Kernel8Ideal.Value
open Idealize.ShloMosaic Idealize.ShloMosaic.TcCoe Idealize.SL.Sem
open Idealize.ShloMosaic.Pipeline (Dat)

variable (m : (ℓ : Loc nD τ sig) → Buf (Elt Ideal) ℓ)

abbrev aX (c : Dev nD) : Vec Ideal S8320x2048 .bf16 := m ((c.tc : Thread nD τ).loc main_arg0)
abbrev aW (c : Dev nD) : Vec Ideal S2x2048x16416 .f32 := m ((c.tc : Thread nD τ).loc main_arg1)

/-- An element of the result. -/
def el (c : Dev nD) (p : Fin 8320) (d : Fin 128) : EReal :=
  ∑ k : Fin 2048, aX m c (ix2 p k) * aW m c (ix3 0 k ⟨8192 + d.val, by have := d.isLt; omega⟩)

/-- The result array. -/
def G (c : Dev nD) : Buf (Elt Ideal) ((c : Thread nD τ).loc main_v1) := fun i =>
  el m c ⟨(i (0 : Fin 2)).val, (i (0 : Fin 2)).isLt⟩ ⟨(i (1 : Fin 2)).val, (i (1 : Fin 2)).isLt⟩

/-- One block of the result, at an element, in the input blocks. -/
theorem pay_ap (x0 : Vec Ideal S2080x2048 .bf16) (x1 : Vec Ideal S1x128x2048 .f32) (r : Fin 2080) (d : Fin 128) :
    out0_2 x0 x1 (ix2 r d) = ∑ k : Fin 2048, x0 (ix2 r k) * x1 (ix3 0 d k) := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_2
  rw [View.canon_unit_zero hz2]
  simp only [View.ld_unit_zero (S := S2080x2048) hz2, View.ld_unit_zero (S := S1x128x2048) hz3]
  pointwise [k0_pay1]

/-- The weights as the region finds them: the argument transposed. -/
theorem V_v0 (c : Dev nD) : V m c main_v0 = transpose S2x16416x2048 [0, 2, 1] (aW m c) transposes_S2x2048x16416_S2x16416x2048_0_2_1 := by
  show StableHlo.after hostOps0 (fun b => m (c, b)) (Proc.devRef .tc main_v0) = _
  after_results <;> rfl

theorem transpose_ap (w : Vec Ideal S2x2048x16416 .f32) (e : Fin 2) (g : Fin 16416) (k : Fin 2048) :
    transpose S2x16416x2048 [0, 2, 1] w transposes_S2x2048x16416_S2x16416x2048_0_2_1 (ix3 e g k) = w (ix3 e k g) := by
  pointwise

/-- Each window's block index or offset, decided over the points. -/
theorem idx_facts : ∀ t : Fin cfg0.N, win0_0.index t (0 : Fin 2) = win0_2.index t (0 : Fin 2) ∧ win0_0.index t (1 : Fin 2) = 0
    ∧ win0_1.index t (0 : Fin 3) = 0 ∧ win0_1.index t (1 : Fin 3) = 8192 + win0_2.index t (1 : Fin 2) * 128 ∧ win0_1.index t (2 : Fin 3) = 0 :=
  (by decide +kernel : ∀ t : Fin grid0.N, _)

theorem idx_onto : ∀ (q0 : Fin 4) (q1 : Fin 1), ∃ t : Fin cfg0.N, (cfg0.win 2).flush t = true ∧ win0_2.index t = ![q0.val, q1.val] :=
  (by decide +kernel : ∀ (q0 : Fin 4) (q1 : Fin 1), ∃ t : Fin grid0.N, win0_2.flush t = true ∧ win0_2.index t = ![q0.val, q1.val])

theorem ib0 (c : Dev nD) (t : Fin cfg0.N) (r : Fin 2080) (k : Fin 2048) (p : Fin 8320)
    (hp : p.val = win0_2.index t (0 : Fin 2) * 2080 + r.val) : iblk m c 0 t (ix2 r k) = aX m c (ix2 p k) := by
  obtain ⟨e0, e1, -⟩ := idx_facts t
  refine (congrArg (V m c main_arg0) (?_ : ((cfg0.win 0).blk t).view.emb (ix2 r k) = ix2 p k)).trans (congrFun (V_main_arg0 m c) (ix2 p k))
  funext (a : Fin 2)
  match a with
  | ⟨0, _⟩ => exact Fin.ext (by show win0_0.index t (0 : Fin 2) * 2080 + 1 * r.val = p.val; omega)
  | ⟨1, _⟩ => exact Fin.ext (by show win0_0.index t (1 : Fin 2) * 2048 + 1 * k.val = k.val; omega)

theorem ib1 (c : Dev nD) (t : Fin cfg0.N) (k : Fin 2048) (q : Fin 128) (g : Fin 16416)
    (hg : g.val = 8192 + (win0_2.index t (1 : Fin 2) * 128 + q.val)) : iblk m c 1 t (ix3 0 q k) = aW m c (ix3 0 k g) := by
  obtain ⟨-, -, e2, e3, e4⟩ := idx_facts t
  refine (congrArg (V m c main_v0) (?_ : ((cfg0.win 1).blk t).view.emb (ix3 0 q k) = ix3 0 g k)).trans ((congrFun (V_v0 m c) (ix3 0 g k)).trans (transpose_ap (aW m c) 0 g k))
  funext (a : Fin 3)
  match a with
  | ⟨0, _⟩ => exact Fin.ext (by show win0_1.index t (0 : Fin 3) + 1 * 0 = 0; omega)
  | ⟨1, _⟩ => exact Fin.ext (by show win0_1.index t (1 : Fin 3) + 1 * q.val = g.val; omega)
  | ⟨2, _⟩ => exact Fin.ext (by show win0_1.index t (2 : Fin 3) + 1 * k.val = k.val; omega)

theorem block_el (c : Dev nD) (t : Fin cfg0.N) (r : Fin 2080) (q : Fin 128) (p : Fin 8320) (d : Fin 128)
    (hp : p.val = win0_2.index t (0 : Fin 2) * 2080 + r.val) (hd : d.val = win0_2.index t (1 : Fin 2) * 128 + q.val) :
    out0_2 (iblk m c 0 t) (iblk m c 1 t) (ix2 r q) = el m c p d := by
  refine (pay_ap _ _ r q).trans ?_
  unfold el
  refine Finset.sum_congr rfl fun k _ => ?_
  exact congrArg₂ (fun a b : EReal => a * b) (ib0 m c t r k p hp) (ib1 m c t k q ⟨8192 + d.val, by have := d.isLt; omega⟩ (by show 8192 + d.val = 8192 + (win0_2.index t (1 : Fin 2) * 128 + q.val); omega))

theorem flushed_eq (c : Dev nD) (t : Fin cfg0.N) : (dats m 0 c).flushed 2 t = ((cfg0.win 2).blk t).view.read (Elt Ideal) (G m c) := by
  rw [flushed2]
  funext (y : S2080x128.Idx)
  have hb0 : (((cfg0.win 2).blk t).view.emb y (0 : Fin 2)).val = win0_2.index t (0 : Fin 2) * 2080 + 1 * (y (0 : Fin 2)).val := rfl
  have hb1 : (((cfg0.win 2).blk t).view.emb y (1 : Fin 2)).val = win0_2.index t (1 : Fin 2) * 128 + 1 * (y (1 : Fin 2)).val := rfl
  have hy : (ix2 ⟨(y (0 : Fin 2)).val, (y (0 : Fin 2)).isLt⟩ ⟨(y (1 : Fin 2)).val, (y (1 : Fin 2)).isLt⟩ : S2080x128.Idx) = y := by
    funext a
    match a with
    | ⟨0, _⟩ => rfl
    | ⟨1, _⟩ => rfl
  refine (congrArg (out0_2 (iblk m c 0 t) (iblk m c 1 t)) hy.symm).trans ?_
  exact block_el m c t _ _ _ _ (by rw [hb0, Nat.one_mul]) (by rw [hb1, Nat.one_mul])

theorem cover (i : S8320x128.Idx) : ∃ t : Fin cfg0.N, (cfg0.win 2).flush t = true ∧ i ∈ ((cfg0.win 2).blk t).view.set := by
  have h0 : (i (0 : Fin 2)).val < 8320 := (i (0 : Fin 2)).isLt
  have h1 : (i (1 : Fin 2)).val < 128 := (i (1 : Fin 2)).isLt
  obtain ⟨t, hf, ht⟩ := idx_onto ⟨(i (0 : Fin 2)).val / 2080, by omega⟩ ⟨(i (1 : Fin 2)).val / 128, by omega⟩
  have q0 : win0_2.index t (0 : Fin 2) = (i (0 : Fin 2)).val / 2080 := congrFun ht 0
  have q1 : win0_2.index t (1 : Fin 2) = (i (1 : Fin 2)).val / 128 := congrFun ht 1
  refine ⟨t, hf, ?_⟩
  refine (ValueKit.mem_set_slice_whole_iff main_v1 (win0_2.rect t) i (Rect.mem_set_unit (s := S8320x128))).2 ?_
  intro (a : Fin 2)
  match a with
  | ⟨0, _⟩ => show win0_2.index t (0 : Fin 2) * 2080 ≤ (i (0 : Fin 2)).val ∧ (i (0 : Fin 2)).val < win0_2.index t (0 : Fin 2) * 2080 + 2080; omega
  | ⟨1, _⟩ => show win0_2.index t (1 : Fin 2) * 128 ≤ (i (1 : Fin 2)).val ∧ (i (1 : Fin 2)).val < win0_2.index t (1 : Fin 2) * 128 + 128; omega

theorem final (c : Dev nD) : (dats m 0 c).arrAt 2 cfg0.N = G m c :=
  (dats m 0 c).arrAt_eq_of_cover 2 (G m c) (fun t _ => flushed_eq m c t) cover

end Cert.Kernel8Ideal.Mul

namespace Cert.Reference8Ideal.Mul

open Cert.Reference8Ideal Cert.Reference8Ideal.Gen Cert.Reference8Ideal.Read Idealize.ShloMosaic

/-- An element of the reference's result. -/
theorem ref_ap (x0 : FVec Ideal S8320x2048 .bf16) (x1 : FVec Ideal S2x2048x16416 .f32) (p : Fin 8320) (d : Fin 128) :
    val_main_v4 (F := Ideal) x0 x1 (ix2 p d) = ∑ k : Fin 2048, x0 (ix2 p k) * x1 (ix3 0 k ⟨8192 + d.val, by have := d.isLt; omega⟩) := by
  pointwise [val_main_v4, val_main_v3, val_main_v2, val_main_v1, val_main_v0]

end Cert.Reference8Ideal.Mul

namespace Cert.Proof

open Idealize.ShloMosaic Idealize.ShloMosaic.TcCoe Idealize.SL.Sem

theorem algebraic8 : Cert.algebraic_Kernel8Ideal_Reference8Ideal (hKernel8Ideal := Cert.Kernel8Ideal.Gen.facts)
    (hReference8Ideal := Cert.Reference8Ideal.Gen.facts) := by
  intro m g m' g' _ hargs
  refine ⟨fun c => Cert.Kernel8Ideal.Mul.G m c, ?_, ?_⟩
  · exact (θ_run (Cert.Kernel8Ideal.defs (F := Ideal)) _ _).mono (fun r h c => ⟨(h c).1.trans (Cert.Kernel8Ideal.Mul.final m c), (h c).2⟩)
      (Cert.Kernel8Ideal.Value.run_blocks (F := Ideal) m g)
  · refine (θ_run (Cert.Reference8Ideal.defs (F := Ideal)) _ _).mono (fun r h c => ⟨?_, (h c).2⟩) (Cert.Reference8Ideal.Value.run (F := Ideal) m' g')
    obtain ⟨a0, a1⟩ := hargs c
    refine (h c).1.trans ?_
    rw [a0, a1]
    funext (i : Cert.Reference8Ideal.S8320x128.Idx)
    refine Eq.trans ?_ (Cert.Reference8Ideal.Mul.ref_ap _ _ ⟨(i (0 : Fin 2)).val, (i (0 : Fin 2)).isLt⟩ ⟨(i (1 : Fin 2)).val, (i (1 : Fin 2)).isLt⟩)
    refine (congrFun (Cert.Reference8Ideal.Read.val_main_v4_eq (F := Ideal) _ _) i).trans (congrArg _ ?_)
    funext a
    match a with
    | ⟨0, _⟩ => rfl
    | ⟨1, _⟩ => rfl

end Cert.Proof

end
-- ==== Proof.RowMask.lean ====
/- The rows that pad a sequence, as words: a row of the 8320 counts if its number within its sequence of 4160 is at least 48. -/
module

public import Idealize.ShloMosaic.Lib.Pointwise

@[expose] public section

set_option maxRecDepth 16384

noncomputable section

namespace Cert.RowMask

open Idealize.ShloMosaic

/-- The period of the rows, guarded against zero. -/
def period : BitVec 32 := Scalar.select (Scalar.cmpi .eq 4160#32 0#32) 1#32 4160#32

/-- The floored remainder of a row's word by the period. -/
def rem (w : BitVec 32) : BitVec 32 :=
  Scalar.select
    (IntOp.andi (IntOp.xori (IntOp.cmpi .slt (IntOp.remsi .vector w period) 0#32) (Scalar.cmpi .slt period 0#32))
      (IntOp.cmpi .ne (IntOp.remsi .vector w period) 0#32))
    (IntOp.addi (IntOp.remsi .vector w period) period) (IntOp.remsi .vector w period)

/-- A row counts if its number within its sequence is at least the pad. -/
def mask (pad w : BitVec 32) : BitVec 1 := IntOp.cmpi .sge (rem w) pad

theorem mask_48 : ∀ n : Fin 8320, mask 48#32 (BitVec.ofNat 32 n.val) = if 48 ≤ n.val % 4160 then 1#1 else 0#1 := by
  decide +kernel

theorem mask_0 : ∀ n : Fin 8320, mask 0#32 (BitVec.ofNat 32 n.val) = 1#1 := by
  decide +kernel

theorem host_48 : ∀ n : Fin 8320, IntOp.cmpi .sge (IntOp.remsi .host (BitVec.ofNat 32 n.val) 4160#32) 48#32 = if 48 ≤ n.val % 4160 then 1#1 else 0#1 := by
  decide +kernel

/-- A block's row as a word. -/
theorem row_word (q r : Nat) : IntOp.addi (Scalar.muli (BitVec.ofNat 32 q) 520#32) (BitVec.ofNat 32 r) = BitVec.ofNat 32 (q * 520 + r) := by
  show BitVec.ofNat 32 q * BitVec.ofNat 32 520 + BitVec.ofNat 32 r = _
  rw [← BitVec.ofNat_mul, ← BitVec.ofNat_add]

theorem select_ite (p : Prop) [Decidable p] (a b : EReal) : Scalar.select (if p then 1#1 else 0#1) a b = if p then a else b := by
  by_cases h : p
  · rw [if_pos h, if_pos h]; rfl
  · rw [if_neg h, if_neg h]; rfl

/-- A row normalised by its root mean square and scaled, at an element. -/
def rms (h : Fin 2048 → EReal) (w : EReal) (d : Fin 2048) : EReal :=
  h d * Ideal.rsqrt (Ideal.div (∑ k : Fin 2048, h k * h k) (Ideal.ofBits .f32 0x45000000#32) + Ideal.ofBits .f32 0x358637BD#32) * w

end Cert.RowMask

end
-- ==== Proof.NormFirst.lean ====
/- The first layer's input norm: the kernel's result is the normalised row where the row counts, element by element, and so is the reference's. -/
module

public import proofs.«01_k».proof.Defs
public import proofs.«01_k».proof.Proof.Gen.Kernel9Ideal.Value
public import proofs.«01_k».proof.Proof.Gen.Reference9Ideal.Read
public import Idealize.ShloMosaic.Lib.Pointwise
public import Idealize.ShloMosaic.Lib.Pipeline.ValueKit.Geometry
public import proofs.«01_k».proof.Proof.RowMask

@[expose] public section

set_option maxRecDepth 16384

noncomputable section

namespace Cert.Kernel9Ideal.Norm

open Cert.Kernel9Ideal Cert.Kernel9Ideal.Gen Cert.Kernel9Ideal.Value Cert.RowMask
open Idealize.ShloMosaic Idealize.ShloMosaic.TcCoe Idealize.SL.Sem
open Idealize.ShloMosaic.Pipeline (Dat)

variable (m : (ℓ : Loc nD τ sig) → Buf (Elt Ideal) ℓ)

abbrev aX (c : Dev nD) : Vec Ideal S8320x2048 .f32 := m ((c.tc : Thread nD τ).loc main_arg0)
abbrev aW (c : Dev nD) : Vec Ideal S2048 .f32 := m ((c.tc : Thread nD τ).loc main_arg1)

/-- An element of the normalised rows. -/
def el (c : Dev nD) (p : Fin 8320) (d : Fin 2048) : EReal :=
  if 48 ≤ p.val % 4160 then rms (fun k => aX m c (ix2 p k)) (aW m c (ix1 d)) d else 0

/-- The array of the normalised rows. -/
def G (c : Dev nD) : Buf (Elt Ideal) ((c : Thread nD τ).loc main_v1) := fun i =>
  el m c ⟨(i (0 : Fin 2)).val, (i (0 : Fin 2)).isLt⟩ ⟨(i (1 : Fin 2)).val, (i (1 : Fin 2)).isLt⟩

/-- One block of the normalised rows, at an element, in the input blocks. -/
theorem pay_ap (i : grid0.Coords) (x0 : Vec Ideal S520x2048 .f32) (x1 : Vec Ideal S1x2048 .f32) (r : Fin 520) (d : Fin 2048) :
    out0_2 i x0 x1 (ix2 r d) = if 48 ≤ ((i 0).val * 520 + r.val) % 4160 then rms (fun k => x0 (ix2 r k)) (x1 (ix2 0 d)) d else 0 := by
  have hz2 : (![0, 0] : Fin 2 → Nat) = fun _ => 0 := funext fun a => by fin_cases a <;> rfl
  have hi : (i 0).val < 16 := (i 0).isLt
  have hr : r.val < 520 := r.isLt
  unfold out0_2 rms
  rw [View.canon_unit_zero hz2]
  simp only [View.ld_unit_zero (S := S520x2048) hz2, View.ld_unit_zero (S := S1x2048) hz2]
  pointwise [k0_pay1]
  show Scalar.select (mask 48#32 (IntOp.addi (Scalar.muli (BitVec.ofNat 32 (i 0).val) 520#32) (BitVec.ofNat 32 r.val))) _ _ = _
  rw [row_word, mask_48 ⟨(i 0).val * 520 + r.val, by omega⟩, select_ite]

/-- The scale as the region finds it: the argument with a unit axis. -/
theorem V_v0 (c : Dev nD) : V m c main_v0 = shapeCast S1x2048 (aW m c) shapeCasts_S2048_S1x2048 := by
  show StableHlo.after hostOps0 (fun b => m (c, b)) (Proc.devRef .tc main_v0) = _
  after_results <;> rfl

theorem cast_ap (w : Vec Ideal S2048 .f32) (d : Fin 2048) : shapeCast S1x2048 w shapeCasts_S2048_S1x2048 (ix2 0 d) = w (ix1 d) := by
  pointwise

/-- Each window's block index, decided over the points. -/
theorem idx_facts : ∀ t : Fin cfg0.N, (grid0.coords t 0).val = win0_2.index t (0 : Fin 2) ∧ win0_0.index t (0 : Fin 2) = win0_2.index t (0 : Fin 2) ∧ win0_0.index t (1 : Fin 2) = 0 ∧ win0_1.index t (0 : Fin 2) = 0 ∧ win0_1.index t (1 : Fin 2) = 0 ∧ win0_2.index t (1 : Fin 2) = 0 :=
  (by decide +kernel : ∀ t : Fin grid0.N, _)

theorem idx_onto : ∀ (q0 : Fin 16), ∃ t : Fin cfg0.N, (cfg0.win 2).flush t = true ∧ win0_2.index t = ![q0.val, 0] :=
  (by decide +kernel : ∀ (q0 : Fin 16), ∃ t : Fin grid0.N, win0_2.flush t = true ∧ win0_2.index t = ![q0.val, 0])

theorem ib0 (c : Dev nD) (t : Fin cfg0.N) (r : Fin 520) (k : Fin 2048) (p : Fin 8320)
    (hp : p.val = win0_2.index t (0 : Fin 2) * 520 + r.val) : iblk m c 0 t (ix2 r k) = aX m c (ix2 p k) := by
  obtain ⟨-, e0, e1, -⟩ := idx_facts t
  refine (congrArg (V m c main_arg0) (?_ : ((cfg0.win 0).blk t).view.emb (ix2 r k) = ix2 p k)).trans (congrFun (V_main_arg0 m c) (ix2 p k))
  funext (a : Fin 2)
  match a with
  | ⟨0, _⟩ => exact Fin.ext (by show win0_0.index t (0 : Fin 2) * 520 + 1 * r.val = p.val; omega)
  | ⟨1, _⟩ => exact Fin.ext (by show win0_0.index t (1 : Fin 2) * 2048 + 1 * k.val = k.val; omega)

theorem ibW (c : Dev nD) (t : Fin cfg0.N) (d : Fin 2048) : iblk m c 1 t (ix2 0 d) = aW m c (ix1 d) := by
  obtain ⟨-, -, -, e0, e1, -⟩ := idx_facts t
  refine (congrArg (V m c main_v0) (?_ : ((cfg0.win 1).blk t).view.emb (ix2 0 d) = ix2 0 d)).trans ((congrFun (V_v0 m c) (ix2 0 d)).trans (cast_ap (aW m c) d))
  funext (a : Fin 2)
  match a with
  | ⟨0, _⟩ => exact Fin.ext (by show win0_1.index t (0 : Fin 2) * 1 + 1 * 0 = 0; omega)
  | ⟨1, _⟩ => exact Fin.ext (by show win0_1.index t (1 : Fin 2) * 2048 + 1 * d.val = d.val; omega)

theorem block_el (c : Dev nD) (t : Fin cfg0.N) (r : Fin 520) (q : Fin 2048) (p : Fin 8320) (d : Fin 2048)
    (hp : p.val = win0_2.index t (0 : Fin 2) * 520 + r.val) (hd : d = q) :
    out0_2 (grid0.coords t) (iblk m c 0 t) (iblk m c 1 t) (ix2 r q) = el m c p d := by
  subst hd
  obtain ⟨g0, -⟩ := idx_facts t
  refine (pay_ap _ _ _ r d).trans ?_
  unfold el
  have e : (grid0.coords t 0).val * 520 + r.val = p.val := by rw [g0, hp]
  rw [e]
  refine congrArg (fun z : EReal => if 48 ≤ p.val % 4160 then z else 0) ?_
  refine congrArg₂ (fun h w => rms h w d) (funext fun k => ?_) (ibW m c t d)
  exact ib0 m c t r k p hp

theorem flushed_eq (c : Dev nD) (t : Fin cfg0.N) : (dats m 0 c).flushed 2 t = ((cfg0.win 2).blk t).view.read (Elt Ideal) (G m c) := by
  rw [flushed2]
  funext (y : S520x2048.Idx)
  obtain ⟨-, -, -, -, -, e1⟩ := idx_facts t
  have hb0 : (((cfg0.win 2).blk t).view.emb y (0 : Fin 2)).val = win0_2.index t (0 : Fin 2) * 520 + 1 * (y (0 : Fin 2)).val := rfl
  have hb1 : (((cfg0.win 2).blk t).view.emb y (1 : Fin 2)).val = win0_2.index t (1 : Fin 2) * 2048 + 1 * (y (1 : Fin 2)).val := rfl
  have hy : (ix2 ⟨(y (0 : Fin 2)).val, (y (0 : Fin 2)).isLt⟩ ⟨(y (1 : Fin 2)).val, (y (1 : Fin 2)).isLt⟩ : S520x2048.Idx) = y := by
    funext a
    match a with
    | ⟨0, _⟩ => rfl
    | ⟨1, _⟩ => rfl
  refine (congrArg (out0_2 (grid0.coords t) (iblk m c 0 t) (iblk m c 1 t)) hy.symm).trans ?_
  exact block_el m c t _ _ _ _ (by rw [hb0, Nat.one_mul]) (Fin.ext (by rw [hb1]; show _ = (y (1 : Fin 2)).val; omega))

theorem cover (i : S8320x2048.Idx) : ∃ t : Fin cfg0.N, (cfg0.win 2).flush t = true ∧ i ∈ ((cfg0.win 2).blk t).view.set := by
  have h0 : (i (0 : Fin 2)).val < 8320 := (i (0 : Fin 2)).isLt
  have h1 : (i (1 : Fin 2)).val < 2048 := (i (1 : Fin 2)).isLt
  obtain ⟨t, hf, ht⟩ := idx_onto ⟨(i (0 : Fin 2)).val / 520, by omega⟩
  have q0 : win0_2.index t (0 : Fin 2) = (i (0 : Fin 2)).val / 520 := congrFun ht 0
  have q1 : win0_2.index t (1 : Fin 2) = 0 := congrFun ht 1
  refine ⟨t, hf, ?_⟩
  refine (ValueKit.mem_set_slice_whole_iff main_v1 (win0_2.rect t) i (Rect.mem_set_unit (s := S8320x2048))).2 ?_
  intro (a : Fin 2)
  match a with
  | ⟨0, _⟩ => show win0_2.index t (0 : Fin 2) * 520 ≤ (i (0 : Fin 2)).val ∧ (i (0 : Fin 2)).val < win0_2.index t (0 : Fin 2) * 520 + 520; omega
  | ⟨1, _⟩ => show win0_2.index t (1 : Fin 2) * 2048 ≤ (i (1 : Fin 2)).val ∧ (i (1 : Fin 2)).val < win0_2.index t (1 : Fin 2) * 2048 + 2048; omega

theorem final (c : Dev nD) : (dats m 0 c).arrAt 2 cfg0.N = G m c :=
  (dats m 0 c).arrAt_eq_of_cover 2 (G m c) (fun t _ => flushed_eq m c t) cover

end Cert.Kernel9Ideal.Norm

namespace Cert.Reference9Ideal.Norm

open Cert.Reference9Ideal Cert.Reference9Ideal.Gen Cert.Reference9Ideal.Read Cert.RowMask Idealize.ShloMosaic

/-- An element of the reference's normalised rows. -/
theorem ref_ap (x0 : FVec Ideal S8320x2048 .f32) (x1 : FVec Ideal S2048 .f32) (p : Fin 8320) (d : Fin 2048) :
    val_main_v19 (F := Ideal) x0 x1 (ix2 p d) = if 48 ≤ p.val % 4160 then rms (fun k => x0 (ix2 p k)) (x1 (ix1 d)) d else 0 := by
  unfold rms
  pointwise [val_main_v19, val_main_v18, val_main_call0_v2, val_main_call0_v1, val_main_call0_v0, val_main_cst_3, val_main_v17, val_main_v16, val_main_c_2, val_main_v15, val_main_v14, val_main_c, val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  rw [host_48 p]
  exact (select_ite _ _ _).trans (congrArg (fun z : EReal => if 48 ≤ p.val % 4160 then _ else z) (by show constant (F := Ideal) S_ .f32 0x00000000#32 ix0 = (0 : EReal); pointwise))

end Cert.Reference9Ideal.Norm

namespace Cert.Proof

open Idealize.ShloMosaic Idealize.ShloMosaic.TcCoe Idealize.SL.Sem

theorem algebraic9 : Cert.algebraic_Kernel9Ideal_Reference9Ideal (hKernel9Ideal := Cert.Kernel9Ideal.Gen.facts)
    (hReference9Ideal := Cert.Reference9Ideal.Gen.facts) := by
  intro m g m' g' _ hargs
  refine ⟨fun c => Cert.Kernel9Ideal.Norm.G m c, ?_, ?_⟩
  · exact (θ_run (Cert.Kernel9Ideal.defs (F := Ideal)) _ _).mono (fun r h c => ⟨(h c).1.trans (Cert.Kernel9Ideal.Norm.final m c), (h c).2⟩)
      (Cert.Kernel9Ideal.Value.run_blocks (F := Ideal) m g)
  · refine (θ_run (Cert.Reference9Ideal.defs (F := Ideal)) _ _).mono (fun r h c => ⟨?_, (h c).2⟩) (Cert.Reference9Ideal.Value.run (F := Ideal) m' g')
    obtain ⟨a0, a1⟩ := hargs c
    refine (h c).1.trans ?_
    rw [a0, a1]
    funext (i : Cert.Reference9Ideal.S8320x2048.Idx)
    refine Eq.trans ?_ (Cert.Reference9Ideal.Norm.ref_ap _ _ ⟨(i (0 : Fin 2)).val, (i (0 : Fin 2)).isLt⟩ ⟨(i (1 : Fin 2)).val, (i (1 : Fin 2)).isLt⟩)
    refine (congrFun (Cert.Reference9Ideal.Read.val_main_v19_eq (F := Ideal) _ _) i).trans (congrArg _ ?_)
    funext a
    match a with
    | ⟨0, _⟩ => rfl
    | ⟨1, _⟩ => rfl

end Cert.Proof

end
-- ==== Proof.NormLater.lean ====
/- A later layer's stream and its input norm: the kernel's results are the sum and its normalised rows where they count, element by element, and so are the reference's. -/
module

public import proofs.«01_k».proof.Defs
public import proofs.«01_k».proof.Proof.Gen.Kernel10Ideal.Value
public import proofs.«01_k».proof.Proof.Gen.Reference10Ideal.Read
public import Idealize.ShloMosaic.Lib.Pointwise
public import Idealize.ShloMosaic.Lib.Pipeline.ValueKit.Geometry
public import proofs.«01_k».proof.Proof.RowMask

@[expose] public section

set_option maxRecDepth 16384

noncomputable section

namespace Cert.Kernel10Ideal.Norm

open Cert.Kernel10Ideal Cert.Kernel10Ideal.Gen Cert.Kernel10Ideal.Value Cert.RowMask
open Idealize.ShloMosaic Idealize.ShloMosaic.TcCoe Idealize.SL.Sem
open Idealize.ShloMosaic.Pipeline (Dat)

variable (m : (ℓ : Loc nD τ sig) → Buf (Elt Ideal) ℓ)

abbrev aX (c : Dev nD) : Vec Ideal S8320x2048 .f32 := m ((c.tc : Thread nD τ).loc main_arg0)
abbrev aY (c : Dev nD) : Vec Ideal S8320x2048 .f32 := m ((c.tc : Thread nD τ).loc main_arg1)
abbrev aW (c : Dev nD) : Vec Ideal S2048 .f32 := m ((c.tc : Thread nD τ).loc main_arg2)

/-- An element of the normalised rows. -/
def el (c : Dev nD) (p : Fin 8320) (d : Fin 2048) : EReal :=
  if 48 ≤ p.val % 4160 then rms (fun k => aX m c (ix2 p k) + aY m c (ix2 p k)) (aW m c (ix1 d)) d else 0

/-- The array of the normalised rows. -/
def G (c : Dev nD) : Buf (Elt Ideal) ((c : Thread nD τ).loc main_v1_1) := fun i =>
  el m c ⟨(i (0 : Fin 2)).val, (i (0 : Fin 2)).isLt⟩ ⟨(i (1 : Fin 2)).val, (i (1 : Fin 2)).isLt⟩

/-- One block of the normalised rows, at an element, in the input blocks. -/
theorem pay_ap (i : grid0.Coords) (x0 x1 : Vec Ideal S520x2048 .f32) (x2 : Vec Ideal S1x2048 .f32) (r : Fin 520) (d : Fin 2048) :
    out0_4 i x0 x1 x2 (ix2 r d) = if 48 ≤ ((i 0).val * 520 + r.val) % 4160 then rms (fun k => x0 (ix2 r k) + x1 (ix2 r k)) (x2 (ix2 0 d)) d else 0 := by
  have hz2 : (![0, 0] : Fin 2 → Nat) = fun _ => 0 := funext fun a => by fin_cases a <;> rfl
  have hi : (i 0).val < 16 := (i 0).isLt
  have hr : r.val < 520 := r.isLt
  unfold out0_4 rms
  rw [View.canon_unit_zero hz2]
  simp only [View.ld_unit_zero (S := S520x2048) hz2, View.ld_unit_zero (S := S1x2048) hz2]
  pointwise [k0_pay1, k0_pay3, k0_pay2, k0_pay4, k0_pay5]
  show Scalar.select (mask 48#32 (IntOp.addi (Scalar.muli (BitVec.ofNat 32 (i 0).val) 520#32) (BitVec.ofNat 32 r.val))) _ _ = _
  rw [row_word, mask_48 ⟨(i 0).val * 520 + r.val, by omega⟩, select_ite]

/-- The scale as the region finds it: the argument with a unit axis. -/
theorem V_v0 (c : Dev nD) : V m c main_v0 = shapeCast S1x2048 (aW m c) shapeCasts_S2048_S1x2048 := by
  show StableHlo.after hostOps0 (fun b => m (c, b)) (Proc.devRef .tc main_v0) = _
  after_results <;> rfl

theorem cast_ap (w : Vec Ideal S2048 .f32) (d : Fin 2048) : shapeCast S1x2048 w shapeCasts_S2048_S1x2048 (ix2 0 d) = w (ix1 d) := by
  pointwise

/-- Each window's block index, decided over the points. -/
theorem idx_facts : ∀ t : Fin cfg0.N, (grid0.coords t 0).val = win0_4.index t (0 : Fin 2) ∧ win0_0.index t (0 : Fin 2) = win0_4.index t (0 : Fin 2) ∧ win0_0.index t (1 : Fin 2) = 0 ∧ win0_1.index t (0 : Fin 2) = win0_4.index t (0 : Fin 2) ∧ win0_1.index t (1 : Fin 2) = 0 ∧ win0_3.index t (0 : Fin 2) = win0_4.index t (0 : Fin 2) ∧ win0_3.index t (1 : Fin 2) = 0 ∧ win0_2.index t (0 : Fin 2) = 0 ∧ win0_2.index t (1 : Fin 2) = 0 ∧ win0_4.index t (1 : Fin 2) = 0 :=
  (by decide +kernel : ∀ t : Fin grid0.N, _)

theorem idx_onto : ∀ (q0 : Fin 16), ∃ t : Fin cfg0.N, (cfg0.win 4).flush t = true ∧ win0_4.index t = ![q0.val, 0] :=
  (by decide +kernel : ∀ (q0 : Fin 16), ∃ t : Fin grid0.N, win0_4.flush t = true ∧ win0_4.index t = ![q0.val, 0])

theorem idx_ontoH : ∀ (q0 : Fin 16), ∃ t : Fin cfg0.N, (cfg0.win 3).flush t = true ∧ win0_3.index t = ![q0.val, 0] :=
  (by decide +kernel : ∀ (q0 : Fin 16), ∃ t : Fin grid0.N, win0_3.flush t = true ∧ win0_3.index t = ![q0.val, 0])

theorem ib0 (c : Dev nD) (t : Fin cfg0.N) (r : Fin 520) (k : Fin 2048) (p : Fin 8320)
    (hp : p.val = win0_4.index t (0 : Fin 2) * 520 + r.val) : iblk m c 0 t (ix2 r k) = aX m c (ix2 p k) := by
  obtain ⟨-, e0, e1, -⟩ := idx_facts t
  refine (congrArg (V m c main_arg0) (?_ : ((cfg0.win 0).blk t).view.emb (ix2 r k) = ix2 p k)).trans (congrFun (V_main_arg0 m c) (ix2 p k))
  funext (a : Fin 2)
  match a with
  | ⟨0, _⟩ => exact Fin.ext (by show win0_0.index t (0 : Fin 2) * 520 + 1 * r.val = p.val; omega)
  | ⟨1, _⟩ => exact Fin.ext (by show win0_0.index t (1 : Fin 2) * 2048 + 1 * k.val = k.val; omega)

theorem ib1 (c : Dev nD) (t : Fin cfg0.N) (r : Fin 520) (k : Fin 2048) (p : Fin 8320)
    (hp : p.val = win0_4.index t (0 : Fin 2) * 520 + r.val) : iblk m c 1 t (ix2 r k) = aY m c (ix2 p k) := by
  obtain ⟨-, -, -, e0, e1, -⟩ := idx_facts t
  refine (congrArg (V m c main_arg1) (?_ : ((cfg0.win 1).blk t).view.emb (ix2 r k) = ix2 p k)).trans (congrFun (V_main_arg1 m c) (ix2 p k))
  funext (a : Fin 2)
  match a with
  | ⟨0, _⟩ => exact Fin.ext (by show win0_1.index t (0 : Fin 2) * 520 + 1 * r.val = p.val; omega)
  | ⟨1, _⟩ => exact Fin.ext (by show win0_1.index t (1 : Fin 2) * 2048 + 1 * k.val = k.val; omega)

theorem ibW (c : Dev nD) (t : Fin cfg0.N) (d : Fin 2048) : iblk m c 2 t (ix2 0 d) = aW m c (ix1 d) := by
  obtain ⟨-, -, -, -, -, -, -, e0, e1, -⟩ := idx_facts t
  refine (congrArg (V m c main_v0) (?_ : ((cfg0.win 2).blk t).view.emb (ix2 0 d) = ix2 0 d)).trans ((congrFun (V_v0 m c) (ix2 0 d)).trans (cast_ap (aW m c) d))
  funext (a : Fin 2)
  match a with
  | ⟨0, _⟩ => exact Fin.ext (by show win0_2.index t (0 : Fin 2) * 1 + 1 * 0 = 0; omega)
  | ⟨1, _⟩ => exact Fin.ext (by show win0_2.index t (1 : Fin 2) * 2048 + 1 * d.val = d.val; omega)

theorem block_el (c : Dev nD) (t : Fin cfg0.N) (r : Fin 520) (q : Fin 2048) (p : Fin 8320) (d : Fin 2048)
    (hp : p.val = win0_4.index t (0 : Fin 2) * 520 + r.val) (hd : d = q) :
    out0_4 (grid0.coords t) (iblk m c 0 t) (iblk m c 1 t) (iblk m c 2 t) (ix2 r q) = el m c p d := by
  subst hd
  obtain ⟨g0, -⟩ := idx_facts t
  refine (pay_ap _ _ _ _ r d).trans ?_
  unfold el
  have e : (grid0.coords t 0).val * 520 + r.val = p.val := by rw [g0, hp]
  rw [e]
  refine congrArg (fun z : EReal => if 48 ≤ p.val % 4160 then z else 0) ?_
  refine congrArg₂ (fun h w => rms h w d) (funext fun k => ?_) (ibW m c t d)
  exact congrArg₂ (fun a b : EReal => a + b) (ib0 m c t r k p hp) (ib1 m c t r k p hp)

/-- An element of the stream. -/
def elH (c : Dev nD) (p : Fin 8320) (d : Fin 2048) : EReal := aX m c (ix2 p d) + aY m c (ix2 p d)

/-- The array of the stream. -/
def GH (c : Dev nD) : Buf (Elt Ideal) ((c : Thread nD τ).loc main_v1_0) := fun i =>
  elH m c ⟨(i (0 : Fin 2)).val, (i (0 : Fin 2)).isLt⟩ ⟨(i (1 : Fin 2)).val, (i (1 : Fin 2)).isLt⟩

/-- One block of the stream, at an element, in the input blocks. -/
theorem pay_apH (i : grid0.Coords) (x0 x1 : Vec Ideal S520x2048 .f32) (x2 : Vec Ideal S1x2048 .f32) (r : Fin 520) (d : Fin 2048) :
    out0_3 i x0 x1 x2 (ix2 r d) = x0 (ix2 r d) + x1 (ix2 r d) := by
  have hz2 : (![0, 0] : Fin 2 → Nat) = fun _ => 0 := funext fun a => by fin_cases a <;> rfl
  unfold out0_3
  rw [View.canon_unit_zero hz2]
  simp only [View.ld_unit_zero (S := S520x2048) hz2]
  pointwise [k0_pay2]

theorem block_elH (c : Dev nD) (t : Fin cfg0.N) (r : Fin 520) (q : Fin 2048) (p : Fin 8320) (d : Fin 2048)
    (hp : p.val = win0_3.index t (0 : Fin 2) * 520 + r.val) (hd : d = q) :
    out0_3 (grid0.coords t) (iblk m c 0 t) (iblk m c 1 t) (iblk m c 2 t) (ix2 r q) = elH m c p d := by
  subst hd
  obtain ⟨-, -, -, -, -, h3, -⟩ := idx_facts t
  refine (pay_apH _ _ _ _ r d).trans ?_
  exact congrArg₂ (fun a b : EReal => a + b) (ib0 m c t r d p (by rw [hp, h3])) (ib1 m c t r d p (by rw [hp, h3]))

theorem flushed_eq (c : Dev nD) (t : Fin cfg0.N) : (dats m 0 c).flushed 4 t = ((cfg0.win 4).blk t).view.read (Elt Ideal) (G m c) := by
  rw [flushed4]
  funext (y : S520x2048.Idx)
  obtain ⟨-, -, -, -, -, -, -, -, -, e1⟩ := idx_facts t
  have hb0 : (((cfg0.win 4).blk t).view.emb y (0 : Fin 2)).val = win0_4.index t (0 : Fin 2) * 520 + 1 * (y (0 : Fin 2)).val := rfl
  have hb1 : (((cfg0.win 4).blk t).view.emb y (1 : Fin 2)).val = win0_4.index t (1 : Fin 2) * 2048 + 1 * (y (1 : Fin 2)).val := rfl
  have hy : (ix2 ⟨(y (0 : Fin 2)).val, (y (0 : Fin 2)).isLt⟩ ⟨(y (1 : Fin 2)).val, (y (1 : Fin 2)).isLt⟩ : S520x2048.Idx) = y := by
    funext a
    match a with
    | ⟨0, _⟩ => rfl
    | ⟨1, _⟩ => rfl
  refine (congrArg (out0_4 (grid0.coords t) (iblk m c 0 t) (iblk m c 1 t) (iblk m c 2 t)) hy.symm).trans ?_
  exact block_el m c t _ _ _ _ (by rw [hb0, Nat.one_mul]) (Fin.ext (by rw [hb1]; show _ = (y (1 : Fin 2)).val; omega))

theorem cover (i : S8320x2048.Idx) : ∃ t : Fin cfg0.N, (cfg0.win 4).flush t = true ∧ i ∈ ((cfg0.win 4).blk t).view.set := by
  have h0 : (i (0 : Fin 2)).val < 8320 := (i (0 : Fin 2)).isLt
  have h1 : (i (1 : Fin 2)).val < 2048 := (i (1 : Fin 2)).isLt
  obtain ⟨t, hf, ht⟩ := idx_onto ⟨(i (0 : Fin 2)).val / 520, by omega⟩
  have q0 : win0_4.index t (0 : Fin 2) = (i (0 : Fin 2)).val / 520 := congrFun ht 0
  have q1 : win0_4.index t (1 : Fin 2) = 0 := congrFun ht 1
  refine ⟨t, hf, ?_⟩
  refine (ValueKit.mem_set_slice_whole_iff main_v1_1 (win0_4.rect t) i (Rect.mem_set_unit (s := S8320x2048))).2 ?_
  intro (a : Fin 2)
  match a with
  | ⟨0, _⟩ => show win0_4.index t (0 : Fin 2) * 520 ≤ (i (0 : Fin 2)).val ∧ (i (0 : Fin 2)).val < win0_4.index t (0 : Fin 2) * 520 + 520; omega
  | ⟨1, _⟩ => show win0_4.index t (1 : Fin 2) * 2048 ≤ (i (1 : Fin 2)).val ∧ (i (1 : Fin 2)).val < win0_4.index t (1 : Fin 2) * 2048 + 2048; omega

theorem final (c : Dev nD) : (dats m 0 c).arrAt 4 cfg0.N = G m c :=
  (dats m 0 c).arrAt_eq_of_cover 4 (G m c) (fun t _ => flushed_eq m c t) cover

theorem flushed_eqH (c : Dev nD) (t : Fin cfg0.N) : (dats m 0 c).flushed 3 t = ((cfg0.win 3).blk t).view.read (Elt Ideal) (GH m c) := by
  rw [flushed3]
  funext (y : S520x2048.Idx)
  obtain ⟨-, -, -, -, -, -, e1, -⟩ := idx_facts t
  have hb0 : (((cfg0.win 3).blk t).view.emb y (0 : Fin 2)).val = win0_3.index t (0 : Fin 2) * 520 + 1 * (y (0 : Fin 2)).val := rfl
  have hb1 : (((cfg0.win 3).blk t).view.emb y (1 : Fin 2)).val = win0_3.index t (1 : Fin 2) * 2048 + 1 * (y (1 : Fin 2)).val := rfl
  have hy : (ix2 ⟨(y (0 : Fin 2)).val, (y (0 : Fin 2)).isLt⟩ ⟨(y (1 : Fin 2)).val, (y (1 : Fin 2)).isLt⟩ : S520x2048.Idx) = y := by
    funext a
    match a with
    | ⟨0, _⟩ => rfl
    | ⟨1, _⟩ => rfl
  refine (congrArg (out0_3 (grid0.coords t) (iblk m c 0 t) (iblk m c 1 t) (iblk m c 2 t)) hy.symm).trans ?_
  exact block_elH m c t _ _ _ _ (by rw [hb0, Nat.one_mul]) (Fin.ext (by rw [hb1]; show _ = (y (1 : Fin 2)).val; omega))

theorem coverH (i : S8320x2048.Idx) : ∃ t : Fin cfg0.N, (cfg0.win 3).flush t = true ∧ i ∈ ((cfg0.win 3).blk t).view.set := by
  have h0 : (i (0 : Fin 2)).val < 8320 := (i (0 : Fin 2)).isLt
  have h1 : (i (1 : Fin 2)).val < 2048 := (i (1 : Fin 2)).isLt
  obtain ⟨t, hf, ht⟩ := idx_ontoH ⟨(i (0 : Fin 2)).val / 520, by omega⟩
  have q0 : win0_3.index t (0 : Fin 2) = (i (0 : Fin 2)).val / 520 := congrFun ht 0
  have q1 : win0_3.index t (1 : Fin 2) = 0 := congrFun ht 1
  refine ⟨t, hf, ?_⟩
  refine (ValueKit.mem_set_slice_whole_iff main_v1_0 (win0_3.rect t) i (Rect.mem_set_unit (s := S8320x2048))).2 ?_
  intro (a : Fin 2)
  match a with
  | ⟨0, _⟩ => show win0_3.index t (0 : Fin 2) * 520 ≤ (i (0 : Fin 2)).val ∧ (i (0 : Fin 2)).val < win0_3.index t (0 : Fin 2) * 520 + 520; omega
  | ⟨1, _⟩ => show win0_3.index t (1 : Fin 2) * 2048 ≤ (i (1 : Fin 2)).val ∧ (i (1 : Fin 2)).val < win0_3.index t (1 : Fin 2) * 2048 + 2048; omega

theorem finalH (c : Dev nD) : (dats m 0 c).arrAt 3 cfg0.N = GH m c :=
  (dats m 0 c).arrAt_eq_of_cover 3 (GH m c) (fun t _ => flushed_eqH m c t) coverH

end Cert.Kernel10Ideal.Norm

namespace Cert.Reference10Ideal.Norm

open Cert.Reference10Ideal Cert.Reference10Ideal.Gen Cert.Reference10Ideal.Read Cert.RowMask Idealize.ShloMosaic

/-- An element of the reference's normalised rows. -/
theorem ref_ap (x0 x1 : FVec Ideal S8320x2048 .f32) (x2 : FVec Ideal S2048 .f32) (p : Fin 8320) (d : Fin 2048) :
    val_main_v20 (F := Ideal) x0 x1 x2 (ix2 p d) = if 48 ≤ p.val % 4160 then rms (fun k => x0 (ix2 p k) + x1 (ix2 p k)) (x2 (ix1 d)) d else 0 := by
  unfold rms
  pointwise [val_main_v20, val_main_v19, val_main_call0_v2, val_main_call0_v1, val_main_call0_v0, val_main_cst_3, val_main_v18, val_main_v17, val_main_c_2, val_main_v16, val_main_v15, val_main_c, val_main_v14, val_main_v13, val_main_v12, val_main_v11, val_main_v10, val_main_v9, val_main_v8, val_main_v7, val_main_v6, val_main_cst_1, val_main_v5, val_main_v4, val_main_cst_0, val_main_v3, val_main_v2, val_main_cst, val_main_v1, val_main_v0]
  rw [host_48 p]
  exact (select_ite _ _ _).trans (congrArg (fun z : EReal => if 48 ≤ p.val % 4160 then _ else z) (by show constant (F := Ideal) S_ .f32 0x00000000#32 ix0 = (0 : EReal); pointwise))

end Cert.Reference10Ideal.Norm

namespace Cert.Proof

open Idealize.ShloMosaic Idealize.ShloMosaic.TcCoe Idealize.SL.Sem

theorem algebraic10 : Cert.algebraic_Kernel10Ideal_Reference10Ideal (hKernel10Ideal := Cert.Kernel10Ideal.Gen.facts)
    (hReference10Ideal := Cert.Reference10Ideal.Gen.facts) := by
  intro m g m' g' _ hargs
  refine ⟨fun c => Cert.Kernel10Ideal.Norm.GH m c, fun c => Cert.Kernel10Ideal.Norm.G m c, ?_, ?_⟩
  · exact (θ_run (Cert.Kernel10Ideal.defs (F := Ideal)) _ _).mono (fun r h c => ⟨(h c).1.trans (Cert.Kernel10Ideal.Norm.finalH m c), (h c).2.1.trans (Cert.Kernel10Ideal.Norm.final m c), (h c).2.2⟩)
      (Cert.Kernel10Ideal.Value.run_blocks (F := Ideal) m g)
  · refine (θ_run (Cert.Reference10Ideal.defs (F := Ideal)) _ _).mono (fun r h c => ⟨?_, ?_, (h c).2.2⟩) (Cert.Reference10Ideal.Value.run (F := Ideal) m' g')
    · obtain ⟨a0, a1, a2⟩ := hargs c
      refine (h c).1.trans ?_
      rw [a0, a1]
      funext (i : Cert.Reference10Ideal.S8320x2048.Idx)
      have hi : (ix2 ⟨(i (0 : Fin 2)).val, (i (0 : Fin 2)).isLt⟩ ⟨(i (1 : Fin 2)).val, (i (1 : Fin 2)).isLt⟩ : Cert.Reference10Ideal.S8320x2048.Idx) = i := by
        funext a
        match a with
        | ⟨0, _⟩ => rfl
        | ⟨1, _⟩ => rfl
      exact congrArg₂ (fun a b : EReal => a + b) (congrArg (Cert.Kernel10Ideal.Norm.aX m c) hi.symm) (congrArg (Cert.Kernel10Ideal.Norm.aY m c) hi.symm)
    obtain ⟨a0, a1, a2⟩ := hargs c
    refine (h c).2.1.trans ?_
    rw [a0, a1, a2]
    funext (i : Cert.Reference10Ideal.S8320x2048.Idx)
    refine Eq.trans ?_ (Cert.Reference10Ideal.Norm.ref_ap _ _ _ ⟨(i (0 : Fin 2)).val, (i (0 : Fin 2)).isLt⟩ ⟨(i (1 : Fin 2)).val, (i (1 : Fin 2)).isLt⟩)
    refine (congrFun (Cert.Reference10Ideal.Read.val_main_v20_eq (F := Ideal) _ _ _) i).trans (congrArg _ ?_)
    funext a
    match a with
    | ⟨0, _⟩ => rfl
    | ⟨1, _⟩ => rfl

end Cert.Proof

end
-- ==== Proof.NormFfn.lean ====
/- The norm before a dense feed-forward: the kernel's result is the normalised row, element by element, and so is the reference's. -/
module

public import proofs.«01_k».proof.Defs
public import proofs.«01_k».proof.Proof.Gen.Kernel11Ideal.Value
public import proofs.«01_k».proof.Proof.Gen.Reference11Ideal.Read
public import Idealize.ShloMosaic.Lib.Pointwise
public import Idealize.ShloMosaic.Lib.Pipeline.ValueKit.Geometry
public import proofs.«01_k».proof.Proof.RowMask

@[expose] public section

set_option maxRecDepth 16384

noncomputable section

namespace Cert.Kernel11Ideal.Norm

open Cert.Kernel11Ideal Cert.Kernel11Ideal.Gen Cert.Kernel11Ideal.Value Cert.RowMask
open Idealize.ShloMosaic Idealize.ShloMosaic.TcCoe Idealize.SL.Sem
open Idealize.ShloMosaic.Pipeline (Dat)

variable (m : (ℓ : Loc nD τ sig) → Buf (Elt Ideal) ℓ)

abbrev aX (c : Dev nD) : Vec Ideal S8320x2048 .f32 := m ((c.tc : Thread nD τ).loc main_arg0)
abbrev aW (c : Dev nD) : Vec Ideal S2048 .f32 := m ((c.tc : Thread nD τ).loc main_arg1)

/-- An element of the normalised rows. -/
def el (c : Dev nD) (p : Fin 8320) (d : Fin 2048) : EReal :=
  rms (fun k => aX m c (ix2 p k)) (aW m c (ix1 d)) d

/-- The array of the normalised rows. -/
def G (c : Dev nD) : Buf (Elt Ideal) ((c : Thread nD τ).loc main_v1) := fun i =>
  el m c ⟨(i (0 : Fin 2)).val, (i (0 : Fin 2)).isLt⟩ ⟨(i (1 : Fin 2)).val, (i (1 : Fin 2)).isLt⟩

/-- One block of the normalised rows, at an element, in the input blocks. -/
theorem pay_ap (i : grid0.Coords) (x0 : Vec Ideal S520x2048 .f32) (x1 : Vec Ideal S1x2048 .f32) (r : Fin 520) (d : Fin 2048) :
    out0_2 i x0 x1 (ix2 r d) = rms (fun k => x0 (ix2 r k)) (x1 (ix2 0 d)) d := by
  have hz2 : (![0, 0] : Fin 2 → Nat) = fun _ => 0 := funext fun a => by fin_cases a <;> rfl
  have hi : (i 0).val < 16 := (i 0).isLt
  have hr : r.val < 520 := r.isLt
  unfold out0_2 rms
  rw [View.canon_unit_zero hz2]
  simp only [View.ld_unit_zero (S := S520x2048) hz2, View.ld_unit_zero (S := S1x2048) hz2]
  pointwise [k0_pay1]
  show Scalar.select (mask 0#32 (IntOp.addi (Scalar.muli (BitVec.ofNat 32 (i 0).val) 520#32) (BitVec.ofNat 32 r.val))) _ _ = _
  rw [row_word, mask_0 ⟨(i 0).val * 520 + r.val, by omega⟩]
  rfl

/-- The scale as the region finds it: the argument with a unit axis. -/
theorem V_v0 (c : Dev nD) : V m c main_v0 = shapeCast S1x2048 (aW m c) shapeCasts_S2048_S1x2048 := by
  show StableHlo.after hostOps0 (fun b => m (c, b)) (Proc.devRef .tc main_v0) = _
  after_results <;> rfl

theorem cast_ap (w : Vec Ideal S2048 .f32) (d : Fin 2048) : shapeCast S1x2048 w shapeCasts_S2048_S1x2048 (ix2 0 d) = w (ix1 d) := by
  pointwise

/-- Each window's block index, decided over the points. -/
theorem idx_facts : ∀ t : Fin cfg0.N, (grid0.coords t 0).val = win0_2.index t (0 : Fin 2) ∧ win0_0.index t (0 : Fin 2) = win0_2.index t (0 : Fin 2) ∧ win0_0.index t (1 : Fin 2) = 0 ∧ win0_1.index t (0 : Fin 2) = 0 ∧ win0_1.index t (1 : Fin 2) = 0 ∧ win0_2.index t (1 : Fin 2) = 0 :=
  (by decide +kernel : ∀ t : Fin grid0.N, _)

theorem idx_onto : ∀ (q0 : Fin 16), ∃ t : Fin cfg0.N, (cfg0.win 2).flush t = true ∧ win0_2.index t = ![q0.val, 0] :=
  (by decide +kernel : ∀ (q0 : Fin 16), ∃ t : Fin grid0.N, win0_2.flush t = true ∧ win0_2.index t = ![q0.val, 0])

theorem ib0 (c : Dev nD) (t : Fin cfg0.N) (r : Fin 520) (k : Fin 2048) (p : Fin 8320)
    (hp : p.val = win0_2.index t (0 : Fin 2) * 520 + r.val) : iblk m c 0 t (ix2 r k) = aX m c (ix2 p k) := by
  obtain ⟨-, e0, e1, -⟩ := idx_facts t
  refine (congrArg (V m c main_arg0) (?_ : ((cfg0.win 0).blk t).view.emb (ix2 r k) = ix2 p k)).trans (congrFun (V_main_arg0 m c) (ix2 p k))
  funext (a : Fin 2)
  match a with
  | ⟨0, _⟩ => exact Fin.ext (by show win0_0.index t (0 : Fin 2) * 520 + 1 * r.val = p.val; omega)
  | ⟨1, _⟩ => exact Fin.ext (by show win0_0.index t (1 : Fin 2) * 2048 + 1 * k.val = k.val; omega)

theorem ibW (c : Dev nD) (t : Fin cfg0.N) (d : Fin 2048) : iblk m c 1 t (ix2 0 d) = aW m c (ix1 d) := by
  obtain ⟨-, -, -, e0, e1, -⟩ := idx_facts t
  refine (congrArg (V m c main_v0) (?_ : ((cfg0.win 1).blk t).view.emb (ix2 0 d) = ix2 0 d)).trans ((congrFun (V_v0 m c) (ix2 0 d)).trans (cast_ap (aW m c) d))
  funext (a : Fin 2)
  match a with
  | ⟨0, _⟩ => exact Fin.ext (by show win0_1.index t (0 : Fin 2) * 1 + 1 * 0 = 0; omega)
  | ⟨1, _⟩ => exact Fin.ext (by show win0_1.index t (1 : Fin 2) * 2048 + 1 * d.val = d.val; omega)

theorem block_el (c : Dev nD) (t : Fin cfg0.N) (r : Fin 520) (q : Fin 2048) (p : Fin 8320) (d : Fin 2048)
    (hp : p.val = win0_2.index t (0 : Fin 2) * 520 + r.val) (hd : d = q) :
    out0_2 (grid0.coords t) (iblk m c 0 t) (iblk m c 1 t) (ix2 r q) = el m c p d := by
  subst hd
  obtain ⟨g0, -⟩ := idx_facts t
  refine (pay_ap _ _ _ r d).trans ?_
  unfold el
  refine congrArg₂ (fun h w => rms h w d) (funext fun k => ?_) (ibW m c t d)
  exact ib0 m c t r k p hp

theorem flushed_eq (c : Dev nD) (t : Fin cfg0.N) : (dats m 0 c).flushed 2 t = ((cfg0.win 2).blk t).view.read (Elt Ideal) (G m c) := by
  rw [flushed2]
  funext (y : S520x2048.Idx)
  obtain ⟨-, -, -, -, -, e1⟩ := idx_facts t
  have hb0 : (((cfg0.win 2).blk t).view.emb y (0 : Fin 2)).val = win0_2.index t (0 : Fin 2) * 520 + 1 * (y (0 : Fin 2)).val := rfl
  have hb1 : (((cfg0.win 2).blk t).view.emb y (1 : Fin 2)).val = win0_2.index t (1 : Fin 2) * 2048 + 1 * (y (1 : Fin 2)).val := rfl
  have hy : (ix2 ⟨(y (0 : Fin 2)).val, (y (0 : Fin 2)).isLt⟩ ⟨(y (1 : Fin 2)).val, (y (1 : Fin 2)).isLt⟩ : S520x2048.Idx) = y := by
    funext a
    match a with
    | ⟨0, _⟩ => rfl
    | ⟨1, _⟩ => rfl
  refine (congrArg (out0_2 (grid0.coords t) (iblk m c 0 t) (iblk m c 1 t)) hy.symm).trans ?_
  exact block_el m c t _ _ _ _ (by rw [hb0, Nat.one_mul]) (Fin.ext (by rw [hb1]; show _ = (y (1 : Fin 2)).val; omega))

theorem cover (i : S8320x2048.Idx) : ∃ t : Fin cfg0.N, (cfg0.win 2).flush t = true ∧ i ∈ ((cfg0.win 2).blk t).view.set := by
  have h0 : (i (0 : Fin 2)).val < 8320 := (i (0 : Fin 2)).isLt
  have h1 : (i (1 : Fin 2)).val < 2048 := (i (1 : Fin 2)).isLt
  obtain ⟨t, hf, ht⟩ := idx_onto ⟨(i (0 : Fin 2)).val / 520, by omega⟩
  have q0 : win0_2.index t (0 : Fin 2) = (i (0 : Fin 2)).val / 520 := congrFun ht 0
  have q1 : win0_2.index t (1 : Fin 2) = 0 := congrFun ht 1
  refine ⟨t, hf, ?_⟩
  refine (ValueKit.mem_set_slice_whole_iff main_v1 (win0_2.rect t) i (Rect.mem_set_unit (s := S8320x2048))).2 ?_
  intro (a : Fin 2)
  match a with
  | ⟨0, _⟩ => show win0_2.index t (0 : Fin 2) * 520 ≤ (i (0 : Fin 2)).val ∧ (i (0 : Fin 2)).val < win0_2.index t (0 : Fin 2) * 520 + 520; omega
  | ⟨1, _⟩ => show win0_2.index t (1 : Fin 2) * 2048 ≤ (i (1 : Fin 2)).val ∧ (i (1 : Fin 2)).val < win0_2.index t (1 : Fin 2) * 2048 + 2048; omega

theorem final (c : Dev nD) : (dats m 0 c).arrAt 2 cfg0.N = G m c :=
  (dats m 0 c).arrAt_eq_of_cover 2 (G m c) (fun t _ => flushed_eq m c t) cover

end Cert.Kernel11Ideal.Norm

namespace Cert.Reference11Ideal.Norm

open Cert.Reference11Ideal Cert.Reference11Ideal.Gen Cert.Reference11Ideal.Read Cert.RowMask Idealize.ShloMosaic

/-- An element of the reference's normalised rows. -/
theorem ref_ap (x0 : FVec Ideal S8320x2048 .f32) (x1 : FVec Ideal S2048 .f32) (p : Fin 8320) (d : Fin 2048) :
    val_main_v13 (F := Ideal) x0 x1 (ix2 p d) = rms (fun k => x0 (ix2 p k)) (x1 (ix1 d)) d := by
  unfold rms
  pointwise [val_main_v13, val_main_v12, val_main_v11, val_main_v10, val_main_v9, val_main_v8, val_main_v7, val_main_v6, val_main_v5, val_main_cst_1, val_main_v4, val_main_v3, val_main_cst_0, val_main_v2, val_main_v1, val_main_cst, val_main_v0]

end Cert.Reference11Ideal.Norm

namespace Cert.Proof

open Idealize.ShloMosaic Idealize.ShloMosaic.TcCoe Idealize.SL.Sem

theorem algebraic11 : Cert.algebraic_Kernel11Ideal_Reference11Ideal (hKernel11Ideal := Cert.Kernel11Ideal.Gen.facts)
    (hReference11Ideal := Cert.Reference11Ideal.Gen.facts) := by
  intro m g m' g' _ hargs
  refine ⟨fun c => Cert.Kernel11Ideal.Norm.G m c, ?_, ?_⟩
  · exact (θ_run (Cert.Kernel11Ideal.defs (F := Ideal)) _ _).mono (fun r h c => ⟨(h c).1.trans (Cert.Kernel11Ideal.Norm.final m c), (h c).2⟩)
      (Cert.Kernel11Ideal.Value.run_blocks (F := Ideal) m g)
  · refine (θ_run (Cert.Reference11Ideal.defs (F := Ideal)) _ _).mono (fun r h c => ⟨?_, (h c).2⟩) (Cert.Reference11Ideal.Value.run (F := Ideal) m' g')
    obtain ⟨a0, a1⟩ := hargs c
    refine (h c).1.trans ?_
    rw [a0, a1]
    funext (i : Cert.Reference11Ideal.S8320x2048.Idx)
    refine Eq.trans ?_ (Cert.Reference11Ideal.Norm.ref_ap _ _ ⟨(i (0 : Fin 2)).val, (i (0 : Fin 2)).isLt⟩ ⟨(i (1 : Fin 2)).val, (i (1 : Fin 2)).isLt⟩)
    refine (congrFun (Cert.Reference11Ideal.Read.val_main_v13_eq (F := Ideal) _ _) i).trans (congrArg _ ?_)
    funext a
    match a with
    | ⟨0, _⟩ => rfl
    | ⟨1, _⟩ => rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.On_in_segment
public import proofs.«01_k».proof.Proof.Gen.Pre_counts_ok
public import Idealize.ShloMosaic.Adequacy
public import Idealize.ShloMosaic.Init
public import proofs.«01_k».proof.Proof.Frames
public import proofs.«01_k».proof.Proof.Algebra
public import proofs.«01_k».proof.Proof.FramesRest
public import proofs.«01_k».proof.Proof.Dense
public import proofs.«01_k».proof.Proof.InQkvz
public import proofs.«01_k».proof.Proof.InTail
public import proofs.«01_k».proof.Proof.FinalNorm
public import proofs.«01_k».proof.Proof.Branches
public import proofs.«01_k».proof.Proof.Merge
public import proofs.«01_k».proof.Proof.InBa
public import proofs.«01_k».proof.Proof.NormFirst
public import proofs.«01_k».proof.Proof.NormLater
public import proofs.«01_k».proof.Proof.NormFfn

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Pre_counts_ok.Gen.facts, Cert.On_in_segment.Gen.facts,
  frame_kernel, frame_ideal, frame_ideal_pre, frame_ref, frame_ref_pre,
  frame_kernel2, frame_ideal2, frame_ref2,
  frame_kernel3, frame_ideal3, frame_ref3,
  frame_kernel4, frame_ideal4, frame_ref4,
  frame_kernel5, frame_ideal5, frame_ref5,
  frame_kernel6, frame_ideal6, frame_ref6,
  frame_kernel7, frame_ideal7, frame_ref7,
  frame_kernel8, frame_ideal8, frame_ref8,
  frame_kernel9, frame_ideal9, frame_ref9,
  frame_kernel10, frame_ideal10, frame_ref10,
  frame_kernel11, frame_ideal11, frame_ref11,
  trivial, algebraic,
  trivial, algebraic2,
  trivial, algebraic3,
  trivial, algebraic4,
  trivial, algebraic5,
  trivial, algebraic6,
  trivial, algebraic7,
  trivial, algebraic8,
  trivial, algebraic9,
  trivial, algebraic10,
  trivial, algebraic11⟩

end Cert.Proof

end
